-- ==== Defs.lean ====
def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_finite_inputs [hPre_finite_inputs : Cert.Pre_finite_inputs.Facts] (m : (ℓ : Loc Cert.GlaIdeal.nD Cert.GlaIdeal.τ Cert.GlaIdeal.sig) → Buf (Elt Ideal) ℓ) : Prop :=
  ∀ c : Dev Cert.GlaIdeal.nD,
    (Cert.Pre_finite_inputs.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3))) = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_finite_inputs [hPre_finite_inputs : Cert.Pre_finite_inputs.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_finite_inputs.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3))) = (fun _ => 1#1)

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaIdeal_pre_finite_inputs [hGlaIdeal : Cert.GlaIdeal.Facts] [hPre_finite_inputs : Cert.Pre_finite_inputs.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_finite_inputs m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3))
      ∧ r.2.sem = fun _ => 0)

def quiescent_GlaRefIdeal_pre_finite_inputs [hGlaRefIdeal : Cert.GlaRefIdeal.Facts] [hPre_finite_inputs : Cert.Pre_finite_inputs.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_finite_inputs m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
      ∧ r.2.sem = fun _ => 0)

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)) →
    ∃ (v0 : (c : Dev Cert.LruIdeal.nD) → Buf (Elt Ideal) ((c.tc : Thread Cert.LruIdeal.nD Cert.LruIdeal.τ).loc Cert.LruIdeal.main_v30)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v30) = v0 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v96) = v0 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v35_0)) (v1 : (c : Dev Cert.InProjIdeal.nD) → Buf (Elt Ideal) ((c.tc : Thread Cert.InProjIdeal.nD Cert.InProjIdeal.τ).loc Cert.InProjIdeal.main_v35_1)) (v2 : (c : Dev Cert.InProjIdeal.nD) → Buf (Elt Ideal) ((c.tc : Thread Cert.InProjIdeal.nD Cert.InProjIdeal.τ).loc Cert.InProjIdeal.main_v35_2)) (v3 : (c : Dev Cert.InProjIdeal.nD) → Buf (Elt Ideal) ((c.tc : Thread Cert.InProjIdeal.nD Cert.InProjIdeal.τ).loc Cert.InProjIdeal.main_v35_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v35_0) = v0 c
          ∧ r.2.mem ((c.tc : Thread Cert.InProjIdeal.nD Cert.InProjIdeal.τ).loc Cert.InProjIdeal.main_v35_1) = v1 c
          ∧ r.2.mem ((c.tc : Thread Cert.InProjIdeal.nD Cert.InProjIdeal.τ).loc Cert.InProjIdeal.main_v35_2) = v2 c
          ∧ r.2.mem ((c.tc : Thread Cert.InProjIdeal.nD Cert.InProjIdeal.τ).loc Cert.InProjIdeal.main_v35_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v19) = v0 c
          ∧ r.2.mem ((c.tc : Thread Cert.InProjRefIdeal.nD Cert.InProjRefIdeal.τ).loc Cert.InProjRefIdeal.main_v22) = v1 c
          ∧ r.2.mem ((c.tc : Thread Cert.InProjRefIdeal.nD Cert.InProjRefIdeal.τ).loc Cert.InProjRefIdeal.main_v23) = v2 c
          ∧ r.2.mem ((c.tc : Thread Cert.InProjRefIdeal.nD Cert.InProjRefIdeal.τ).loc Cert.InProjRefIdeal.main_v26) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_v20) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_Gla_GlaIdeal : Prop :=
  True

def algebraic_GlaIdeal_GlaRefIdeal_pre_finite_inputs [hGlaIdeal : Cert.GlaIdeal.Facts] [hGlaRefIdeal : Cert.GlaRefIdeal.Facts] [hPre_finite_inputs : Cert.Pre_finite_inputs.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_finite_inputs m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)) →
    ∃ (v0 : (c : Dev Cert.GlaIdeal.nD) → Buf (Elt Ideal) ((c.tc : Thread Cert.GlaIdeal.nD Cert.GlaIdeal.τ).loc Cert.GlaIdeal.main_v73)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v73) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v55) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)) →
    ∃ (v0 : (c : Dev Cert.RouteIdeal.nD) → Buf (Elt Ideal) ((c.tc : Thread Cert.RouteIdeal.nD Cert.RouteIdeal.τ).loc Cert.RouteIdeal.main_v3_3)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v3_3) = v0 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v13) = v0 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2))

def Claim : Prop :=
  ∃ (hLru : Cert.Lru.Facts) (hLruIdeal : Cert.LruIdeal.Facts) (hLruRefIdeal : Cert.LruRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hGla : Cert.Gla.Facts) (hGlaIdeal : Cert.GlaIdeal.Facts) (hGlaRefIdeal : Cert.GlaRefIdeal.Facts) (hRoute : Cert.Route.Facts) (hRouteIdeal : Cert.RouteIdeal.Facts) (hRouteRefIdeal : Cert.RouteRefIdeal.Facts) (hPre_finite_inputs : Cert.Pre_finite_inputs.Facts),
    quiescent_Lru (hLru := hLru)
    ∧ quiescent_LruIdeal (hLruIdeal := hLruIdeal)
    ∧ quiescent_LruRefIdeal (hLruRefIdeal := hLruRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Gla (hGla := hGla)
    ∧ quiescent_GlaIdeal (hGlaIdeal := hGlaIdeal)
    ∧ quiescent_GlaIdeal_pre_finite_inputs (hGlaIdeal := hGlaIdeal) (hPre_finite_inputs := hPre_finite_inputs)
    ∧ quiescent_GlaRefIdeal (hGlaRefIdeal := hGlaRefIdeal)
    ∧ quiescent_GlaRefIdeal_pre_finite_inputs (hGlaRefIdeal := hGlaRefIdeal) (hPre_finite_inputs := hPre_finite_inputs)
    ∧ quiescent_Route (hRoute := hRoute)
    ∧ quiescent_RouteIdeal (hRouteIdeal := hRouteIdeal)
    ∧ quiescent_RouteRefIdeal (hRouteRefIdeal := hRouteRefIdeal)
    ∧ preserves_Lru_LruIdeal
    ∧ algebraic_LruIdeal_LruRefIdeal (hLruIdeal := hLruIdeal) (hLruRefIdeal := hLruRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Gla_GlaIdeal
    ∧ algebraic_GlaIdeal_GlaRefIdeal_pre_finite_inputs (hGlaIdeal := hGlaIdeal) (hGlaRefIdeal := hGlaRefIdeal) (hPre_finite_inputs := hPre_finite_inputs)
    ∧ preserves_Route_RouteIdeal
    ∧ algebraic_RouteIdeal_RouteRefIdeal (hRouteIdeal := hRouteIdeal) (hRouteRefIdeal := hRouteRefIdeal)
-- ==== Pre_finite_inputs.lean ====
abbrev S4x4096x1664 : Shape := ⟨3, ![4, 4096, 1664]⟩
abbrev S16x256 : Shape := ⟨2, ![16, 256]⟩
abbrev S256 : Shape := ⟨1, ![256]⟩
abbrev S128 : Shape := ⟨1, ![128]⟩
abbrev S4x4096x1024 : Shape := ⟨3, ![4, 4096, 1024]⟩
abbrev S_ : Shape := ⟨0, ![]⟩

class Facts : Prop where
  slices_S4x4096x1664_S4x4096x1024_0_0_0 : S4x4096x1664.Slices ![0, 0, 0] S4x4096x1024
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel

variable [Facts]

def fn {F : FTy → Type} [FloatOps F] (main_arg0 : FVec F S4x4096x1664 .f32) (main_arg1 : FVec F S16x256 .f32) (main_arg2 : FVec F S256 .f32) (main_arg3 : FVec F S128 .f32) : IVec S_ 1 :=
  let main_v0 : FVec F S4x4096x1024 .f32 := (extractStridedSlice S4x4096x1024 ![0, 0, 0] · slices_S4x4096x1664_S4x4096x1024_0_0_0) main_arg0
  let main_v1 : FVec F S4x4096x1024 .f32 := Host.absf main_v0
  let main_cst : FVec F S_ .f32 := constant S_ .f32 0x7F800000#32
  let main_v2 : FVec F S4x4096x1024 .f32 := broadcastInDim S4x4096x1024 ![] bcast_S_S4x4096x1024 main_cst
  let main_v3 : IVec S4x4096x1024 1 := cmpf .olt main_v1 main_v2
  let main_c : IVec S_ 1 := constantI S_ 1 1#1
  let main_v4 : IVec S_ 1 := (fun x v => Host.reduce IntOp.andi x v reducesTo_S4x4096x1024_S_d0_1_2 h_S_) main_v3 main_c
  main_v4
-- ==== Lru.lean ====
abbrev S16384x1024 : Shape := ⟨2, ![16384, 1024]⟩
abbrev S4x512 : Shape := ⟨2, ![4, 512]⟩
abbrev S512 : Shape := ⟨1, ![512]⟩
abbrev S8x64x64 : Shape := ⟨3, ![8, 64, 64]⟩
abbrev S1x512 : Shape := ⟨2, ![1, 512]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S16384x512 : Shape := ⟨2, ![16384, 512]⟩
abbrev S256x1024 : Shape := ⟨2, ![256, 1024]⟩
abbrev S256x512 : Shape := ⟨2, ![256, 512]⟩
abbrev S8x512 : Shape := ⟨2, ![8, 512]⟩
abbrev S8x1 : Shape := ⟨2, ![8, 1]⟩
abbrev S248x512 : Shape := ⟨2, ![248, 512]⟩
abbrev S256x1 : Shape := ⟨2, ![256, 1]⟩

abbrev nBuf : Space → Nat
  | .hbm => 41
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S4x512, .f32⟩
  | .hbm, ⟨2, _⟩ => ⟨S512, .f32⟩
  | .hbm, ⟨3, _⟩ => ⟨S8x64x64, .f32⟩
  | .hbm, ⟨4, _⟩ => ⟨S512, .f32⟩
  | .hbm, ⟨5, _⟩ => ⟨S8x64x64, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S8x8, .i32⟩
  | .hbm, ⟨10, _⟩ => ⟨S8x8, .i32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S8x8, .f32⟩
  | .hbm, ⟨16, _⟩ => ⟨S8x1x8x1, .f32⟩
  | .hbm, ⟨17, _⟩ => ⟨S8x64x1x64, .f32⟩
  | .hbm, ⟨18, _⟩ => ⟨S8x64x8x64, .f32⟩
  | .hbm, ⟨19, _⟩ => ⟨S8x64x8x64, .f32⟩
  | .hbm, ⟨20, _⟩ => ⟨S8x64x8x64, .f32⟩
  | .hbm, ⟨21, _⟩ => ⟨S512x512, .f32⟩
  | .hbm, ⟨22, _⟩ => ⟨S512x512, .bf16⟩
  | .hbm, ⟨23, _⟩ => ⟨S1x512, .f32⟩
  | .hbm, ⟨24, _⟩ => ⟨S8x8, .i32⟩
  | .hbm, ⟨25, _⟩ => ⟨S8x8, .i32⟩
  | .hbm, ⟨26, _⟩ => ⟨S_, .i32⟩
  | .hbm, ⟨27, _⟩ => ⟨S8x8, .i32⟩
  | .hbm, ⟨28, _⟩ => ⟨S8x8, .i32⟩
  | .hbm, ⟨29, _⟩ => ⟨S8x8, .i1⟩
  | .hbm, ⟨30, _⟩ => ⟨S8x8, .f32⟩
  | .hbm, ⟨31, _⟩ => ⟨S8x1x8x1, .f32⟩
  | .hbm, ⟨32, _⟩ => ⟨S8x64x1x64, .f32⟩
  | .hbm, ⟨33, _⟩ => ⟨S8x64x8x64, .f32⟩
  | .hbm, ⟨34, _⟩ => ⟨S8x64x8x64, .f32⟩
  | .hbm, ⟨35, _⟩ => ⟨S8x64x8x64, .f32⟩
  | .hbm, ⟨36, _⟩ => ⟨S512x512, .f32⟩
  | .hbm, ⟨37, _⟩ => ⟨S512x512, .bf16⟩
  | .hbm, ⟨38, _⟩ => ⟨S1x512, .f32⟩
  | .hbm, ⟨39, _⟩ => ⟨S1x512, .f32⟩
  | .hbm, ⟨40, _⟩ => ⟨S16384x512, .bf16⟩
  | .local _ .vmem, ⟨0, _⟩ => ⟨S256x1024, .f32⟩
  | .local _ .vmem, ⟨1, _⟩ => ⟨S256x1024, .f32⟩
  | .local _ .vmem, ⟨2, _⟩ => ⟨S4x512, .f32⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S256x512, .bf16⟩
  | .local _ .vmem, ⟨10, _⟩ => ⟨S256x512, .bf16⟩
  | .local _ .vmem, ⟨11, _⟩ => ⟨S8x512, .f32⟩
  | .local _ .vmem, ⟨12, _⟩ => ⟨S1x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== LruRefIdeal.lean ====
abbrev S16384x1024 : Shape := ⟨2, ![16384, 1024]⟩
abbrev S4x512 : Shape := ⟨2, ![4, 512]⟩
abbrev S512 : Shape := ⟨1, ![512]⟩
abbrev S8x64x64 : Shape := ⟨3, ![8, 64, 64]⟩
abbrev S4x4096x1024 : Shape := ⟨3, ![4, 4096, 1024]⟩
abbrev S4x4096x512 : Shape := ⟨3, ![4, 4096, 512]⟩
abbrev S_ : Shape := ⟨0, ![]⟩
abbrev S4x4099x512 : Shape := ⟨3, ![4, 4099, 512]⟩
abbrev S1x512 : Shape := ⟨2, ![1, 512]⟩
abbrev S1x1x512 : Shape := ⟨3, ![1, 1, 512]⟩
abbrev S4x4096x8x64 : Shape := ⟨4, ![4, 4096, 8, 64]⟩
abbrev S8x64x4x4096 : Shape := ⟨4, ![8, 64, 4, 4096]⟩
abbrev S4096x4x512 : Shape := ⟨3, ![4096, 4, 512]⟩
abbrev S1x4x512 : Shape := ⟨3, ![1, 4, 512]⟩
abbrev S16384x512 : Shape := ⟨2, ![16384, 512]⟩

abbrev nBuf : Space → Nat
  | .hbm => 155
  | .vmem => 0
  | .smem => 0
  | _ => 0

abbrev hbmTy0_0 (i : Nat) : BufTy := match i % 128 with
  | 0 => ⟨S16384x1024, .f32⟩
  | 1 => ⟨S4x512, .f32⟩
  | 2 => ⟨S512, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S4x4096x1024, .f32⟩
  | 9 => ⟨S4x4096x512, .f32⟩
  | 10 => ⟨S_, .i32⟩
  | 11 => ⟨S_, .f32⟩
  | 12 => ⟨S4x4099x512, .f32⟩
  | 13 => ⟨S4x4096x512, .f32⟩
  | 14 => ⟨S1x512, .f32⟩
  | 15 => ⟨S512, .f32⟩
  | 16 => ⟨S1x1x512, .f32⟩
  | 17 => ⟨S4x4096x512, .f32⟩
  | 18 => ⟨S4x4096x512, .f32⟩
  | 19 => ⟨S4x4096x512, .f32⟩
  | 20 => ⟨S1x512, .f32⟩
  | 21 => ⟨S512, .f32⟩
  | 22 => ⟨S1x1x512, .f32⟩
  | 23 => ⟨S4x4096x512, .f32⟩
  | 24 => ⟨S4x4096x512, .f32⟩
  | 25 => ⟨S4x4096x512, .f32⟩
  | 26 => ⟨S4x4096x512, .f32⟩
  | 27 => ⟨S1x512, .f32⟩
  | 28 => ⟨S512, .f32⟩
  | 29 => ⟨S1x1x512, .f32⟩
  | 30 => ⟨S4x4096x512, .f32⟩
  | 31 => ⟨S4x4096x512, .f32⟩
  | 32 => ⟨S4x4096x512, .f32⟩
  | 33 => ⟨S4x4096x512, .f32⟩
  | 34 => ⟨S1x512, .f32⟩
  | 35 => ⟨S512, .f32⟩
  | 36 => ⟨S1x1x512, .f32⟩
  | 37 => ⟨S4x4096x512, .f32⟩
  | 38 => ⟨S4x4096x512, .f32⟩
  | 39 => ⟨S4x4096x512, .f32⟩
  | 40 => ⟨S1x1x512, .f32⟩
  | 41 => ⟨S4x4096x512, .f32⟩
  | 42 => ⟨S4x4096x512, .f32⟩
  | 43 => ⟨S4x4096x8x64, .f32⟩
  | 44 => ⟨S8x64x4x4096, .f32⟩
  | 45 => ⟨S4x4096x8x64, .f32⟩
  | 46 => ⟨S4x4096x512, .f32⟩
  | 47 => ⟨S1x1x512, .f32⟩
  | 48 => ⟨S4x4096x512, .f32⟩
  | 49 => ⟨S4x4096x512, .f32⟩
  | 50 => ⟨S4x4096x512, .f32⟩
  | 51 => ⟨S4x4096x512, .f32⟩
  | 52 => ⟨S_, .f32⟩
  | 53 => ⟨S4x4096x512, .f32⟩
  | 54 => ⟨S4x4096x512, .f32⟩
  | 55 => ⟨S_, .f32⟩
  | 56 => ⟨S4x4096x512, .f32⟩
  | 57 => ⟨S4x4096x512, .f32⟩
  | 58 => ⟨S8x64x4x4096, .f32⟩
  | 59 => ⟨S4x4096x8x64, .f32⟩
  | 60 => ⟨S4x4096x512, .f32⟩
  | 61 => ⟨S1x1x512, .f32⟩
  | 62 => ⟨S4x4096x512, .f32⟩
  | 63 => ⟨S4x4096x512, .f32⟩
  | 64 => ⟨S4x4096x512, .f32⟩
  | 65 => ⟨S4x4096x512, .f32⟩
  | 66 => ⟨S_, .f32⟩
  | 67 => ⟨S4x4096x512, .f32⟩
  | 68 => ⟨S4x4096x512, .f32⟩
  | 69 => ⟨S_, .f32⟩
  | 70 => ⟨S4x4096x512, .f32⟩
  | 71 => ⟨S4x4096x512, .f32⟩
  | 72 => ⟨S_, .f32⟩
  | 73 => ⟨S4x4096x512, .f32⟩
  | 74 => ⟨S4x4096x512, .f32⟩
  | 75 => ⟨S512, .f32⟩
  | 76 => ⟨S_, .f32⟩
  | 77 => ⟨S512, .f32⟩
  | 78 => ⟨S512, .f32⟩
  | 79 => ⟨S512, .f32⟩
  | 80 => ⟨S512, .f32⟩
  | 81 => ⟨S512, .i1⟩
  | 82 => ⟨S512, .f32⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S512, .f32⟩
  | 90 => ⟨S1x1x512, .f32⟩
  | 91 => ⟨S4x4096x512, .f32⟩
  | 92 => ⟨S4x4096x512, .f32⟩
  | 93 => ⟨S4x4096x512, .f32⟩
  | 94 => ⟨S_, .f32⟩
  | 95 => ⟨S4x4096x512, .f32⟩
  | 96 => ⟨S4x4096x512, .f32⟩
  | 97 => ⟨S4x4096x512, .f32⟩
  | 98 => ⟨S4x4096x512, .f32⟩
  | 99 => ⟨S4x4096x512, .f32⟩
  | 100 => ⟨S4x4096x512, .f32⟩
  | 101 => ⟨S4x4096x512, .f32⟩
  | 102 => ⟨S_, .f32⟩
  | 103 => ⟨S4x512, .f32⟩
  | 104 => ⟨S4096x4x512, .f32⟩
  | 105 => ⟨S4096x4x512, .f32⟩
  | 106 => ⟨S_, .f32⟩
  | 107 => ⟨S4096x4x512, .f32⟩
  | 108 => ⟨S_, .i32⟩
  | 109 => ⟨S4096x4x512, .f32⟩
  | 110 => ⟨S4096x4x512, .f32⟩
  | 111 => ⟨S_, .i32⟩
  | 112 => ⟨S4x512, .f32⟩
  | 113 => ⟨S4096x4x512, .f32⟩
  | 114 => ⟨S_, .i32⟩
  | 115 => ⟨S_, .i1⟩
  | 116 => ⟨S_, .i32⟩
  | 117 => ⟨S_, .i32⟩
  | 118 => ⟨S1x4x512, .f32⟩
  | 119 => ⟨S4x512, .f32⟩
  | 120 => ⟨S_, .i32⟩
  | 121 => ⟨S_, .i32⟩
  | 122 => ⟨S1x4x512, .f32⟩
  | 123 => ⟨S4x512, .f32⟩
  | 124 => ⟨S4x512, .f32⟩
  | 125 => ⟨S4x512, .f32⟩
  | 126 => ⟨S1x4x512, .f32⟩
  | 127 => ⟨S_, .i32⟩
  | _ => ⟨S16384x1024, .f32⟩

abbrev hbmTy0_1 (i : Nat) : BufTy := match i % 128 with
  | 0 => ⟨S_, .i32⟩
  | 1 => ⟨S4096x4x512, .f32⟩
  | 2 => ⟨S_, .i32⟩
  | 3 => ⟨S_, .i32⟩
  | 4 => ⟨S4x4096x512, .f32⟩
  | 5 => ⟨S4x4096x1024, .f32⟩
  | 6 => ⟨S4x4096x512, .f32⟩
  | 7 => ⟨S4x4096x512, .f32⟩
  | 8 => ⟨S4x4096x512, .f32⟩
  | 9 => ⟨S_, .f32⟩
  | 10 => ⟨S4x4096x512, .f32⟩
  | 11 => ⟨S4x4096x512, .f32⟩
  | 12 => ⟨S4x4096x512, .f32⟩
  | 13 => ⟨S_, .f32⟩
  | 14 => ⟨S4x4096x512, .f32⟩
  | 15 => ⟨S4x4096x512, .f32⟩
  | 16 => ⟨S4x4096x512, .f32⟩
  | 17 => ⟨S_, .f32⟩
  | 18 => ⟨S4x4096x512, .f32⟩
  | 19 => ⟨S4x4096x512, .f32⟩
  | 20 => ⟨S_, .f32⟩
  | 21 => ⟨S4x4096x512, .f32⟩
  | 22 => ⟨S4x4096x512, .f32⟩
  | 23 => ⟨S4x4096x512, .f32⟩
  | 24 => ⟨S4x4096x512, .f32⟩
  | 25 => ⟨S4x4096x512, .bf16⟩
  | 26 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst : Ref sig .tc := ⟨.hbm, 52, rfl⟩
abbrev main_v42 : Ref sig .tc := ⟨.hbm, 53, rfl⟩
abbrev main_v43 : Ref sig .tc := ⟨.hbm, 54, rfl⟩
abbrev main_cst_0 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_1 : Ref sig .tc := ⟨.hbm, 66, rfl⟩
abbrev main_v54 : Ref sig .tc := ⟨.hbm, 67, rfl⟩
abbrev main_v55 : Ref sig .tc := ⟨.hbm, 68, rfl⟩
abbrev main_cst_2 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_4 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_5 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_6 : Ref sig .tc := ⟨.hbm, 106, rfl⟩
abbrev main_v76 : Ref sig .tc := ⟨.hbm, 107, rfl⟩
abbrev main_c_7 : Ref sig .tc := ⟨.hbm, 108, rfl⟩
abbrev main_v77_0 : Ref sig .tc := ⟨.hbm, 109, rfl⟩
abbrev main_v77_1 : Ref sig .tc := ⟨.hbm, 110, rfl⟩
abbrev main_v77_2 : Ref sig .tc := ⟨.hbm, 111, rfl⟩
abbrev main_v77_3 : Ref sig .tc := ⟨.hbm, 112, rfl⟩
abbrev main_v77_4 : Ref sig .tc := ⟨.hbm, 113, rfl⟩
abbrev main_while0c_c_16 : Ref sig .tc := ⟨.hbm, 114, rfl⟩
abbrev main_while0c_v97 : Ref sig .tc := ⟨.hbm, 115, rfl⟩
abbrev main_while0b_call2_c : Ref sig .tc := ⟨.hbm, 116, rfl⟩
abbrev main_while0b_call2_c_0 : Ref sig .tc := ⟨.hbm, 117, rfl⟩
abbrev main_while0b_call2_v0 : Ref sig .tc := ⟨.hbm, 118, rfl⟩
abbrev main_while0b_v97 : Ref sig .tc := ⟨.hbm, 119, rfl⟩
abbrev main_while0b_call3_c : Ref sig .tc := ⟨.hbm, 120, rfl⟩
abbrev main_while0b_call3_c_0 : Ref sig .tc := ⟨.hbm, 121, rfl⟩
abbrev main_while0b_call3_v0 : Ref sig .tc := ⟨.hbm, 122, rfl⟩
abbrev main_while0b_v98 : Ref sig .tc := ⟨.hbm, 123, rfl⟩
abbrev main_while0b_v99 : Ref sig .tc := ⟨.hbm, 124, rfl⟩
abbrev main_while0b_v100 : Ref sig .tc := ⟨.hbm, 125, rfl⟩
abbrev main_while0b_call4_v0 : Ref sig .tc := ⟨.hbm, 126, rfl⟩
abbrev main_while0b_call4_c : Ref sig .tc := ⟨.hbm, 127, rfl⟩
abbrev main_while0b_call4_c_0 : Ref sig .tc := ⟨.hbm, 128, rfl⟩
abbrev main_while0b_v101 : Ref sig .tc := ⟨.hbm, 129, rfl⟩
abbrev main_while0b_c_16 : Ref sig .tc := ⟨.hbm, 130, rfl⟩
abbrev main_while0b_v102 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_8 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_9 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_cst_10 : Ref sig .tc := ⟨.hbm, 145, rfl⟩
abbrev main_v89 : Ref sig .tc := ⟨.hbm, 146, rfl⟩
abbrev main_v90 : Ref sig .tc := ⟨.hbm, 147, rfl⟩
abbrev main_cst_11 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩

abbrev nD : Nat := 1
abbrev τ : Topo := Topo.v7x

variable {F : FTy → Type} [FloatOps F]

abbrev main_while0_count : Scf.Loop 32 := ⟨0#32, 4096#32, 1#32⟩
-- ==== InProj.lean ====
abbrev S16384x2048 : Shape := ⟨2, ![16384, 2048]⟩
abbrev S2048 : Shape := ⟨1, ![2048]⟩
abbrev S2048x6424 : Shape := ⟨2, ![2048, 6424]⟩
abbrev S2048x1792 : Shape := ⟨2, ![2048, 1792]⟩
abbrev S2048x1552 : Shape := ⟨2, ![2048, 1552]⟩
abbrev S2048x1024 : Shape := ⟨2, ![2048, 1024]⟩
abbrev S2048x2056 : Shape := ⟨2, ![2048, 2056]⟩
abbrev S2048x512 : Shape := ⟨2, ![2048, 512]⟩
abbrev S2048x64 : Shape := ⟨2, ![2048, 64]⟩
abbrev S2048x128 : Shape := ⟨2, ![2048, 128]⟩
abbrev S_ : Shape := ⟨0, ![]⟩
abbrev S2048x1920 : Shape := ⟨2, ![2048, 1920]⟩
abbrev S2048x256 : Shape := ⟨2, ![2048, 256]⟩
abbrev S2048x16 : Shape := ⟨2, ![2048, 16]⟩
abbrev S2048x1664 : Shape := ⟨2, ![2048, 1664]⟩
abbrev S2048x4 : Shape := ⟨2, ![2048, 4]⟩
abbrev S2048x8 : Shape := ⟨2, ![2048, 8]⟩
abbrev S2048x2176 : Shape := ⟨2, ![2048, 2176]⟩
abbrev S1x2048 : Shape := ⟨2, ![1, 2048]⟩
abbrev S16384x1920 : Shape := ⟨2, ![16384, 1920]⟩
abbrev S16384x1664 : Shape := ⟨2, ![16384, 1664]⟩
abbrev S16384x1024 : Shape := ⟨2, ![16384, 1024]⟩
abbrev S16384x2176 : Shape := ⟨2, ![16384, 2176]⟩
abbrev S256x2048 : Shape := ⟨2, ![256, 2048]⟩
abbrev S256x1920 : Shape := ⟨2, ![256, 1920]⟩
abbrev S256x1664 : Shape := ⟨2, ![256, 1664]⟩
abbrev S256x1024 : Shape := ⟨2, ![256, 1024]⟩
abbrev S256x2176 : Shape := ⟨2, ![256, 2176]⟩
abbrev S256 : Shape := ⟨1, ![256]⟩
abbrev S256x1 : Shape := ⟨2, ![256, 1]⟩

abbrev nBuf : Space → Nat
  | .hbm => 52
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6424, .f32⟩
  | .hbm, ⟨3, _⟩ => ⟨S2048x1792, .f32⟩
  | .hbm, ⟨4, _⟩ => ⟨S2048x1552, .f32⟩
  | .hbm, ⟨5, _⟩ => ⟨S2048x1024, .f32⟩
  | .hbm, ⟨6, _⟩ => ⟨S2048x2056, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x64, .f32⟩
  | .hbm, ⟨11, _⟩ => ⟨S2048x64, .f32⟩
  | .hbm, ⟨12, _⟩ => ⟨S2048x128, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S_, .i32⟩
  | .hbm, ⟨17, _⟩ => ⟨S_, .f32⟩
  | .hbm, ⟨18, _⟩ => ⟨S2048x128, .f32⟩
  | .hbm, ⟨19, _⟩ => ⟨S_, .i32⟩
  | .hbm, ⟨20, _⟩ => ⟨S_, .f32⟩
  | .hbm, ⟨21, _⟩ => ⟨S2048x128, .f32⟩
  | .hbm, ⟨22, _⟩ => ⟨S2048x1920, .f32⟩
  | .hbm, ⟨23, _⟩ => ⟨S2048x1920, .bf16⟩
  | .hbm, ⟨24, _⟩ => ⟨S2048x256, .f32⟩
  | .hbm, ⟨25, _⟩ => ⟨S2048x256, .f32⟩
  | .hbm, ⟨26, _⟩ => ⟨S2048x512, .f32⟩
  | .hbm, ⟨27, _⟩ => ⟨S2048x512, .f32⟩
  | .hbm, ⟨28, _⟩ => ⟨S2048x16, .f32⟩
  | .hbm, ⟨29, _⟩ => ⟨S_, .i32⟩
  | .hbm, ⟨30, _⟩ => ⟨S_, .f32⟩
  | .hbm, ⟨31, _⟩ => ⟨S2048x128, .f32⟩
  | .hbm, ⟨32, _⟩ => ⟨S2048x1664, .f32⟩
  | .hbm, ⟨33, _⟩ => ⟨S2048x1664, .bf16⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x4, .f32⟩
  | .hbm, ⟨39, _⟩ => ⟨S2048x4, .f32⟩
  | .hbm, ⟨40, _⟩ => ⟨S2048x8, .f32⟩
  | .hbm, ⟨41, _⟩ => ⟨S_, .i32⟩
  | .hbm, ⟨42, _⟩ => ⟨S_, .f32⟩
  | .hbm, ⟨43, _⟩ => ⟨S2048x128, .f32⟩
  | .hbm, ⟨44, _⟩ => ⟨S2048x2176, .f32⟩
  | .hbm, ⟨45, _⟩ => ⟨S2048x2176, .bf16⟩
  | .hbm, ⟨46, _⟩ => ⟨S2048x1024, .bf16⟩
  | .hbm, ⟨47, _⟩ => ⟨S1x2048, .f32⟩
  | .hbm, ⟨48, _⟩ => ⟨S16384x1920, .f32⟩
  | .hbm, ⟨49, _⟩ => ⟨S16384x1664, .f32⟩
  | .hbm, ⟨50, _⟩ => ⟨S16384x1024, .f32⟩
  | .hbm, ⟨51, _⟩ => ⟨S16384x2176, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x1920, .bf16⟩
  | .local _ .vmem, ⟨4, _⟩ => ⟨S2048x1664, .bf16⟩
  | .local _ .vmem, ⟨5, _⟩ => ⟨S2048x1024, .bf16⟩
  | .local _ .vmem, ⟨6, _⟩ => ⟨S2048x2176, .bf16⟩
  | .local _ .vmem, ⟨7, _⟩ => ⟨S256x1920, .f32⟩
  | .local _ .vmem, ⟨8, _⟩ => ⟨S256x1920, .f32⟩
  | .local _ .vmem, ⟨9, _⟩ => ⟨S256x1664, .f32⟩
  | .local _ .vmem, ⟨10, _⟩ => ⟨S256x1664, .f32⟩
  | .local _ .vmem, ⟨11, _⟩ => ⟨S256x1024, .f32⟩
  | .local _ .vmem, ⟨12, _⟩ => ⟨S256x1024, .f32⟩
  | .local _ .vmem, ⟨13, _⟩ => ⟨S256x2176, .f32⟩
  | .local _ .vmem, ⟨14, _⟩ => ⟨S256x2176, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_c_1 : Ref sig .tc := ⟨.hbm, 19, rfl⟩
abbrev main_call2_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_call3_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_call4_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35_0 : Ref sig .tc := ⟨.hbm, 48, rfl⟩
abbrev main_v35_1 : Ref sig .tc := ⟨.hbm, 49, rfl⟩
abbrev main_v35_2 : Ref sig .tc := ⟨.hbm, 50, rfl⟩
abbrev main_v35_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1664 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2176 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1664 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2176 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InProjRefIdeal.lean ====
abbrev S16384x2048 : Shape := ⟨2, ![16384, 2048]⟩
abbrev S2048 : Shape := ⟨1, ![2048]⟩
abbrev S2048x6424 : Shape := ⟨2, ![2048, 6424]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x6424 : Shape := ⟨2, ![16384, 6424]⟩
abbrev S16384x1600 : Shape := ⟨2, ![16384, 1600]⟩
abbrev S16384x64 : Shape := ⟨2, ![16384, 64]⟩
abbrev S16384x128 : Shape := ⟨2, ![16384, 128]⟩
abbrev S16384x1920 : Shape := ⟨2, ![16384, 1920]⟩
abbrev S16384x1552 : Shape := ⟨2, ![16384, 1552]⟩
abbrev S16384x112 : Shape := ⟨2, ![16384, 112]⟩
abbrev S16384x1664 : Shape := ⟨2, ![16384, 1664]⟩
abbrev S16384x1024 : Shape := ⟨2, ![16384, 1024]⟩
abbrev S16384x2056 : Shape := ⟨2, ![16384, 2056]⟩
abbrev S16384x120 : Shape := ⟨2, ![16384, 120]⟩
abbrev S16384x2176 : Shape := ⟨2, ![16384, 2176]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6424, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x6424, .f32⟩
  | .hbm, ⟨20, _⟩ => ⟨S16384x1600, .f32⟩
  | .hbm, ⟨21, _⟩ => ⟨S_, .f32⟩
  | .hbm, ⟨22, _⟩ => ⟨S16384x64, .f32⟩
  | .hbm, ⟨23, _⟩ => ⟨S16384x64, .f32⟩
  | .hbm, ⟨24, _⟩ => ⟨S_, .f32⟩
  | .hbm, ⟨25, _⟩ => ⟨S16384x64, .f32⟩
  | .hbm, ⟨26, _⟩ => ⟨S16384x128, .f32⟩
  | .hbm, ⟨27, _⟩ => ⟨S16384x1920, .f32⟩
  | .hbm, ⟨28, _⟩ => ⟨S16384x1552, .f32⟩
  | .hbm, ⟨29, _⟩ => ⟨S_, .f32⟩
  | .hbm, ⟨30, _⟩ => ⟨S16384x112, .f32⟩
  | .hbm, ⟨31, _⟩ => ⟨S16384x1664, .f32⟩
  | .hbm, ⟨32, _⟩ => ⟨S16384x1024, .f32⟩
  | .hbm, ⟨33, _⟩ => ⟨S16384x2056, .f32⟩
  | .hbm, ⟨34, _⟩ => ⟨S_, .f32⟩
  | .hbm, ⟨35, _⟩ => ⟨S16384x120, .f32⟩
  | .hbm, ⟨36, _⟩ => ⟨S16384x2176, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== OutProj.lean ====
abbrev S16384x2048 : Shape := ⟨2, ![16384, 2048]⟩
abbrev S16384x512 : Shape := ⟨2, ![16384, 512]⟩
abbrev S2048x2048 : Shape := ⟨2, ![2048, 2048]⟩
abbrev S2048 : Shape := ⟨1, ![2048]⟩
abbrev S4x512x2048 : Shape := ⟨3, ![4, 512, 2048]⟩
abbrev S1x2048 : Shape := ⟨2, ![1, 2048]⟩
abbrev S512x2048 : Shape := ⟨2, ![512, 2048]⟩
abbrev S512x512 : Shape := ⟨2, ![512, 512]⟩
abbrev S1x512x2048 : Shape := ⟨3, ![1, 512, 2048]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S2048x2048, .f32⟩
  | .hbm, ⟨6, _⟩ => ⟨S2048, .f32⟩
  | .hbm, ⟨7, _⟩ => ⟨S4x512x2048, .f32⟩
  | .hbm, ⟨8, _⟩ => ⟨S4x512x2048, .bf16⟩
  | .hbm, ⟨9, _⟩ => ⟨S1x2048, .f32⟩
  | .hbm, ⟨10, _⟩ => ⟨S16384x2048, .f32⟩
  | .hbm, ⟨11, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4x512x2048, .bf16⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjRefIdeal.lean ====
abbrev S16384x2048 : Shape := ⟨2, ![16384, 2048]⟩
abbrev S16384x512 : Shape := ⟨2, ![16384, 512]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S2048x2048, .f32⟩
  | .hbm, ⟨6, _⟩ => ⟨S2048, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x2048, .f32⟩
  | .hbm, ⟨26, _⟩ => ⟨S16384x2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Gla.lean ====
abbrev S4x4096x1664 : Shape := ⟨3, ![4, 4096, 1664]⟩
abbrev S16x256 : Shape := ⟨2, ![16, 256]⟩
abbrev S256 : Shape := ⟨1, ![256]⟩
abbrev S128 : Shape := ⟨1, ![128]⟩
abbrev S_ : Shape := ⟨0, ![]⟩
abbrev S128x256 : Shape := ⟨2, ![128, 256]⟩
abbrev S1x256 : Shape := ⟨2, ![1, 256]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S64 : Shape := ⟨1, ![64]⟩
abbrev S256x1 : Shape := ⟨2, ![256, 1]⟩
abbrev S256x256 : Shape := ⟨2, ![256, 256]⟩
abbrev S256x512 : Shape := ⟨2, ![256, 512]⟩
abbrev S512x1 : Shape := ⟨2, ![512, 1]⟩
abbrev S512x256 : Shape := ⟨2, ![512, 256]⟩
abbrev S512x512 : Shape := ⟨2, ![512, 512]⟩
abbrev S64x1 : Shape := ⟨2, ![64, 1]⟩
abbrev S1x64 : Shape := ⟨2, ![1, 64]⟩
abbrev S64x64 : Shape := ⟨2, ![64, 64]⟩
abbrev S64x256 : Shape := ⟨2, ![64, 256]⟩
abbrev S4x4096x512 : Shape := ⟨3, ![4, 4096, 512]⟩
abbrev S4x64x1664 : Shape := ⟨3, ![4, 64, 1664]⟩
abbrev S4x64x512 : Shape := ⟨3, ![4, 64, 512]⟩
abbrev S4x512x256 : Shape := ⟨3, ![4, 512, 256]⟩
abbrev S1x64x1664 : Shape := ⟨3, ![1, 64, 1664]⟩
abbrev S64x1664 : Shape := ⟨2, ![64, 1664]⟩
abbrev S64x512 : Shape := ⟨2, ![64, 512]⟩
abbrev S64x128 : Shape := ⟨2, ![64, 128]⟩
abbrev S64x768 : Shape := ⟨2, ![64, 768]⟩
abbrev S1x512x256 : Shape := ⟨3, ![1, 512, 256]⟩
abbrev S512x64 : Shape := ⟨2, ![512, 64]⟩
abbrev S128x512 : Shape := ⟨2, ![128, 512]⟩
abbrev S1x64x512 : Shape := ⟨3, ![1, 64, 512]⟩

abbrev nBuf : Space → Nat
  | .hbm => 113
  | .vmem => 14
  | .smem => 0
  | _ => 0

abbrev bufTy : (tb : Table) → Fin (tcTables nBuf tb) → BufTy
  | .hbm, ⟨0, _⟩ => ⟨S4x4096x1664, .f32⟩
  | .hbm, ⟨1, _⟩ => ⟨S16x256, .f32⟩
  | .hbm, ⟨2, _⟩ => ⟨S256, .f32⟩
  | .hbm, ⟨3, _⟩ => ⟨S128, .f32⟩
  | .hbm, ⟨4, _⟩ => ⟨S_, .i32⟩
  | .hbm, ⟨5, _⟩ => ⟨S_, .f32⟩
  | .hbm, ⟨6, _⟩ => ⟨S128x256, .f32⟩
  | .hbm, ⟨7, _⟩ => ⟨S1x256, .f32⟩
  | .hbm, ⟨8, _⟩ => ⟨S1x128, .f32⟩
  | .hbm, ⟨9, _⟩ => ⟨S4x128, .f32⟩
  | .hbm, ⟨10, _⟩ => ⟨S512, .f32⟩
  | .hbm, ⟨11, _⟩ => ⟨S1x512, .f32⟩
  | .hbm, ⟨12, _⟩ => ⟨S256, .i32⟩
  | .hbm, ⟨13, _⟩ => ⟨S512, .i32⟩
  | .hbm, ⟨14, _⟩ => ⟨S64, .i32⟩
  | .hbm, ⟨15, _⟩ => ⟨S_, .i32⟩
  | .hbm, ⟨16, _⟩ => ⟨S256, .i32⟩
  | .hbm, ⟨17, _⟩ => ⟨S256, .i32⟩
  | .hbm, ⟨18, _⟩ => ⟨S256x1, .i32⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S1x256, .i32⟩
  | .hbm, ⟨23, _⟩ => ⟨S256x256, .i32⟩
  | .hbm, ⟨24, _⟩ => ⟨S256x256, .i32⟩
  | .hbm, ⟨25, _⟩ => ⟨S256x256, .i1⟩
  | .hbm, ⟨26, _⟩ => ⟨S_, .f32⟩
  | .hbm, ⟨27, _⟩ => ⟨S_, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S_, .i32⟩
  | .hbm, ⟨33, _⟩ => ⟨S256, .i32⟩
  | .hbm, ⟨34, _⟩ => ⟨S256, .i32⟩
  | .hbm, ⟨35, _⟩ => ⟨S256x1, .i32⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S1x512, .i32⟩
  | .hbm, ⟨40, _⟩ => ⟨S256x512, .i32⟩
  | .hbm, ⟨41, _⟩ => ⟨S256x512, .i32⟩
  | .hbm, ⟨42, _⟩ => ⟨S256x512, .i1⟩
  | .hbm, ⟨43, _⟩ => ⟨S_, .f32⟩
  | .hbm, ⟨44, _⟩ => ⟨S_, .f32⟩
  | .hbm, ⟨45, _⟩ => ⟨S256x512, .f32⟩
  | .hbm, ⟨46, _⟩ => ⟨S256x512, .f32⟩
  | .hbm, ⟨47, _⟩ => ⟨S256x512, .f32⟩
  | .hbm, ⟨48, _⟩ => ⟨S256x512, .f32⟩
  | .hbm, ⟨49, _⟩ => ⟨S_, .i32⟩
  | .hbm, ⟨50, _⟩ => ⟨S512, .i32⟩
  | .hbm, ⟨51, _⟩ => ⟨S512, .i32⟩
  | .hbm, ⟨52, _⟩ => ⟨S512x1, .i32⟩
  | .hbm, ⟨53, _⟩ => ⟨S_, .i32⟩
  | .hbm, ⟨54, _⟩ => ⟨S256, .i32⟩
  | .hbm, ⟨55, _⟩ => ⟨S256, .i32⟩
  | .hbm, ⟨56, _⟩ => ⟨S1x256, .i32⟩
  | .hbm, ⟨57, _⟩ => ⟨S512x256, .i32⟩
  | .hbm, ⟨58, _⟩ => ⟨S512x256, .i32⟩
  | .hbm, ⟨59, _⟩ => ⟨S512x256, .i1⟩
  | .hbm, ⟨60, _⟩ => ⟨S_, .f32⟩
  | .hbm, ⟨61, _⟩ => ⟨S_, .f32⟩
  | .hbm, ⟨62, _⟩ => ⟨S512x256, .f32⟩
  | .hbm, ⟨63, _⟩ => ⟨S512x256, .f32⟩
  | .hbm, ⟨64, _⟩ => ⟨S512x256, .f32⟩
  | .hbm, ⟨65, _⟩ => ⟨S512x256, .f32⟩
  | .hbm, ⟨66, _⟩ => ⟨S_, .i32⟩
  | .hbm, ⟨67, _⟩ => ⟨S512, .i32⟩
  | .hbm, ⟨68, _⟩ => ⟨S512, .i32⟩
  | .hbm, ⟨69, _⟩ => ⟨S512x1, .i32⟩
  | .hbm, ⟨70, _⟩ => ⟨S_, .i32⟩
  | .hbm, ⟨71, _⟩ => ⟨S512, .i32⟩
  | .hbm, ⟨72, _⟩ => ⟨S512, .i32⟩
  | .hbm, ⟨73, _⟩ => ⟨S1x512, .i32⟩
  | .hbm, ⟨74, _⟩ => ⟨S512x512, .i32⟩
  | .hbm, ⟨75, _⟩ => ⟨S512x512, .i32⟩
  | .hbm, ⟨76, _⟩ => ⟨S512x512, .i1⟩
  | .hbm, ⟨77, _⟩ => ⟨S_, .f32⟩
  | .hbm, ⟨78, _⟩ => ⟨S_, .f32⟩
  | .hbm, ⟨79, _⟩ => ⟨S512x512, .f32⟩
  | .hbm, ⟨80, _⟩ => ⟨S512x512, .f32⟩
  | .hbm, ⟨81, _⟩ => ⟨S512x512, .f32⟩
  | .hbm, ⟨82, _⟩ => ⟨S512x512, .f32⟩
  | .hbm, ⟨83, _⟩ => ⟨S64x1, .i32⟩
  | .hbm, ⟨84, _⟩ => ⟨S1x64, .i32⟩
  | .hbm, ⟨85, _⟩ => ⟨S64x64, .i32⟩
  | .hbm, ⟨86, _⟩ => ⟨S64x64, .i32⟩
  | .hbm, ⟨87, _⟩ => ⟨S64x64, .i1⟩
  | .hbm, ⟨88, _⟩ => ⟨S_, .f32⟩
  | .hbm, ⟨89, _⟩ => ⟨S_, .f32⟩
  | .hbm, ⟨90, _⟩ => ⟨S64x64, .f32⟩
  | .hbm, ⟨91, _⟩ => ⟨S64x64, .f32⟩
  | .hbm, ⟨92, _⟩ => ⟨S64x64, .f32⟩
  | .hbm, ⟨93, _⟩ => ⟨S64x64, .f32⟩
  | .hbm, ⟨94, _⟩ => ⟨S64x1, .i32⟩
  | .hbm, ⟨95, _⟩ => ⟨S_, .i32⟩
  | .hbm, ⟨96, _⟩ => ⟨S256, .i32⟩
  | .hbm, ⟨97, _⟩ => ⟨S256, .i32⟩
  | .hbm, ⟨98, _⟩ => ⟨S1x256, .i32⟩
  | .hbm, ⟨99, _⟩ => ⟨S64x256, .i32⟩
  | .hbm, ⟨100, _⟩ => ⟨S64x256, .i32⟩
  | .hbm, ⟨101, _⟩ => ⟨S64x256, .i1⟩
  | .hbm, ⟨102, _⟩ => ⟨S_, .f32⟩
  | .hbm, ⟨103, _⟩ => ⟨S_, .f32⟩
  | .hbm, ⟨104, _⟩ => ⟨S64x256, .f32⟩
  | .hbm, ⟨105, _⟩ => ⟨S64x256, .f32⟩
  | .hbm, ⟨106, _⟩ => ⟨S64x256, .f32⟩
  | .hbm, ⟨107, _⟩ => ⟨S64x256, .f32⟩
  | .hbm, ⟨108, _⟩ => ⟨S256x256, .bf16⟩
  | .hbm, ⟨109, _⟩ => ⟨S256x512, .bf16⟩
  | .hbm, ⟨110, _⟩ => ⟨S512x512, .bf16⟩
  | .hbm, ⟨111, _⟩ => ⟨S64x64, .bf16⟩
  | .hbm, ⟨112, _⟩ => ⟨S4x4096x512, .bf16⟩
  | .local _ .vmem, ⟨0, _⟩ => ⟨S4x64x1664, .f32⟩
  | .local _ .vmem, ⟨1, _⟩ => ⟨S4x64x1664, .f32⟩
  | .local _ .vmem, ⟨2, _⟩ => ⟨S128x256, .f32⟩
  | .local _ .vmem, ⟨3, _⟩ => ⟨S1x256, .f32⟩
  | .local _ .vmem, ⟨4, _⟩ => ⟨S1x512, .f32⟩
  | .local _ .vmem, ⟨5, _⟩ => ⟨S256x256, .bf16⟩
  | .local _ .vmem, ⟨6, _⟩ => ⟨S256x512, .bf16⟩
  | .local _ .vmem, ⟨7, _⟩ => ⟨S512x256, .f32⟩
  | .local _ .vmem, ⟨8, _⟩ => ⟨S512x512, .bf16⟩
  | .local _ .vmem, ⟨9, _⟩ => ⟨S64x64, .bf16⟩
  | .local _ .vmem, ⟨10, _⟩ => ⟨S64x256, .f32⟩
  | .local _ .vmem, ⟨11, _⟩ => ⟨S4x64x512, .bf16⟩
  | .local _ .vmem, ⟨12, _⟩ => ⟨S4x64x512, .bf16⟩
  | .local _ .vmem, ⟨13, _⟩ => ⟨S4x512x256, .f32⟩
  | _, _ => ⟨S4x4096x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_cst_2 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_cst_6 : Ref sig .tc := ⟨.hbm, 44, rfl⟩
abbrev main_call2_v0 : Ref sig .tc := ⟨.hbm, 45, rfl⟩
abbrev main_call2_v1 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_cst_10 : Ref sig .tc := ⟨.hbm, 61, rfl⟩
abbrev main_call3_v0 : Ref sig .tc := ⟨.hbm, 62, rfl⟩
abbrev main_call3_v1 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_12 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_13 : Ref sig .tc := ⟨.hbm, 77, rfl⟩
abbrev main_cst_14 : Ref sig .tc := ⟨.hbm, 78, rfl⟩
abbrev main_call4_v0 : Ref sig .tc := ⟨.hbm, 79, rfl⟩
abbrev main_call4_v1 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_15 : Ref sig .tc := ⟨.hbm, 88, rfl⟩
abbrev main_cst_16 : Ref sig .tc := ⟨.hbm, 89, rfl⟩
abbrev main_call5_v0 : Ref sig .tc := ⟨.hbm, 90, rfl⟩
abbrev main_call5_v1 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_17 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_18 : Ref sig .tc := ⟨.hbm, 102, rfl⟩
abbrev main_cst_19 : Ref sig .tc := ⟨.hbm, 103, rfl⟩
abbrev main_call6_v0 : Ref sig .tc := ⟨.hbm, 104, rfl⟩
abbrev main_call6_v1 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GlaRefIdeal.lean ====
abbrev S4x4096x1664 : Shape := ⟨3, ![4, 4096, 1664]⟩
abbrev S16x256 : Shape := ⟨2, ![16, 256]⟩
abbrev S256 : Shape := ⟨1, ![256]⟩
abbrev S128 : Shape := ⟨1, ![128]⟩
abbrev S4x4096x256 : Shape := ⟨3, ![4, 4096, 256]⟩
abbrev S4x4096x512 : Shape := ⟨3, ![4, 4096, 512]⟩
abbrev S4x4096x16 : Shape := ⟨3, ![4, 4096, 16]⟩
abbrev S1x1x256 : Shape := ⟨3, ![1, 1, 256]⟩
abbrev S_ : Shape := ⟨0, ![]⟩
abbrev S4x64x64x4x64 : Shape := ⟨5, ![4, 64, 64, 4, 64]⟩
abbrev S64x4x4x64x64 : Shape := ⟨5, ![64, 4, 4, 64, 64]⟩
abbrev S4x64x64x4x128 : Shape := ⟨5, ![4, 64, 64, 4, 128]⟩
abbrev S64x4x4x64x128 : Shape := ⟨5, ![64, 4, 4, 64, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x64x1 : Shape := ⟨3, ![64, 64, 1]⟩
abbrev S64x4x4x1x64x64 : Shape := ⟨6, ![64, 4, 4, 1, 64, 64]⟩
abbrev S64x4x4x64x64x64 : Shape := ⟨6, ![64, 4, 4, 64, 64, 64]⟩
abbrev S4x4x64x128 : Shape := ⟨4, ![4, 4, 64, 128]⟩
abbrev S1x4x4x64x64 : Shape := ⟨5, ![1, 4, 4, 64, 64]⟩
abbrev S4x4x64x64 : Shape := ⟨4, ![4, 4, 64, 64]⟩
abbrev S1x4x4x64x128 : Shape := ⟨5, ![1, 4, 4, 64, 128]⟩
abbrev S4x4x1x64 : Shape := ⟨4, ![4, 4, 1, 64]⟩
abbrev S4x4x64 : Shape := ⟨3, ![4, 4, 64]⟩
abbrev S4x4x64x1 : Shape := ⟨4, ![4, 4, 64, 1]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 173
  | .vmem => 0
  | .smem => 0
  | _ => 0

abbrev hbmTy0_0 (i : Nat) : BufTy := match i % 128 with
  | 0 => ⟨S4x4096x1664, .f32⟩
  | 1 => ⟨S16x256, .f32⟩
  | 2 => ⟨S256, .f32⟩
  | 3 => ⟨S128, .f32⟩
  | 4 => ⟨S4x4096x256, .f32⟩
  | 5 => ⟨S4x4096x256, .f32⟩
  | 6 => ⟨S4x4096x512, .f32⟩
  | 7 => ⟨S4x4096x16, .f32⟩
  | 8 => ⟨S4x4096x256, .f32⟩
  | 9 => ⟨S1x1x256, .f32⟩
  | 10 => ⟨S4x4096x256, .f32⟩
  | 11 => ⟨S4x4096x256, .f32⟩
  | 12 => ⟨S4x4096x256, .f32⟩
  | 13 => ⟨S_, .f32⟩
  | 14 => ⟨S4x4096x256, .f32⟩
  | 15 => ⟨S4x4096x256, .f32⟩
  | 16 => ⟨S4x4096x256, .f32⟩
  | 17 => ⟨S4x4096x256, .f32⟩
  | 18 => ⟨S4x4096x256, .i1⟩
  | 19 => ⟨S4x4096x256, .f32⟩
  | 20 => ⟨S4x4096x256, .f32⟩
  | 21 => ⟨S4x4096x256, .f32⟩
  | 22 => ⟨S4x4096x256, .f32⟩
  | 23 => ⟨S4x4096x256, .f32⟩
  | 24 => ⟨S4x4096x256, .f32⟩
  | 25 => ⟨S4x4096x256, .f32⟩
  | 26 => ⟨S4x4096x256, .f32⟩
  | 27 => ⟨S4x4096x256, .f32⟩
  | 28 => ⟨S_, .f32⟩
  | 29 => ⟨S4x4096x256, .f32⟩
  | 30 => ⟨S4x4096x256, .f32⟩
  | 31 => ⟨S_, .f32⟩
  | 32 => ⟨S4x4096x256, .f32⟩
  | 33 => ⟨S4x4096x256, .f32⟩
  | 34 => ⟨S4x64x64x4x64, .f32⟩
  | 35 => ⟨S64x4x4x64x64, .f32⟩
  | 36 => ⟨S4x64x64x4x64, .f32⟩
  | 37 => ⟨S64x4x4x64x64, .f32⟩
  | 38 => ⟨S4x64x64x4x128, .f32⟩
  | 39 => ⟨S64x4x4x64x128, .f32⟩
  | 40 => ⟨S4x64x64x4x64, .f32⟩
  | 41 => ⟨S64x4x4x64x64, .f32⟩
  | 42 => ⟨S64, .i32⟩
  | 43 => ⟨S64x1, .i32⟩
  | 44 => ⟨S1x64, .i32⟩
  | 45 => ⟨S64x64, .i32⟩
  | 46 => ⟨S64x64, .i32⟩
  | 47 => ⟨S64x64, .i1⟩
  | 48 => ⟨S64x64x1, .i1⟩
  | 49 => ⟨S64x4x4x1x64x64, .f32⟩
  | 50 => ⟨S_, .f32⟩
  | 51 => ⟨S_, .f32⟩
  | 52 => ⟨S64x4x4x64x64x64, .i1⟩
  | 53 => ⟨S64x4x4x64x64x64, .f32⟩
  | 54 => ⟨S64x4x4x64x64x64, .f32⟩
  | 55 => ⟨S64x4x4x64x64x64, .f32⟩
  | 56 => ⟨S_, .f32⟩
  | 57 => ⟨S64x4x4x64x64, .f32⟩
  | 58 => ⟨S_, .f32⟩
  | 59 => ⟨S4x4x64x128, .f32⟩
  | 60 => ⟨S_, .f32⟩
  | 61 => ⟨S64x4x4x64x128, .f32⟩
  | 62 => ⟨S_, .i32⟩
  | 63 => ⟨S64x4x4x64x64, .f32⟩
  | 64 => ⟨S64x4x4x64x64, .f32⟩
  | 65 => ⟨S64x4x4x64x128, .f32⟩
  | 66 => ⟨S64x4x4x64x64, .f32⟩
  | 67 => ⟨S_, .i32⟩
  | 68 => ⟨S4x4x64x128, .f32⟩
  | 69 => ⟨S64x4x4x64x128, .f32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S1x4x4x64x64, .f32⟩
  | 77 => ⟨S4x4x64x64, .f32⟩
  | 78 => ⟨S_, .i32⟩
  | 79 => ⟨S_, .i32⟩
  | 80 => ⟨S_, .i32⟩
  | 81 => ⟨S_, .i32⟩
  | 82 => ⟨S1x4x4x64x64, .f32⟩
  | 83 => ⟨S4x4x64x64, .f32⟩
  | 84 => ⟨S_, .i32⟩
  | 85 => ⟨S_, .i32⟩
  | 86 => ⟨S_, .i32⟩
  | 87 => ⟨S_, .i32⟩
  | 88 => ⟨S1x4x4x64x128, .f32⟩
  | 89 => ⟨S4x4x64x128, .f32⟩
  | 90 => ⟨S_, .i32⟩
  | 91 => ⟨S_, .i32⟩
  | 92 => ⟨S_, .i32⟩
  | 93 => ⟨S_, .i32⟩
  | 94 => ⟨S1x4x4x64x64, .f32⟩
  | 95 => ⟨S4x4x64x64, .f32⟩
  | 96 => ⟨S64, .i32⟩
  | 97 => ⟨S64x1, .i32⟩
  | 98 => ⟨S1x64, .i32⟩
  | 99 => ⟨S64x64, .i32⟩
  | 100 => ⟨S64x64, .i32⟩
  | 101 => ⟨S64x64, .i1⟩
  | 102 => ⟨S4x4x1x64, .f32⟩
  | 103 => ⟨S4x4x1x64, .f32⟩
  | 104 => ⟨S4x4x64x64, .f32⟩
  | 105 => ⟨S4x4x64x64, .f32⟩
  | 106 => ⟨S4x4x64x64, .f32⟩
  | 107 => ⟨S4x4x64x64, .f32⟩
  | 108 => ⟨S4x4x64x64, .f32⟩
  | 109 => ⟨S4x4x64x64, .f32⟩
  | 110 => ⟨S4x4x64x64, .f32⟩
  | 111 => ⟨S4x4x64x64, .f32⟩
  | 112 => ⟨S4x4x64x64, .f32⟩
  | 113 => ⟨S_, .f32⟩
  | 114 => ⟨S_, .f32⟩
  | 115 => ⟨S4x4x64x64, .i1⟩
  | 116 => ⟨S4x4x64x64, .f32⟩
  | 117 => ⟨S4x4x64x64, .f32⟩
  | 118 => ⟨S4x4x64x128, .f32⟩
  | 119 => ⟨S4x4x64x64, .f32⟩
  | 120 => ⟨S4x4x64x64, .f32⟩
  | 121 => ⟨S4x4x64x128, .f32⟩
  | 122 => ⟨S4x4x64x128, .f32⟩
  | 123 => ⟨S4x4x64, .f32⟩
  | 124 => ⟨S4x4x64, .f32⟩
  | 125 => ⟨S4x4x64x1, .f32⟩
  | 126 => ⟨S4x4x64x128, .f32⟩
  | 127 => ⟨S4x4x64x128, .f32⟩
  | _ => ⟨S4x4096x1664, .f32⟩

abbrev hbmTy0_1 (i : Nat) : BufTy := match i % 128 with
  | 0 => ⟨S4x4x64x64, .f32⟩
  | 1 => ⟨S4x4x64x64, .f32⟩
  | 2 => ⟨S4x4x64x64, .f32⟩
  | 3 => ⟨S4x4x64x64, .f32⟩
  | 4 => ⟨S4x4x64x128, .f32⟩
  | 5 => ⟨S4x4x64x128, .f32⟩
  | 6 => ⟨S1x4x4x64x128, .f32⟩
  | 7 => ⟨S_, .i32⟩
  | 8 => ⟨S_, .i32⟩
  | 9 => ⟨S_, .i32⟩
  | 10 => ⟨S_, .i32⟩
  | 11 => ⟨S64x4x4x64x128, .f32⟩
  | 12 => ⟨S_, .i32⟩
  | 13 => ⟨S_, .i32⟩
  | 14 => ⟨S4x64x64x4x128, .f32⟩
  | 15 => ⟨S4x4096x4x128, .f32⟩
  | 16 => ⟨S4x4096x4x128, .f32⟩
  | 17 => ⟨S_, .f32⟩
  | 18 => ⟨S4x4096x4, .f32⟩
  | 19 => ⟨S4x4096x4x1, .f32⟩
  | 20 => ⟨S_, .f32⟩
  | 21 => ⟨S4x4096x4x1, .f32⟩
  | 22 => ⟨S4x4096x4x1, .f32⟩
  | 23 => ⟨S_, .f32⟩
  | 24 => ⟨S4x4096x4x1, .f32⟩
  | 25 => ⟨S4x4096x4x1, .f32⟩
  | 26 => ⟨S4x4096x4x1, .f32⟩
  | 27 => ⟨S4x4096x4x128, .f32⟩
  | 28 => ⟨S4x4096x4x128, .f32⟩
  | 29 => ⟨S1x1x1x128, .f32⟩
  | 30 => ⟨S4x4096x4x128, .f32⟩
  | 31 => ⟨S4x4096x4x128, .f32⟩
  | 32 => ⟨S4x4096x512, .f32⟩
  | 33 => ⟨S4x4096x512, .f32⟩
  | 34 => ⟨S4x4096x512, .f32⟩
  | 35 => ⟨S4x4096x512, .f32⟩
  | 36 => ⟨S_, .f32⟩
  | 37 => ⟨S4x4096x512, .f32⟩
  | 38 => ⟨S4x4096x512, .f32⟩
  | 39 => ⟨S_, .f32⟩
  | 40 => ⟨S4x4096x512, .f32⟩
  | 41 => ⟨S4x4096x512, .f32⟩
  | 42 => ⟨S4x4096x512, .f32⟩
  | 43 => ⟨S4x4096x512, .f32⟩
  | 44 => ⟨S4x4096x512, .bf16⟩
  | _ => ⟨S4x4096x1664, .f32⟩

abbrev hbmTy (i : Nat) : BufTy := match i / 128 with
  | 0 => hbmTy0_0 i
  | 1 => hbmTy0_1 i
  | _ => ⟨S4x4096x1664, .f32⟩

abbrev bufTy : (tb : Table) → Fin (tcTables nBuf tb) → BufTy
  | .hbm, ⟨i, _⟩ => hbmTy i
  | _, _ => ⟨S4x4096x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_1 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_v31 : Ref sig .tc := ⟨.hbm, 55, rfl⟩
abbrev main_cst_2 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_c : Ref sig .tc := ⟨.hbm, 62, rfl⟩
abbrev main_v35_0 : Ref sig .tc := ⟨.hbm, 63, rfl⟩
abbrev main_v35_1 : Ref sig .tc := ⟨.hbm, 64, rfl⟩
abbrev main_v35_2 : Ref sig .tc := ⟨.hbm, 65, rfl⟩
abbrev main_v35_3 : Ref sig .tc := ⟨.hbm, 66, rfl⟩
abbrev main_v35_4 : Ref sig .tc := ⟨.hbm, 67, rfl⟩
abbrev main_v35_5 : Ref sig .tc := ⟨.hbm, 68, rfl⟩
abbrev main_v35_6 : Ref sig .tc := ⟨.hbm, 69, rfl⟩
abbrev main_while0c_c_14 : Ref sig .tc := ⟨.hbm, 70, rfl⟩
abbrev main_while0c_v56 : Ref sig .tc := ⟨.hbm, 71, rfl⟩
abbrev main_while0b_call2_c : Ref sig .tc := ⟨.hbm, 72, rfl⟩
abbrev main_while0b_call2_c_0 : Ref sig .tc := ⟨.hbm, 73, rfl⟩
abbrev main_while0b_call2_c_1 : Ref sig .tc := ⟨.hbm, 74, rfl⟩
abbrev main_while0b_call2_c_2 : Ref sig .tc := ⟨.hbm, 75, rfl⟩
abbrev main_while0b_call2_v0 : Ref sig .tc := ⟨.hbm, 76, rfl⟩
abbrev main_while0b_v56 : Ref sig .tc := ⟨.hbm, 77, rfl⟩
abbrev main_while0b_call3_c : Ref sig .tc := ⟨.hbm, 78, rfl⟩
abbrev main_while0b_call3_c_0 : Ref sig .tc := ⟨.hbm, 79, rfl⟩
abbrev main_while0b_call3_c_1 : Ref sig .tc := ⟨.hbm, 80, rfl⟩
abbrev main_while0b_call3_c_2 : Ref sig .tc := ⟨.hbm, 81, rfl⟩
abbrev main_while0b_call3_v0 : Ref sig .tc := ⟨.hbm, 82, rfl⟩
abbrev main_while0b_v57 : Ref sig .tc := ⟨.hbm, 83, rfl⟩
abbrev main_while0b_call4_c : Ref sig .tc := ⟨.hbm, 84, rfl⟩
abbrev main_while0b_call4_c_0 : Ref sig .tc := ⟨.hbm, 85, rfl⟩
abbrev main_while0b_call4_c_1 : Ref sig .tc := ⟨.hbm, 86, rfl⟩
abbrev main_while0b_call4_c_2 : Ref sig .tc := ⟨.hbm, 87, rfl⟩
abbrev main_while0b_call4_v0 : Ref sig .tc := ⟨.hbm, 88, rfl⟩
abbrev main_while0b_v58 : Ref sig .tc := ⟨.hbm, 89, rfl⟩
abbrev main_while0b_call5_c : Ref sig .tc := ⟨.hbm, 90, rfl⟩
abbrev main_while0b_call5_c_0 : Ref sig .tc := ⟨.hbm, 91, rfl⟩
abbrev main_while0b_call5_c_1 : Ref sig .tc := ⟨.hbm, 92, rfl⟩
abbrev main_while0b_call5_c_2 : Ref sig .tc := ⟨.hbm, 93, rfl⟩
abbrev main_while0b_call5_v0 : Ref sig .tc := ⟨.hbm, 94, rfl⟩
abbrev main_while0b_v59 : Ref sig .tc := ⟨.hbm, 95, rfl⟩
abbrev main_while0b_v60 : Ref sig .tc := ⟨.hbm, 96, rfl⟩
abbrev main_while0b_v61 : Ref sig .tc := ⟨.hbm, 97, rfl⟩
abbrev main_while0b_v62 : Ref sig .tc := ⟨.hbm, 98, rfl⟩
abbrev main_while0b_v63 : Ref sig .tc := ⟨.hbm, 99, rfl⟩
abbrev main_while0b_v64 : Ref sig .tc := ⟨.hbm, 100, rfl⟩
abbrev main_while0b_v65 : Ref sig .tc := ⟨.hbm, 101, rfl⟩
abbrev main_while0b_v66 : Ref sig .tc := ⟨.hbm, 102, rfl⟩
abbrev main_while0b_v67 : Ref sig .tc := ⟨.hbm, 103, rfl⟩
abbrev main_while0b_v68 : Ref sig .tc := ⟨.hbm, 104, rfl⟩
abbrev main_while0b_v69 : Ref sig .tc := ⟨.hbm, 105, rfl⟩
abbrev main_while0b_v70 : Ref sig .tc := ⟨.hbm, 106, rfl⟩
abbrev main_while0b_v71 : Ref sig .tc := ⟨.hbm, 107, rfl⟩
abbrev main_while0b_v72 : Ref sig .tc := ⟨.hbm, 108, rfl⟩
abbrev main_while0b_v73 : Ref sig .tc := ⟨.hbm, 109, rfl⟩
abbrev main_while0b_v74 : Ref sig .tc := ⟨.hbm, 110, rfl⟩
abbrev main_while0b_v75 : Ref sig .tc := ⟨.hbm, 111, rfl⟩
abbrev main_while0b_v76 : Ref sig .tc := ⟨.hbm, 112, rfl⟩
abbrev main_while0b_cst_14 : Ref sig .tc := ⟨.hbm, 113, rfl⟩
abbrev main_while0b_call6_v0 : Ref sig .tc := ⟨.hbm, 114, rfl⟩
abbrev main_while0b_call6_v1 : Ref sig .tc := ⟨.hbm, 115, rfl⟩
abbrev main_while0b_call6_v2 : Ref sig .tc := ⟨.hbm, 116, rfl⟩
abbrev main_while0b_v77 : Ref sig .tc := ⟨.hbm, 117, rfl⟩
abbrev main_while0b_v78 : Ref sig .tc := ⟨.hbm, 118, rfl⟩
abbrev main_while0b_v79 : Ref sig .tc := ⟨.hbm, 119, rfl⟩
abbrev main_while0b_v80 : Ref sig .tc := ⟨.hbm, 120, rfl⟩
abbrev main_while0b_v81 : Ref sig .tc := ⟨.hbm, 121, rfl⟩
abbrev main_while0b_v82 : Ref sig .tc := ⟨.hbm, 122, rfl⟩
abbrev main_while0b_v83 : Ref sig .tc := ⟨.hbm, 123, rfl⟩
abbrev main_while0b_v84 : Ref sig .tc := ⟨.hbm, 124, rfl⟩
abbrev main_while0b_v85 : Ref sig .tc := ⟨.hbm, 125, rfl⟩
abbrev main_while0b_v86 : Ref sig .tc := ⟨.hbm, 126, rfl⟩
abbrev main_while0b_v87 : Ref sig .tc := ⟨.hbm, 127, rfl⟩
abbrev main_while0b_v88 : Ref sig .tc := ⟨.hbm, 128, rfl⟩
abbrev main_while0b_v89 : Ref sig .tc := ⟨.hbm, 129, rfl⟩
abbrev main_while0b_v90 : Ref sig .tc := ⟨.hbm, 130, rfl⟩
abbrev main_while0b_v91 : Ref sig .tc := ⟨.hbm, 131, rfl⟩
abbrev main_while0b_v92 : Ref sig .tc := ⟨.hbm, 132, rfl⟩
abbrev main_while0b_v93 : Ref sig .tc := ⟨.hbm, 133, rfl⟩
abbrev main_while0b_call7_v0 : Ref sig .tc := ⟨.hbm, 134, rfl⟩
abbrev main_while0b_call7_c : Ref sig .tc := ⟨.hbm, 135, rfl⟩
abbrev main_while0b_call7_c_0 : Ref sig .tc := ⟨.hbm, 136, rfl⟩
abbrev main_while0b_call7_c_1 : Ref sig .tc := ⟨.hbm, 137, rfl⟩
abbrev main_while0b_call7_c_2 : Ref sig .tc := ⟨.hbm, 138, rfl⟩
abbrev main_while0b_v94 : Ref sig .tc := ⟨.hbm, 139, rfl⟩
abbrev main_while0b_c_15 : Ref sig .tc := ⟨.hbm, 140, rfl⟩
abbrev main_while0b_v95 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_cst_5 : Ref sig .tc := ⟨.hbm, 145, rfl⟩
abbrev main_v39 : Ref sig .tc := ⟨.hbm, 146, rfl⟩
abbrev main_v40 : Ref sig .tc := ⟨.hbm, 147, rfl⟩
abbrev main_cst_6 : Ref sig .tc := ⟨.hbm, 148, rfl⟩
abbrev main_v41 : Ref sig .tc := ⟨.hbm, 149, rfl⟩
abbrev main_v42 : Ref sig .tc := ⟨.hbm, 150, rfl⟩
abbrev main_cst_7 : Ref sig .tc := ⟨.hbm, 151, rfl⟩
abbrev main_v43 : Ref sig .tc := ⟨.hbm, 152, rfl⟩
abbrev main_v44 : Ref sig .tc := ⟨.hbm, 153, rfl⟩
abbrev main_v45 : Ref sig .tc := ⟨.hbm, 154, rfl⟩
abbrev main_v46 : Ref sig .tc := ⟨.hbm, 155, rfl⟩
abbrev main_v47 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_v52 : Ref sig .tc := ⟨.hbm, 161, rfl⟩
abbrev main_call8_v0 : Ref sig .tc := ⟨.hbm, 162, rfl⟩
abbrev main_call8_v1 : Ref sig .tc := ⟨.hbm, 163, rfl⟩
abbrev main_call8_cst : Ref sig .tc := ⟨.hbm, 164, rfl⟩
abbrev main_call8_v2 : Ref sig .tc := ⟨.hbm, 165, rfl⟩
abbrev main_call8_v3 : Ref sig .tc := ⟨.hbm, 166, rfl⟩
abbrev main_call8_cst_0 : Ref sig .tc := ⟨.hbm, 167, rfl⟩
abbrev main_call8_v4 : Ref sig .tc := ⟨.hbm, 168, rfl⟩
abbrev main_call8_v5 : Ref sig .tc := ⟨.hbm, 169, rfl⟩
abbrev main_v53 : Ref sig .tc := ⟨.hbm, 170, rfl⟩
abbrev main_v54 : Ref sig .tc := ⟨.hbm, 171, rfl⟩
abbrev main_v55 : Ref sig .tc := ⟨.hbm, 172, rfl⟩

abbrev nD : Nat := 1
abbrev τ : Topo := Topo.v7x

variable {F : FTy → Type} [FloatOps F]

abbrev main_while0_count : Scf.Loop 32 := ⟨0#32, 64#32, 1#32⟩
-- ==== Route.lean ====
abbrev S16384x2048 : Shape := ⟨2, ![16384, 2048]⟩
abbrev S2048x2048 : Shape := ⟨2, ![2048, 2048]⟩
abbrev S8x2x128x128 : Shape := ⟨4, ![8, 2, 128, 128]⟩
abbrev S16x128x128 : Shape := ⟨3, ![16, 128, 128]⟩
abbrev S8x128x16384 : Shape := ⟨3, ![8, 128, 16384]⟩
abbrev S512x2048 : Shape := ⟨2, ![512, 2048]⟩
abbrev S8x128x512 : Shape := ⟨3, ![8, 128, 512]⟩
abbrev S16x128x512 : Shape := ⟨3, ![16, 128, 512]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩
abbrev S512 : Shape := ⟨1, ![512]⟩
abbrev S1x512 : Shape := ⟨2, ![1, 512]⟩
abbrev S16x512 : Shape := ⟨2, ![16, 512]⟩
abbrev S8x1 : Shape := ⟨2, ![8, 1]⟩
abbrev S8x512 : Shape := ⟨2, ![8, 512]⟩
abbrev S80x512 : Shape := ⟨2, ![80, 512]⟩

abbrev nBuf : Space → Nat
  | .hbm => 10
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S8x2x128x128, .f32⟩
  | .hbm, ⟨3, _⟩ => ⟨S2048x2048, .bf16⟩
  | .hbm, ⟨4, _⟩ => ⟨S16x128x128, .f32⟩
  | .hbm, ⟨5, _⟩ => ⟨S16x128x128, .bf16⟩
  | .hbm, ⟨6, _⟩ => ⟨S8x128x16384, .f32⟩
  | .hbm, ⟨7, _⟩ => ⟨S8x128x16384, .bf16⟩
  | .hbm, ⟨8, _⟩ => ⟨S8x128x16384, .f32⟩
  | .hbm, ⟨9, _⟩ => ⟨S8x128x16384, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S16x128x128, .bf16⟩
  | .local _ .vmem, ⟨4, _⟩ => ⟨S8x128x512, .f32⟩
  | .local _ .vmem, ⟨5, _⟩ => ⟨S8x128x512, .f32⟩
  | .local _ .vmem, ⟨6, _⟩ => ⟨S8x128x512, .bf16⟩
  | .local _ .vmem, ⟨7, _⟩ => ⟨S8x128x512, .bf16⟩
  | .local _ .vmem, ⟨8, _⟩ => ⟨S8x128x512, .f32⟩
  | .local _ .vmem, ⟨9, _⟩ => ⟨S8x128x512, .f32⟩
  | .local _ .vmem, ⟨10, _⟩ => ⟨S8x128x512, .bf16⟩
  | .local _ .vmem, ⟨11, _⟩ => ⟨S8x128x512, .bf16⟩
  | .local _ .vmem, ⟨12, _⟩ => ⟨S16x128x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v132 : BitVec 32 := Scalar.addi c0_i32 c8_i32
  let c1_i32 : BitVec 32 := 1#32
  ⟨c0_i32, v132, c1_i32⟩
def k0_off1 (k0_t1 : Fin k0_t1_loop.trips) : Fin 3 → Nat :=
  let c2_i32 : BitVec 32 := 2#32
  let c0_i32 : BitVec 32 := 0#32
  let c1_i32 : BitVec 32 := 1#32
  let arg9 : BitVec 32 := Scf.iv c0_i32 c1_i32 k0_t1
  let v133 : BitVec 32 := Scalar.muli c2_i32 arg9
  let v134 : Index := Scalar.indexCast v133
  let c0_101 : Index := 0#32
  let c0_102 : Index := 0#32
  ![v134.toNat, 0, 0]
def k0_off2 (k0_t1 : Fin k0_t1_loop.trips) : Fin 3 → Nat :=
  let c2_i32_103 : BitVec 32 := 2#32
  let c0_i32 : BitVec 32 := 0#32
  let c1_i32 : BitVec 32 := 1#32
  let arg9 : BitVec 32 := Scf.iv c0_i32 c1_i32 k0_t1
  let v137 : BitVec 32 := Scalar.muli c2_i32_103 arg9
  let c1_i32_104 : BitVec 32 := 1#32
  let v138 : BitVec 32 := Scalar.addi v137 c1_i32_104
  let v139 : Index := Scalar.indexCast v138
  let c0_105 : Index := 0#32
  let c0_106 : Index := 0#32
  ![v139.toNat, 0, 0]
def k0_off3 (k0_t1 : Fin k0_t1_loop.trips) : Fin 3 → Nat :=
  let c0_i32 : BitVec 32 := 0#32
  let c1_i32 : BitVec 32 := 1#32
  let arg9 : BitVec 32 := Scf.iv c0_i32 c1_i32 k0_t1
  let v793 : Index := Scalar.indexCast arg9
  let c0_276 : Index := 0#32
  let c0_277 : Index := 0#32
  ![v793.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RouteRefIdeal.lean ====
abbrev S16384x2048 : Shape := ⟨2, ![16384, 2048]⟩
abbrev S2048x2048 : Shape := ⟨2, ![2048, 2048]⟩
abbrev S8x2x128x128 : Shape := ⟨4, ![8, 2, 128, 128]⟩
abbrev S16384x8x2x128 : Shape := ⟨4, ![16384, 8, 2, 128]⟩
abbrev S8x2x128x16384 : Shape := ⟨4, ![8, 2, 128, 16384]⟩
abbrev S16384x8x1x128 : Shape := ⟨4, ![16384, 8, 1, 128]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S8x128x16384 : Shape := ⟨3, ![8, 128, 16384]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S8x2x128x128, .f32⟩
  | .hbm, ⟨3, _⟩ => ⟨S16384x2048, .f32⟩
  | .hbm, ⟨4, _⟩ => ⟨S16384x2048, .f32⟩
  | .hbm, ⟨5, _⟩ => ⟨S16384x8x2x128, .f32⟩
  | .hbm, ⟨6, _⟩ => ⟨S8x2x128x16384, .f32⟩
  | .hbm, ⟨7, _⟩ => ⟨S16384x8x2x128, .f32⟩
  | .hbm, ⟨8, _⟩ => ⟨S16384x8x1x128, .f32⟩
  | .hbm, ⟨9, _⟩ => ⟨S16384x8x128, .f32⟩
  | .hbm, ⟨10, _⟩ => ⟨S_, .f32⟩
  | .hbm, ⟨11, _⟩ => ⟨S16384x8, .f32⟩
  | .hbm, ⟨12, _⟩ => ⟨S16384x8x1, .f32⟩
  | .hbm, ⟨13, _⟩ => ⟨S16384x8x128, .f32⟩
  | .hbm, ⟨14, _⟩ => ⟨S16384x8x128, .f32⟩
  | .hbm, ⟨15, _⟩ => ⟨S16384x8x128, .f32⟩
  | .hbm, ⟨16, _⟩ => ⟨S8x128x16384, .f32⟩
  | .hbm, ⟨17, _⟩ => ⟨S8x128x16384, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.LruScan.lean ====
module

public import proofs.«01_k».proof.Proof.Gen.LruIdeal.Skeleton
public import Idealize.ShloMosaic.Lib.Pointwise
public import Idealize.ShloMosaic.Lib.WordCmp
public import Idealize.ShloMosaic.Lib.Pipeline.ValueKit

@[expose] public section

set_option maxRecDepth 16384

noncomputable section

/-! # The linear recurrence, by repeated doubling

The recurrence `h (r+1) = a r * h r + u r` over a block of rows, and the doubling scheme that computes all of its
rows at once: `W n R` is the product of the last `n` decays before row `R` and `S n R` is what the last `n` inputs
contribute.  Rows before the block count as the neutral step (decay one, input zero), which is what a mask supplies. -/

namespace Cert.LruIdeal.Scan

open Cert.LruIdeal Cert.LruIdeal.Gen Idealize.ShloMosaic Idealize.ShloMosaic.TcCoe

/-- The product of the last `n` decays before row `R`, rows before the block counting as one. -/
def W (a : ℕ → EReal) : ℕ → ℕ → EReal
  | 0, _ => 1
  | _ + 1, 0 => 1
  | n + 1, R + 1 => W a n R * a R

/-- What the last `n` inputs before row `R` contribute, rows before the block counting as zero. -/
def S (a u : ℕ → EReal) : ℕ → ℕ → EReal
  | 0, _ => 0
  | _ + 1, 0 => 0
  | n + 1, R + 1 => a R * S a u n R + u R

/-- The recurrence itself, from a starting state. -/
def H (a u : ℕ → EReal) (h : EReal) : ℕ → EReal
  | 0 => h
  | R + 1 => a R * H a u h R + u R

/-- Before the block's first row the product is empty. -/
theorem W_zero (a : ℕ → EReal) (n : ℕ) : W a n 0 = 1 := by cases n <;> rfl

/-- Before the block's first row nothing is contributed. -/
theorem S_zero (a u : ℕ → EReal) (n : ℕ) : S a u n 0 = 0 := by cases n <;> rfl

/-- One decay. -/
theorem W_one (a : ℕ → EReal) (R : ℕ) : W a 1 (R + 1) = a R := by simp [W]

/-- One input. -/
theorem S_one (a u : ℕ → EReal) (R : ℕ) : S a u 1 (R + 1) = u R := by simp [S]

/-- Products of decays that lie between zero and infinity stay there. -/
theorem W_bounds {a : ℕ → EReal} (ha : ∀ R, 0 ≤ a R ∧ a R ≠ ⊤) : ∀ n R, 0 ≤ W a n R ∧ W a n R ≠ ⊤
  | 0, _ => ⟨zero_le_one, EReal.coe_ne_top 1⟩
  | _ + 1, 0 => ⟨zero_le_one, EReal.coe_ne_top 1⟩
  | n + 1, R + 1 => by
      have h := W_bounds ha n R
      refine ⟨mul_nonneg h.1 (ha R).1, ?_⟩
      show W a n R * a R ≠ ⊤
      have hx : W a n R ≠ ⊥ := fun e => by simp [e] at h
      have hy : a R ≠ ⊥ := fun e => by have := (ha R).1; simp [e] at this
      lift W a n R to ℝ using ⟨h.2, hx⟩ with x
      lift a R to ℝ using ⟨(ha R).2, hy⟩ with y
      exact EReal.coe_mul x y ▸ EReal.coe_ne_top _

/-- A product of `n + m` decays is the product of the last `m` and the `n` before them. -/
theorem W_add (a : ℕ → EReal) (n : ℕ) : ∀ m R, W a (n + m) R = W a m R * W a n (R - m)
  | 0, R => by simp [W]
  | m + 1, 0 => by simp [W_zero]
  | m + 1, R + 1 => by
      show W a (n + m) R * a R = W a m R * a R * _
      rw [W_add a n m R, Nat.add_sub_add_right]
      ac_rfl

/-- The contribution of `n + m` inputs: the last `m`, and the `n` before them decayed by the last `m`. -/
theorem S_add {a : ℕ → EReal} (ha : ∀ R, 0 ≤ a R ∧ a R ≠ ⊤) (u : ℕ → EReal) (n : ℕ) :
    ∀ m R, S a u (n + m) R = W a m R * S a u n (R - m) + S a u m R
  | 0, R => by simp [W, S]
  | m + 1, 0 => by simp [S_zero]
  | m + 1, R + 1 => by
      show a R * S a u (n + m) R + u R = W a m R * a R * _ + (a R * S a u m R + u R)
      rw [S_add ha u n m R, Nat.add_sub_add_right,
        EReal.left_distrib_of_nonneg_of_ne_top (ha R).1 (ha R).2, ← add_assoc]
      congr 2
      ac_rfl

/-- Once all rows of the block are covered, decaying the starting state and adding the inputs' contribution is the
    recurrence. -/
theorem H_eq {a : ℕ → EReal} (ha : ∀ R, 0 ≤ a R ∧ a R ≠ ⊤) (u : ℕ → EReal) (h : EReal) :
    ∀ n R, R ≤ n → S a u n R + W a n R * h = H a u h R
  | 0, 0, _ => by simp [S, W, H]
  | n + 1, 0, _ => by simp [S, W, H]
  | n + 1, R + 1, hR => by
      show a R * S a u n R + u R + W a n R * a R * h = a R * _ + u R
      rw [← H_eq ha u h n R (by omega), EReal.left_distrib_of_nonneg_of_ne_top (ha R).1 (ha R).2]
      rw [add_right_comm]
      congr 2
      ac_rfl

/-- One doubling of the products, as the kernel writes it. -/
def stepA (d : BitVec 32) (A : FVec Ideal S256x512 .f32) : FVec Ideal S256x512 .f32 :=
  mulf A (select
    (broadcastTo S256x512 (shapeCast S256x1
      (cmpi .sge (iota .tc S256x1 32 [0] iota_S256x1_d0_w32) (broadcast S256x1 d)) shapeCasts_S256x1_S256x1)
      broadcasts_S256x1_S256x512)
    (dynamicRotate 0 d none A rotates_S256x512_d0)
    (broadcast S256x512 (Scalar.ofBits .f32 0x3F800000#32)))

/-- One doubling of the contributions, as the kernel writes it. -/
def stepU (d : BitVec 32) (A U : FVec Ideal S256x512 .f32) : FVec Ideal S256x512 .f32 :=
  addf (mulf A (select
    (broadcastTo S256x512 (shapeCast S256x1
      (cmpi .sge (iota .tc S256x1 32 [0] iota_S256x1_d0_w32) (broadcast S256x1 d)) shapeCasts_S256x1_S256x1)
      broadcasts_S256x1_S256x512)
    (dynamicRotate 0 d none U rotates_S256x512_d0)
    (broadcast S256x512 (Scalar.ofBits .f32 0x00000000#32)))) U

/-- The mask `row ≥ d` chooses by comparing the numbers. -/
theorem mask_select {r d : ℕ} (hr : r < 256) (hd : d < 256) (x y : EReal) :
    Scalar.select (IntOp.cmpi CmpIPredicate.sge (BitVec.ofNat 32 r) (BitVec.ofNat 32 d)) x y
      = if d ≤ r then x else y := by
  rw [WordCmp.cmpi_sge_ofNat (by omega) (by omega)]
  by_cases h : d ≤ r <;> simp [Scalar.select, h]

/-- One doubling of the products, at an index. -/
theorem stepA_apply {d : ℕ} (h0 : 0 < d) (hd : d < 256) (A : FVec Ideal S256x512 .f32) (r : Fin 256) (q : Fin 512) :
    stepA (BitVec.ofNat 32 d) A (ix2 r q)
      = A (ix2 r q) * if d ≤ r.val then A (ix2 ⟨r.val - d, by omega⟩ q) else 1 := by
  pointwise [stepA]
  rw [mask_select r.isLt hd]
  by_cases h : d ≤ r.val
  · rw [if_pos h, if_pos h]
    refine congrArg (fun k => A (ix2 r q) * A (ix2 k q)) (Fin.ext ?_)
    show (r.val + 256 - d % 4294967296 % 256) % 256 = r.val - d
    omega
  · rw [if_neg h, if_neg h]

/-- One doubling of the contributions, at an index. -/
theorem stepU_apply {d : ℕ} (h0 : 0 < d) (hd : d < 256) (A U : FVec Ideal S256x512 .f32) (r : Fin 256)
    (q : Fin 512) :
    stepU (BitVec.ofNat 32 d) A U (ix2 r q)
      = A (ix2 r q) * (if d ≤ r.val then U (ix2 ⟨r.val - d, by omega⟩ q) else 0) + U (ix2 r q) := by
  pointwise [stepU]
  rw [mask_select r.isLt hd]
  by_cases h : d ≤ r.val
  · rw [if_pos h, if_pos h]
    refine congrArg (fun k => A (ix2 r q) * U (ix2 k q) + U (ix2 r q)) (Fin.ext ?_)
    show (r.val + 256 - d % 4294967296 % 256) % 256 = r.val - d
    omega
  · rw [if_neg h, if_neg h, mul_zero]

/-- `A` holds at every row the product of the last `d` decays. -/
def HoldsW (a : Fin 512 → ℕ → EReal) (d : ℕ) (A : FVec Ideal S256x512 .f32) : Prop :=
  ∀ (r : Fin 256) (q : Fin 512), A (ix2 r q) = W (a q) d (r.val + 1)

/-- `U` holds at every row what the last `d` inputs contribute. -/
def HoldsS (a u : Fin 512 → ℕ → EReal) (d : ℕ) (U : FVec Ideal S256x512 .f32) : Prop :=
  ∀ (r : Fin 256) (q : Fin 512), U (ix2 r q) = S (a q) (u q) d (r.val + 1)

/-- A doubling takes the products of `d` decays to those of `2 d`. -/
theorem HoldsW.step {a : Fin 512 → ℕ → EReal} {d : ℕ} {A : FVec Ideal S256x512 .f32} (h : HoldsW a d A)
    (h0 : 0 < d) (hd : d < 256) : HoldsW a (d + d) (stepA (BitVec.ofNat 32 d) A) := fun r q => by
  rw [stepA_apply h0 hd, h r q, W_add]
  by_cases hr : d ≤ r.val
  · rw [if_pos hr, h _ q]
    show _ * W (a q) d (r.val - d + 1) = _
    rw [show r.val - d + 1 = r.val + 1 - d by omega]
  · rw [if_neg hr, show r.val + 1 - d = 0 by omega, W_zero]

/-- A doubling takes the contributions of `d` inputs to those of `2 d`. -/
theorem HoldsS.step {a u : Fin 512 → ℕ → EReal} (ha : ∀ q R, 0 ≤ a q R ∧ a q R ≠ ⊤) {d : ℕ}
    {A U : FVec Ideal S256x512 .f32} (h : HoldsS a u d U) (hA : HoldsW a d A)
    (h0 : 0 < d) (hd : d < 256) : HoldsS a u (d + d) (stepU (BitVec.ofNat 32 d) A U) := fun r q => by
  rw [stepU_apply h0 hd, hA r q, h r q, S_add (ha q)]
  by_cases hr : d ≤ r.val
  · rw [if_pos hr, h _ q]
    show _ * S (a q) (u q) d (r.val - d + 1) + _ = _
    rw [show r.val - d + 1 = r.val + 1 - d by omega]
  · rw [if_neg hr, show r.val + 1 - d = 0 by omega, S_zero]

/-- The rows' states, as the kernel computes them from the decays, the inputs and the state carried in: eight
    doublings of both, then the carried state decayed by the whole product. -/
def states (a u : FVec Ideal S256x512 .f32) (h : FVec Ideal S1x512 .f32) : FVec Ideal S256x512 .f32 :=
  let A1 := stepA 1#32 a
  let A2 := stepA 2#32 A1
  let A3 := stepA 4#32 A2
  let A4 := stepA 8#32 A3
  let A5 := stepA 16#32 A4
  let A6 := stepA 32#32 A5
  let A7 := stepA 64#32 A6
  let U7 := stepU 64#32 A6 (stepU 32#32 A5 (stepU 16#32 A4 (stepU 8#32 A3
    (stepU 4#32 A2 (stepU 2#32 A1 (stepU 1#32 a u))))))
  addf (stepU 128#32 A7 U7) (mulf (stepA 128#32 A7) (broadcastTo S256x512 h broadcasts_S1x512_S256x512))

/-- The states, at an index: the recurrence from the carried state. -/
theorem states_apply {a u : Fin 512 → ℕ → EReal} (ha : ∀ q R, 0 ≤ a q R ∧ a q R ≠ ⊤)
    (A U : FVec Ideal S256x512 .f32) (h : FVec Ideal S1x512 .f32)
    (hA : ∀ (r : Fin 256) (q : Fin 512), A (ix2 r q) = a q r.val)
    (hU : ∀ (r : Fin 256) (q : Fin 512), U (ix2 r q) = u q r.val) (r : Fin 256) (q : Fin 512) :
    states A U h (ix2 r q) = H (a q) (u q) (h (ix2 0 q)) (r.val + 1) := by
  have w0 : HoldsW a 1 A := fun r q => by rw [hA r q, W_one]
  have s0 : HoldsS a u 1 U := fun r q => by rw [hU r q, S_one]
  have w1 := w0.step (by omega) (by omega)
  have s1 := s0.step ha w0 (by omega) (by omega)
  have w2 := w1.step (by omega) (by omega)
  have s2 := s1.step ha w1 (by omega) (by omega)
  have w3 := w2.step (by omega) (by omega)
  have s3 := s2.step ha w2 (by omega) (by omega)
  have w4 := w3.step (by omega) (by omega)
  have s4 := s3.step ha w3 (by omega) (by omega)
  have w5 := w4.step (by omega) (by omega)
  have s5 := s4.step ha w4 (by omega) (by omega)
  have w6 := w5.step (by omega) (by omega)
  have s6 := s5.step ha w5 (by omega) (by omega)
  have w7 := w6.step (by omega) (by omega)
  have s7 := s6.step ha w6 (by omega) (by omega)
  have w8 := w7.step (by omega) (by omega) r q
  have s8 := s7.step ha w7 (by omega) (by omega) r q
  rw [← H_eq (ha q) (u q) _ 256 (r.val + 1) (by omega)]
  unfold states
  pointwise []
  exact congrArg₂ (· + ·) s8 (congrArg (· * h (ix2 0 q)) w8)

/-- The last row's state, which the kernel carries on. -/
def lastState (s : FVec Ideal S256x512 .f32) : FVec Ideal S1x512 .f32 :=
  shapeCast S1x512 (extractStridedSlice S1x512 ![255, 0] s slices_S256x512_o255_0_S1x512) shapeCasts_S1x512_S1x512

/-- The carried state, at an index. -/
theorem lastState_apply (s : FVec Ideal S256x512 .f32) (q : Fin 512) :
    lastState s (ix2 0 q) = s (ix2 255 q) := by
  pointwise [lastState]

end Cert.LruIdeal.Scan
-- ==== Proof.LruSpec.lean ====
module

public import Idealize.ShloMosaic.Lib.IdealHost
public import proofs.«01_k».proof.Proof.LruScan

@[expose] public section

noncomputable section

/-! # The gated linear recurrence, as mathematics

What one sequence of the layer computes, in extended reals: a causal convolution of four taps over the rows, two gates
(a block-diagonal map and a logistic function each), the decay and the input they give each row, the recurrence, and the
gated output.  Rows are counted within the sequence; the rows before the first are zero. -/

namespace Cert.Lru

open Idealize.ShloMosaic

/-- A row `d` steps back, zero before the first. -/
def tap (x : ℕ → EReal) (d i : ℕ) : EReal := if d ≤ i then x (i - d) else 0

/-- The causal convolution of four taps, with its offset. -/
def conv (x : ℕ → Fin 512 → EReal) (w : Fin 4 → Fin 512 → EReal) (b : Fin 512 → EReal) (i : ℕ) (q : Fin 512) : EReal :=
  x i q * w 3 q + tap (x · q) 1 i * w 2 q + tap (x · q) 2 i * w 1 q + tap (x · q) 3 i * w 0 q + b q

/-- A gate's linear part: eight diagonal blocks of 64 columns, with its offset. -/
def lin (y : Fin 512 → EReal) (w : Fin 8 → Fin 64 → Fin 64 → EReal) (b : Fin 512 → EReal) (q : Fin 512) : EReal :=
  ∑ k : Fin 64, w ⟨q.val / 64, by omega⟩ k ⟨q.val % 64, by omega⟩ * y ⟨q.val / 64 * 64 + k.val, by omega⟩ + b q

/-- The logistic function. -/
def gate (t : EReal) : EReal := Ideal.div 1 (1 + Ideal.exp (-t))

/-- `log (1 + exp z)`, written so that nothing overflows. -/
def softplus (z : EReal) : EReal := max z 0 + Ideal.log (1 + Ideal.exp (-(max z (-z))))

/-- The logarithm of a row's decay, of its gate `r` and the layer's parameter. -/
def logDecay (r l : EReal) : EReal := Ideal.ofBits .f32 0xC1000000#32 * r * softplus (-l)

/-- A row's input to the recurrence. -/
def input (y g la : EReal) : EReal := y * g * Ideal.sqrt (1 - Ideal.exp (Ideal.ofBits .f32 0x40000000#32 * la))

/-- The output's gate. -/
def gelu (y : EReal) : EReal :=
  Ideal.ofBits .f32 0x3F000000#32 * y * (1 + Ideal.tanh (Ideal.ofBits .f32 0x3F4C422A#32 *
    (y + Ideal.ofBits .f32 0x3D372713#32 * (y * y * y))))

/-- The logistic function is never negative. -/
theorem gate_nonneg (t : EReal) : 0 ≤ gate t := by
  show 0 ≤ Ideal.logistic t
  induction t using EReal.rec with
  | bot => rw [Ideal.logistic_bot]
  | top => rw [Ideal.logistic_top]; exact zero_le_one
  | coe r =>
    rw [Ideal.logistic_coe]
    exact EReal.coe_nonneg.mpr (by positivity)

/-- `log (1 + exp z)` is never negative. -/
theorem log_nonneg (z : EReal) : 0 ≤ Ideal.log (1 + Ideal.exp z) := by
  induction z using EReal.rec with
  | bot =>
    rw [Ideal.exp_bot, add_zero, ← EReal.coe_one, Ideal.log_coe, if_neg (by norm_num), Real.log_one]
    exact le_refl _
  | top =>
    rw [Ideal.exp_top, EReal.add_top_of_ne_bot (show (1 : EReal) ≠ ⊥ from EReal.coe_ne_bot 1), Ideal.log_top]
    exact le_top
  | coe r =>
    have h : (1 : EReal) + Ideal.exp r = ((1 + Real.exp r : ℝ) : EReal) := by simp
    have hr := Real.exp_pos r
    rw [h, Ideal.log_coe, if_neg (by linarith)]
    exact EReal.coe_nonneg.mpr (Real.log_nonneg (by linarith))

/-- The softplus is never negative. -/
theorem softplus_nonneg (z : EReal) : 0 ≤ softplus z :=
  add_nonneg (le_max_right _ _) (log_nonneg _)

/-- The decay's constant is minus eight. -/
theorem word_neg_eight : Ideal.ofBits .f32 0xC1000000#32 = -((8 : ℝ) : EReal) := by
  rw [← EReal.coe_neg]
  simp [Ideal.ofBits, Ideal.ieee, -EReal.coe_mul, -EReal.coe_neg]; norm_num

/-- The logarithm of a decay is never positive. -/
theorem logDecay_nonpos (t l : EReal) : logDecay (gate t) l ≤ 0 := by
  unfold logDecay
  rw [word_neg_eight, EReal.neg_mul, EReal.neg_mul, EReal.neg_le, neg_zero]
  exact mul_nonneg (mul_nonneg (EReal.coe_nonneg.mpr (by norm_num)) (gate_nonneg t)) (softplus_nonneg _)

/-- A decay lies between zero and one; here: it is not negative and not infinite. -/
theorem exp_bounds {z : EReal} (h : z ≤ 0) : 0 ≤ Ideal.exp z ∧ Ideal.exp z ≠ ⊤ := by
  induction z using EReal.rec with
  | bot => rw [Ideal.exp_bot]; exact ⟨le_refl _, EReal.coe_ne_top 0⟩
  | top => exact absurd h (by simp)
  | coe r => rw [Ideal.exp_coe]; exact ⟨EReal.coe_nonneg.mpr (Real.exp_pos r).le, EReal.coe_ne_top _⟩

/-- The reference's `-(exp z - 1)` is `1 - exp z`. -/
theorem neg_expm1 (z : EReal) : -(Ideal.exp z - 1) = 1 - Ideal.exp z := by
  rw [EReal.neg_sub (.inr (show (1 : EReal) ≠ ⊥ from EReal.coe_ne_bot 1)) (.inr (show (1 : EReal) ≠ ⊤ from EReal.coe_ne_top 1)), add_comm, ← sub_eq_add_neg]

section Sequence

variable (x : ℕ → Fin 512 → EReal) (cw : Fin 4 → Fin 512 → EReal) (cb : Fin 512 → EReal)
  (wr : Fin 8 → Fin 64 → Fin 64 → EReal) (br : Fin 512 → EReal)
  (wi : Fin 8 → Fin 64 → Fin 64 → EReal) (bi lam : Fin 512 → EReal)

/-- The logarithm of row `i`'s decay. -/
def rowLog (i : ℕ) (q : Fin 512) : EReal := logDecay (gate (lin (conv x cw cb i) wr br q)) (lam q)

/-- Row `i`'s decay. -/
def rowDecay (q : Fin 512) (i : ℕ) : EReal := Ideal.exp (rowLog x cw cb wr br lam i q)

/-- Row `i`'s input. -/
def rowInput (q : Fin 512) (i : ℕ) : EReal :=
  input (conv x cw cb i q) (gate (lin (conv x cw cb i) wi bi q)) (rowLog x cw cb wr br lam i q)

/-- The state before row `i`, from a zero state before the sequence. -/
def rowState (q : Fin 512) (i : ℕ) : EReal :=
  LruIdeal.Scan.H (rowDecay x cw cb wr br lam q) (rowInput x cw cb wr br wi bi lam q) 0 i

/-- Decays are neither negative nor infinite. -/
theorem rowDecay_bounds (q : Fin 512) (i : ℕ) :
    0 ≤ rowDecay x cw cb wr br lam q i ∧ rowDecay x cw cb wr br lam q i ≠ ⊤ :=
  exp_bounds (logDecay_nonpos _ _)

end Sequence

/-- The convolved half of one sequence's rows, of the layer's projected array. -/
def rows (p : (⟨2, ![16384, 1024]⟩ : Shape).Idx → EReal) (s : Fin 4) (i : ℕ) (q : Fin 512) : EReal :=
  if h : i < 4096 then p (ix2 ⟨s.val * 4096 + i, by omega⟩ ⟨q.val, by omega⟩) else 0

/-- A row of the array is the array's. -/
theorem rows_of_lt (p : (⟨2, ![16384, 1024]⟩ : Shape).Idx → EReal) (s : Fin 4) {i : ℕ} (h : i < 4096) (q : Fin 512) :
    rows p s i q = p (ix2 ⟨s.val * 4096 + i, by omega⟩ ⟨q.val, by omega⟩) := dif_pos h

/-- The result array: the state after the row, times its output gate. -/
def result (p : (⟨2, ![16384, 1024]⟩ : Shape).Idx → EReal) (cw : (⟨2, ![4, 512]⟩ : Shape).Idx → EReal)
    (cb : (⟨1, ![512]⟩ : Shape).Idx → EReal) (wr : (⟨3, ![8, 64, 64]⟩ : Shape).Idx → EReal)
    (br : (⟨1, ![512]⟩ : Shape).Idx → EReal) (wi : (⟨3, ![8, 64, 64]⟩ : Shape).Idx → EReal)
    (bi lam : (⟨1, ![512]⟩ : Shape).Idx → EReal) (R : Fin 16384) (q : Fin 512) : EReal :=
  rowState (rows p ⟨R.val / 4096, by omega⟩) (fun k q => cw (ix2 k q)) (fun q => cb (ix1 q))
    (fun g a b => wr (ix3 g a b)) (fun q => br (ix1 q)) (fun g a b => wi (ix3 g a b)) (fun q => bi (ix1 q))
    (fun q => lam (ix1 q)) q (R.val % 4096 + 1) * gelu (p (ix2 R ⟨512 + q.val, by omega⟩))

/-- Starting over from the state reached at row `B`. -/
theorem H_shift (a u : ℕ → EReal) (h : EReal) (B : ℕ) : ∀ R,
    LruIdeal.Scan.H (fun i => a (B + i)) (fun i => u (B + i)) (LruIdeal.Scan.H a u h B) R = LruIdeal.Scan.H a u h (B + R)
  | 0 => rfl
  | R + 1 => by
      show _ * LruIdeal.Scan.H _ _ _ R + _ = _
      rw [H_shift a u h B R]
      rfl

end Cert.Lru
-- ==== Proof.LruBlock.lean ====
module

public import proofs.«01_k».proof.Proof.LruSpec
public import proofs.«01_k».proof.Proof.Gen.LruIdeal.Value
public import Idealize.ShloMosaic.Lib.Pointwise
public import Idealize.ShloMosaic.Lib.WordCmp
public import Idealize.ShloMosaic.Lib.Pipeline.ValueKit
public import Idealize.ShloMosaic.Lib.Pipeline.ReadBack

@[expose] public section

set_option maxRecDepth 16384

noncomputable section

/-! # What one block of the kernel's recurrence computes

A block is 256 rows of a sequence.  The kernel carries the last eight rows of the block before and the state it ended
in; from these and the block's rows it computes the block's convolution, gates, states and result. -/

namespace Cert.LruIdeal.Block

open Cert.LruIdeal Cert.LruIdeal.Gen Idealize.ShloMosaic Idealize.ShloMosaic.TcCoe
open Cert.Lru Cert.LruIdeal.Scan

/-! ## The block's values, by name -/

/-- The convolution of a block's rows. -/
def convV (X : Vec Ideal S256x1024 .f32) (C : Vec Ideal S4x512 .f32) (cb : Vec Ideal S1x512 .f32)
    (hist : Vec Ideal S8x512 .f32) : FVec Ideal S256x512 .f32 :=
  k0_pay7 (k0_pay4 X) (iota .tc S8x1 32 [0] iota_S8x1_d0_w32) hist
    (k0_pay5 X hist (View.ld C (Rect.unit ![3, 0] ![1, 512] inb_S4x512_S1x512_3_0))
      (View.ld C (Rect.unit ![2, 0] ![1, 512] inb_S4x512_S1x512_2_0))
      (View.ld C (Rect.unit ![1, 0] ![1, 512] inb_S4x512_S1x512_1_0))) 3#32
    (View.ld C (Rect.unit ![0, 0] ![1, 512] inb_S4x512_S1x512_0_0)) cb

/-- The first gate of a block's rows. -/
def gateV (X : Vec Ideal S256x1024 .f32) (C : Vec Ideal S4x512 .f32) (cb : Vec Ideal S1x512 .f32)
    (G : Vec Ideal S512x512 .bf16) (b : Vec Ideal S1x512 .f32) (hist : Vec Ideal S8x512 .f32) :
    FVec Ideal S256x512 .f32 :=
  k0_pay8 (k0_pay4 X) (iota .tc S8x1 32 [0] iota_S8x1_d0_w32) hist
    (k0_pay5 X hist (View.ld C (Rect.unit ![3, 0] ![1, 512] inb_S4x512_S1x512_3_0))
      (View.ld C (Rect.unit ![2, 0] ![1, 512] inb_S4x512_S1x512_2_0))
      (View.ld C (Rect.unit ![1, 0] ![1, 512] inb_S4x512_S1x512_1_0))) 3#32
    (View.ld C (Rect.unit ![0, 0] ![1, 512] inb_S4x512_S1x512_0_0)) cb G b

/-- The inputs a block's rows give the recurrence. -/
def inputV (X : Vec Ideal S256x1024 .f32) (C : Vec Ideal S4x512 .f32) (cb : Vec Ideal S1x512 .f32)
    (Gr : Vec Ideal S512x512 .bf16) (br : Vec Ideal S1x512 .f32) (Gi : Vec Ideal S512x512 .bf16)
    (bi lam : Vec Ideal S1x512 .f32) (hist : Vec Ideal S8x512 .f32) : FVec Ideal S256x512 .f32 :=
  k0_pay12 (convV X C cb hist) (gateV X C cb Gr br hist) (k0_pay9 Gi) (truncf .bf16 (convV X C cb hist) bitsLt_bf16_f32)
    (constant S256x512 .f32 0x00000000#32) bi lam

/-- The states of a block's rows. -/
def statesV (X : Vec Ideal S256x1024 .f32) (C : Vec Ideal S4x512 .f32) (cb : Vec Ideal S1x512 .f32)
    (Gr : Vec Ideal S512x512 .bf16) (br : Vec Ideal S1x512 .f32) (Gi : Vec Ideal S512x512 .bf16)
    (bi lam : Vec Ideal S1x512 .f32) (hist : Vec Ideal S8x512 .f32) (h : Vec Ideal S1x512 .f32) :
    FVec Ideal S256x512 .f32 :=
  states (k0_pay13 (gateV X C cb Gr br hist) lam) (inputV X C cb Gr br Gi bi lam hist) h

/-- What a block leaves: its result, the rows it carries on and the state it carries on. -/
def bodyV (X : Vec Ideal S256x1024 .f32) (C : Vec Ideal S4x512 .f32) (cb : Vec Ideal S1x512 .f32)
    (Gr : Vec Ideal S512x512 .bf16) (br : Vec Ideal S1x512 .f32) (Gi : Vec Ideal S512x512 .bf16)
    (bi lam : Vec Ideal S1x512 .f32) (hist : Vec Ideal S8x512 .f32) (h : Vec Ideal S1x512 .f32) :
    Vec Ideal S256x512 .bf16 × Vec Ideal S8x512 .f32 × Vec Ideal S1x512 .f32 :=
  (k0_pay1 (statesV X C cb Gr br Gi bi lam hist h) (k0_pay35 X) (k0_pay36 X), k0_pay6 (k0_pay4 X),
    lastState (statesV X C cb Gr br Gi bi lam hist h))

/-- The kernel's chain of doublings is the one of the mathematics. -/
theorem states_eq (a u : FVec Ideal S256x512 .f32) (h : FVec Ideal S1x512 .f32) :
    k0_pay32 (iota .tc S256x1 32 [0] iota_S256x1_d0_w32)
      (k0_pay28 (iota .tc S256x1 32 [0] iota_S256x1_d0_w32)
        (k0_pay20 u a (iota .tc S256x1 32 [0] iota_S256x1_d0_w32) k0_pay14
          (dynamicRotate 0 1#32 none a rotates_S256x512_d0) (FloatOps.ofBits .f32 1065353216#32))
        (k0_pay21 a (iota .tc S256x1 32 [0] iota_S256x1_d0_w32) k0_pay14
          (dynamicRotate 0 1#32 none a rotates_S256x512_d0) (FloatOps.ofBits .f32 1065353216#32))
        (k0_pay22 (iota .tc S256x1 32 [0] iota_S256x1_d0_w32))
        (k0_pay23 a (iota .tc S256x1 32 [0] iota_S256x1_d0_w32) k0_pay14
          (dynamicRotate 0 1#32 none a rotates_S256x512_d0) (FloatOps.ofBits .f32 1065353216#32))
        (FloatOps.ofBits .f32 1065353216#32))
      (k0_pay29 (iota .tc S256x1 32 [0] iota_S256x1_d0_w32)
        (k0_pay21 a (iota .tc S256x1 32 [0] iota_S256x1_d0_w32) k0_pay14
          (dynamicRotate 0 1#32 none a rotates_S256x512_d0) (FloatOps.ofBits .f32 1065353216#32))
        (k0_pay22 (iota .tc S256x1 32 [0] iota_S256x1_d0_w32))
        (k0_pay23 a (iota .tc S256x1 32 [0] iota_S256x1_d0_w32) k0_pay14
          (dynamicRotate 0 1#32 none a rotates_S256x512_d0) (FloatOps.ofBits .f32 1065353216#32))
        (FloatOps.ofBits .f32 1065353216#32))
      (k0_pay30 (iota .tc S256x1 32 [0] iota_S256x1_d0_w32))
      (k0_pay31 (iota .tc S256x1 32 [0] iota_S256x1_d0_w32)
        (k0_pay21 a (iota .tc S256x1 32 [0] iota_S256x1_d0_w32) k0_pay14
          (dynamicRotate 0 1#32 none a rotates_S256x512_d0) (FloatOps.ofBits .f32 1065353216#32))
        (k0_pay22 (iota .tc S256x1 32 [0] iota_S256x1_d0_w32))
        (k0_pay23 a (iota .tc S256x1 32 [0] iota_S256x1_d0_w32) k0_pay14
          (dynamicRotate 0 1#32 none a rotates_S256x512_d0) (FloatOps.ofBits .f32 1065353216#32))
        (FloatOps.ofBits .f32 1065353216#32))
      (FloatOps.ofBits .f32 1065353216#32) h = states a u h := rfl

variable (m : (ℓ : Loc nD τ sig) → Buf (Elt Ideal) ℓ)

/-- A block inside a sequence: what it leaves, of what the block before left. -/
theorem outs_B (c : Dev nD) (t : Fin cfg0.N) (h0 : ¬t.val % 16 = 0) :
    outsAt0 (F := Ideal) m c t.val t.isLt
      = bodyV (iblk m c 0 t) (iblk m c 1 t) (iblk m c 2 t) (iblk m c 3 t) (iblk m c 4 t) (iblk m c 5 t) (iblk m c 6 t)
          (iblk m c 7 t) (outsAt0 (F := Ideal) m c (t.val - 1) (by omega)).2.1
          (outsAt0 (F := Ideal) m c (t.val - 1) (by omega)).2.2 := by
  rw [outsAt0_B m c t h0]
  frame_out
  simp only [read_unread_whole]
  refine Prod.ext ?_ (Prod.ext rfl ?_)
  · exact congrArg (fun x => k0_pay1 x _ _) (states_eq _ _ _)
  · exact congrArg lastState (states_eq _ _ _)

/-- A sequence's first block: what it leaves, from zero rows and a zero state. -/
theorem outs_A (c : Dev nD) (t : Fin cfg0.N) (h0 : t.val % 16 = 0) :
    outsAt0 (F := Ideal) m c t.val t.isLt
      = bodyV (iblk m c 0 t) (iblk m c 1 t) (iblk m c 2 t) (iblk m c 3 t) (iblk m c 4 t) (iblk m c 5 t) (iblk m c 6 t)
          (iblk m c 7 t) (k0_pay2 (F := Ideal)) (k0_pay3 (F := Ideal)) := by
  rw [outsAt0_A m c t h0]
  frame_out
  refine Prod.ext ?_ (Prod.ext rfl ?_)
  · exact congrArg (fun x => k0_pay1 x _ _) (states_eq _ _ _)
  · exact congrArg lastState (states_eq _ _ _)

end Cert.LruIdeal.Block
-- ==== Proof.LruRows.lean ====
module

public import proofs.«01_k».proof.Proof.LruBlock

@[expose] public section

set_option maxRecDepth 16384

noncomputable section

/-! # A block's values, row by row

What one block computes, read at a row and a column, is the sequence's mathematics at the block's rows. -/

namespace Cert.LruIdeal.Block

open Cert.LruIdeal Cert.LruIdeal.Gen Idealize.ShloMosaic Idealize.ShloMosaic.TcCoe
open Cert.Lru Cert.LruIdeal.Scan

/-- The mask `row < d` chooses by comparing the numbers. -/
theorem mask_lt {r d : ℕ} (hr : r < 256) (hd : d < 256) (x y : EReal) :
    Scalar.select (IntOp.cmpi CmpIPredicate.slt (BitVec.ofNat 32 r) (BitVec.ofNat 32 d)) x y
      = if r < d then x else y := by
  rw [WordCmp.cmpi_slt_ofNat (by omega) (by omega)]
  by_cases h : r < d <;> simp [Scalar.select, h]

section Block

variable {x : ℕ → Fin 512 → EReal} {B : ℕ} {X : Vec Ideal S256x1024 .f32} {hist : Vec Ideal S8x512 .f32}

/-- A row `d` steps back, as the kernel finds it: in the block, or among the eight rows carried from the block before. -/
theorem tap_block (hX : ∀ (r : Fin 256) (q : Fin 512), X (ix2 r ⟨q.val, by omega⟩) = x (B + r.val) q)
    (hh : ∀ (j : Fin 8) (q : Fin 512), hist (ix2 j q) = if 8 ≤ B + j.val then x (B + j.val - 8) q else 0)
    (r : Fin 256) (q : Fin 512) (d : ℕ) (hd : 0 < d) (hd8 : d < 8) :
    (if h : r.val < 8 then
        Scalar.select (IntOp.cmpi CmpIPredicate.slt (BitVec.ofNat 32 r.val) (BitVec.ofNat 32 d))
          (hist (ix2 ⟨(r.val + 8 - d) % 8, by omega⟩ q)) (X (ix2 ⟨(r.val + 256 - d) % 256, by omega⟩ ⟨q.val, by omega⟩))
      else X (ix2 ⟨(8 + (r.val - 8) + 256 - d) % 256, by omega⟩ ⟨q.val, by omega⟩)) = tap (x · q) d (B + r.val) := by
  have hr := r.isLt
  have hin : d ≤ r.val → x (B + (r.val - d)) q = tap (x · q) d (B + r.val) := fun h => by
    unfold tap
    rw [if_pos (by omega), show B + r.val - d = B + (r.val - d) by omega]
  by_cases h : r.val < 8
  · rw [dif_pos h, mask_lt (by omega) (by omega)]
    by_cases h' : r.val < d
    · rw [if_pos h', hh]
      unfold tap
      simp only [show (r.val + 8 - d) % 8 = r.val + 8 - d by omega]
      by_cases h'' : d ≤ B + r.val
      · rw [if_pos h'', if_pos (by omega), show B + (r.val + 8 - d) - 8 = B + r.val - d by omega]
      · rw [if_neg h'', if_neg (by omega)]
    · rw [if_neg h', hX, ← hin (by omega)]
      simp only [show (r.val + 256 - d) % 256 = r.val - d by omega]
  · rw [dif_neg h, hX, ← hin (by omega)]
    simp only [show (8 + (r.val - 8) + 256 - d) % 256 = r.val - d by omega]

/-- The convolution of a block's rows. -/
theorem conv_apply (hX : ∀ (r : Fin 256) (q : Fin 512), X (ix2 r ⟨q.val, by omega⟩) = x (B + r.val) q)
    (hh : ∀ (j : Fin 8) (q : Fin 512), hist (ix2 j q) = if 8 ≤ B + j.val then x (B + j.val - 8) q else 0)
    (C : Vec Ideal S4x512 .f32) (cb : Vec Ideal S1x512 .f32) (r : Fin 256) (q : Fin 512) :
    convV X C cb hist (ix2 r q) = conv x (fun k q => C (ix2 k q)) (fun q => cb (ix2 0 q)) (B + r.val) q := by
  unfold conv
  rw [← tap_block hX hh r q 1 (by omega) (by omega), ← tap_block hX hh r q 2 (by omega) (by omega),
    ← tap_block hX hh r q 3 (by omega) (by omega), ← hX]
  unfold convV
  pointwise [k0_pay7, k0_pay4, k0_pay5]

/-- A product with a block-diagonal matrix keeps the column's own block. -/
theorem sum_diag (y : Fin 512 → EReal) (w : Fin 8 → Fin 64 → Fin 64 → EReal) (q : Fin 512) :
    ∑ k : Fin 512, y k * (if k.val / 64 = q.val / 64 then
        w ⟨k.val / 64, by omega⟩ ⟨k.val % 64, by omega⟩ ⟨q.val % 64, by omega⟩ else 0)
      = ∑ k : Fin 64, w ⟨q.val / 64, by omega⟩ k ⟨q.val % 64, by omega⟩ * y ⟨q.val / 64 * 64 + k.val, by omega⟩ := by
  simp only [mul_ite, mul_zero]
  rw [← Finset.sum_filter]
  refine Finset.sum_bij' (fun k _ => (⟨k.val % 64, by omega⟩ : Fin 64))
    (fun k _ => (⟨q.val / 64 * 64 + k.val, by omega⟩ : Fin 512)) (fun _ _ => Finset.mem_univ _) ?_ ?_ ?_ ?_
  · intro k _
    refine Finset.mem_filter.mpr ⟨Finset.mem_univ _, ?_⟩
    show (q.val / 64 * 64 + k.val) / 64 = q.val / 64
    omega
  · intro k hk
    have h := (Finset.mem_filter.mp hk).2
    apply Fin.ext
    show q.val / 64 * 64 + k.val % 64 = k.val
    omega
  · intro k _
    apply Fin.ext
    show (q.val / 64 * 64 + k.val) % 64 = k.val
    omega
  · intro k hk
    have h := (Finset.mem_filter.mp hk).2
    rw [mul_comm]
    have e : k = ⟨q.val / 64 * 64 + k.val % 64, by omega⟩ := by
      apply Fin.ext
      show k.val = q.val / 64 * 64 + k.val % 64
      omega
    simp only [h]
    exact congrArg (w _ _ _ * ·) (congrArg y e)

section Gates

variable {G : Vec Ideal S512x512 .bf16} {w : Fin 8 → Fin 64 → Fin 64 → EReal}

/-- A gate's linear part as a product with the whole block-diagonal matrix. -/
theorem lin_diag (hG : ∀ k q : Fin 512, G (ix2 k q) = if k.val / 64 = q.val / 64 then
        w ⟨k.val / 64, by omega⟩ ⟨k.val % 64, by omega⟩ ⟨q.val % 64, by omega⟩ else 0)
    (y b : Fin 512 → EReal) (q : Fin 512) : lin y w b q = ∑ k : Fin 512, y k * G (ix2 k q) + b q := by
  simp only [hG]
  rw [sum_diag]
  rfl

/-- The first gate of a block's rows, from the block's convolution. -/
theorem gate_apply (C : Vec Ideal S4x512 .f32) (cb b : Vec Ideal S1x512 .f32)
    (hG : ∀ k q : Fin 512, G (ix2 k q) = if k.val / 64 = q.val / 64 then
        w ⟨k.val / 64, by omega⟩ ⟨k.val % 64, by omega⟩ ⟨q.val % 64, by omega⟩ else 0)
    (r : Fin 256) (q : Fin 512) :
    gateV X C cb G b hist (ix2 r q)
      = gate (lin (fun k => convV X C cb hist (ix2 r k)) w (fun q => b (ix2 0 q)) q) := by
  rw [lin_diag hG]
  unfold gate
  unfold gateV convV
  generalize k0_pay5 (F := Ideal) X hist _ _ _ = T
  pointwise [k0_pay8, dot_S256x512_S512x512_S256x512_1_0_0_1_n_n]
  rw [zero_sub]

/-- The decays, from the gate. -/
theorem decay_apply (R : FVec Ideal S256x512 .f32) (lam : Vec Ideal S1x512 .f32) (r : Fin 256) (q : Fin 512) :
    k0_pay13 (F := Ideal) R lam (ix2 r q) = Ideal.exp (logDecay (R (ix2 r q)) (lam (ix2 0 q))) := by
  pointwise [k0_pay13, k0_pay11]
  unfold logDecay softplus
  rw [zero_sub, zero_sub]
  rfl

/-- The inputs, from the convolution and the first gate. -/
theorem input_apply (Y R : FVec Ideal S256x512 .f32) (b lam : Vec Ideal S1x512 .f32)
    (hG : ∀ k q : Fin 512, G (ix2 k q) = if k.val / 64 = q.val / 64 then
        w ⟨k.val / 64, by omega⟩ ⟨k.val % 64, by omega⟩ ⟨q.val % 64, by omega⟩ else 0)
    (r : Fin 256) (q : Fin 512) :
    k0_pay12 (F := Ideal) Y R (k0_pay9 G) (truncf .bf16 Y bitsLt_bf16_f32) (constant S256x512 .f32 0x00000000#32) b lam (ix2 r q)
      = input (Y (ix2 r q)) (gate (lin (fun k => Y (ix2 r k)) w (fun q => b (ix2 0 q)) q))
          (logDecay (R (ix2 r q)) (lam (ix2 0 q))) := by
  rw [lin_diag hG]
  unfold input gate logDecay softplus
  pointwise [k0_pay12, k0_pay11, k0_pay9, dot_S256x512_S512x512_S256x512_1_0_0_1_n_n]
  rw [zero_sub, zero_sub, zero_sub]
  rfl

/-- The output of a block's rows, from its states. -/
theorem out_apply (s : FVec Ideal S256x512 .f32) (r : Fin 256) (q : Fin 512) :
    k0_pay1 (F := Ideal) s (k0_pay35 X) (k0_pay36 X) (ix2 r q)
      = s (ix2 r q) * gelu (X (ix2 r ⟨512 + q.val, by omega⟩)) := by
  pointwise [k0_pay1, k0_pay35, k0_pay36, k0_pay34]
  rfl

/-- The rows a block carries on are its last eight. -/
theorem hist_apply (j : Fin 8) (q : Fin 512) :
    k0_pay6 (F := Ideal) (k0_pay4 X) (ix2 j q) = X (ix2 ⟨248 + j.val, by omega⟩ ⟨q.val, by omega⟩) := by
  pointwise [k0_pay6, k0_pay4]

end Gates

/-- The states of a block's rows: row `r` of the block ends in the state before row `B + r + 1` of the sequence. -/
theorem states_row {C : Vec Ideal S4x512 .f32} {cb br bi lam : Vec Ideal S1x512 .f32} {Gr Gi : Vec Ideal S512x512 .bf16}
    {h : Vec Ideal S1x512 .f32} {wr wi : Fin 8 → Fin 64 → Fin 64 → EReal}
    (hX : ∀ (r : Fin 256) (q : Fin 512), X (ix2 r ⟨q.val, by omega⟩) = x (B + r.val) q)
    (hh : ∀ (j : Fin 8) (q : Fin 512), hist (ix2 j q) = if 8 ≤ B + j.val then x (B + j.val - 8) q else 0)
    (hGr : ∀ k q : Fin 512, Gr (ix2 k q) = if k.val / 64 = q.val / 64 then
        wr ⟨k.val / 64, by omega⟩ ⟨k.val % 64, by omega⟩ ⟨q.val % 64, by omega⟩ else 0)
    (hGi : ∀ k q : Fin 512, Gi (ix2 k q) = if k.val / 64 = q.val / 64 then
        wi ⟨k.val / 64, by omega⟩ ⟨k.val % 64, by omega⟩ ⟨q.val % 64, by omega⟩ else 0)
    (hs : ∀ q : Fin 512, h (ix2 0 q) = rowState x (fun k q => C (ix2 k q)) (fun q => cb (ix2 0 q)) wr
      (fun q => br (ix2 0 q)) wi (fun q => bi (ix2 0 q)) (fun q => lam (ix2 0 q)) q B)
    (r : Fin 256) (q : Fin 512) :
    statesV X C cb Gr br Gi bi lam hist h (ix2 r q)
      = rowState x (fun k q => C (ix2 k q)) (fun q => cb (ix2 0 q)) wr (fun q => br (ix2 0 q)) wi
          (fun q => bi (ix2 0 q)) (fun q => lam (ix2 0 q)) q (B + (r.val + 1)) := by
  have hg : ∀ (r : Fin 256) (q : Fin 512), gateV X C cb Gr br hist (ix2 r q)
      = gate (lin (conv x (fun k q => C (ix2 k q)) (fun q => cb (ix2 0 q)) (B + r.val)) wr (fun q => br (ix2 0 q)) q) := fun r q => by
    rw [gate_apply C cb br hGr]
    simp only [conv_apply hX hh]
  unfold statesV
  rw [states_apply (a := fun q i => rowDecay x (fun k q => C (ix2 k q)) (fun q => cb (ix2 0 q)) wr (fun q => br (ix2 0 q))
        (fun q => lam (ix2 0 q)) q (B + i))
      (u := fun q i => rowInput x (fun k q => C (ix2 k q)) (fun q => cb (ix2 0 q)) wr (fun q => br (ix2 0 q)) wi
        (fun q => bi (ix2 0 q)) (fun q => lam (ix2 0 q)) q (B + i))
      (fun q R => rowDecay_bounds _ _ _ _ _ _ q _) _ _ _ ?_ ?_, hs]
  · exact H_shift _ _ _ _ _
  · intro r q
    rw [decay_apply, hg]
    rfl
  · intro r q
    unfold inputV
    rw [input_apply _ _ bi lam hGi, hg]
    simp only [conv_apply hX hh]
    rfl

end Block

end Cert.LruIdeal.Block
-- ==== Proof.LruArray.lean ====
module

public import proofs.«01_k».proof.Proof.LruRows

@[expose] public section

set_option maxRecDepth 16384

noncomputable section

/-! # What the kernel's recurrence leaves in its result array

Point `t` of the grid works on rows `256 t …` of the array: block `t % 16` of sequence `t / 16`.  By induction over the
points, each leaves its rows of the result, and carries on its last eight rows and the state it ended in. -/

namespace Cert.LruIdeal.Array

open Cert.LruIdeal Cert.LruIdeal.Gen Cert.LruIdeal.Block Idealize.ShloMosaic Idealize.ShloMosaic.TcCoe
open Idealize.ShloMosaic.Pipeline (Dat)
open Cert.Lru Cert.LruIdeal.Scan

variable (m : (ℓ : Loc nD τ sig) → Buf (Elt Ideal) ℓ)

/-- There are 64 points. -/
theorem t_lt (t : Fin cfg0.N) : t.val < 64 := lt_of_lt_of_eq t.isLt N_0

/-- The projected array's window and the result's are at block `t` of the rows at point `t`; the others are whole. -/
theorem idx_row : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = t.val ∧ win0_8.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = t.val ∧ win0_8.index t 1 = 0))

/-! ## What the windows hold -/

/-- Block `t` of the projected array is its rows `256 t …`. -/
theorem blk0 (c : Dev nD) (t : Fin cfg0.N) (r : Fin 256) (q : Fin 1024) :
    iblk (F := Ideal) m c 0 t (ix2 r q)
      = m ((c : Thread nD τ).loc main_arg0) (ix2 ⟨t.val * 256 + r.val, by have := t_lt t; omega⟩ q) := by
  show V m c main_arg0 ((win0_0.rect t).emb (ix2 r q)) = _
  rw [V_main_arg0]
  refine congrArg _ (Shape.idx_ext₂ ?_ ?_)
  · rw [win0_0.rect_emb_val t _ _, (idx_row t).1.1]; rfl
  · rw [win0_0.rect_emb_val t _ _, (idx_row t).1.2]; exact Nat.zero_add _

/-- The convolution's taps, whole. -/
theorem blk1 (c : Dev nD) (t : Fin cfg0.N) (k : Fin 4) (q : Fin 512) :
    iblk (F := Ideal) m c 1 t (ix2 k q) = m ((c : Thread nD τ).loc main_arg1) (ix2 k q) := by
  have e : (win0_1.rect t).emb (ix2 k q) = ix2 k q :=
    Shape.idx_ext₂ (win0_1.rect_emb_val_of_index_zero t 0 (idx_row t).2.1.1 _)
      (win0_1.rect_emb_val_of_index_zero t 1 (idx_row t).2.1.2 _)
  show V m c main_arg1 ((win0_1.rect t).emb (ix2 k q)) = _
  rw [e, V_main_arg1]

/-- The convolution's offset as one row. -/
theorem blk2 (c : Dev nD) (t : Fin cfg0.N) (q : Fin 512) :
    iblk (F := Ideal) m c 2 t (ix2 0 q) = m ((c : Thread nD τ).loc main_arg2) (ix1 q) := by
  have e : (win0_2.rect t).emb (ix2 0 q) = ix2 0 q :=
    Shape.idx_ext₂ (win0_2.rect_emb_val_of_index_zero t 0 (idx_row t).2.2.1.1 _)
      (win0_2.rect_emb_val_of_index_zero t 1 (idx_row t).2.2.1.2 _)
  show V m c main_v0 ((win0_2.rect t).emb (ix2 0 q)) = _
  rw [e]
  entry_read
  pointwise

/-- One where two small numbers agree and zero elsewhere, times a value. -/
theorem mask_mul {a b : ℕ} (ha : a < 8) (hb : b < 8) (x : EReal) :
    FloatOps.uitofp (F := Ideal) FTy.f32 (IntOp.cmpi CmpIPredicate.eq (IntOp.addi (BitVec.ofNat 32 a) 0#32) (BitVec.ofNat 32 b)) * x
      = if a = b then x else 0 := by
  show (((IntOp.cmpi CmpIPredicate.eq (IntOp.addi (BitVec.ofNat 32 a) 0#32) (BitVec.ofNat 32 b)).toNat : ℝ) : EReal) * x = _
  have h : IntOp.cmpi CmpIPredicate.eq (IntOp.addi (BitVec.ofNat 32 a) 0#32) (BitVec.ofNat 32 b) = BitVec.ofBool (decide (a = b)) := by
    interval_cases a <;> interval_cases b <;> rfl
  rw [h]
  by_cases e : a = b
  · rw [if_pos e, decide_eq_true e]
    simp
  · rw [if_neg e, decide_eq_false e]
    simp

/-- The first gate's matrix: block-diagonal. -/
theorem blk3 (c : Dev nD) (t : Fin cfg0.N) (k q : Fin 512) :
    iblk (F := Ideal) m c 3 t (ix2 k q) = if k.val / 64 = q.val / 64 then
      m ((c : Thread nD τ).loc main_arg3) (ix3 ⟨k.val / 64, by omega⟩ ⟨k.val % 64, by omega⟩ ⟨q.val % 64, by omega⟩) else (0 : EReal) := by
  have e : (win0_3.rect t).emb (ix2 k q) = ix2 k q :=
    Shape.idx_ext₂ (win0_3.rect_emb_val_of_index_zero t 0 (idx_row t).2.2.2.1.1 _)
      (win0_3.rect_emb_val_of_index_zero t 1 (idx_row t).2.2.2.1.2 _)
  show V m c main_v13 ((win0_3.rect t).emb (ix2 k q)) = _
  rw [e]
  entry_read
  pointwise
  exact mask_mul (by omega) (by omega) _

/-- The first gate's offset as one row. -/
theorem blk4 (c : Dev nD) (t : Fin cfg0.N) (q : Fin 512) :
    iblk (F := Ideal) m c 4 t (ix2 0 q) = m ((c : Thread nD τ).loc main_arg4) (ix1 q) := by
  have e : (win0_4.rect t).emb (ix2 0 q) = ix2 0 q :=
    Shape.idx_ext₂ (win0_4.rect_emb_val_of_index_zero t 0 (idx_row t).2.2.2.2.1.1 _)
      (win0_4.rect_emb_val_of_index_zero t 1 (idx_row t).2.2.2.2.1.2 _)
  show V m c main_v14 ((win0_4.rect t).emb (ix2 0 q)) = _
  rw [e]
  entry_read
  pointwise

/-- The second gate's matrix: block-diagonal. -/
theorem blk5 (c : Dev nD) (t : Fin cfg0.N) (k q : Fin 512) :
    iblk (F := Ideal) m c 5 t (ix2 k q) = if k.val / 64 = q.val / 64 then
      m ((c : Thread nD τ).loc main_arg5) (ix3 ⟨k.val / 64, by omega⟩ ⟨k.val % 64, by omega⟩ ⟨q.val % 64, by omega⟩) else (0 : EReal) := by
  have e : (win0_5.rect t).emb (ix2 k q) = ix2 k q :=
    Shape.idx_ext₂ (win0_5.rect_emb_val_of_index_zero t 0 (idx_row t).2.2.2.2.2.1.1 _)
      (win0_5.rect_emb_val_of_index_zero t 1 (idx_row t).2.2.2.2.2.1.2 _)
  show V m c main_v27 ((win0_5.rect t).emb (ix2 k q)) = _
  rw [e]
  entry_read
  pointwise
  exact mask_mul (by omega) (by omega) _

/-- The second gate's offset as one row. -/
theorem blk6 (c : Dev nD) (t : Fin cfg0.N) (q : Fin 512) :
    iblk (F := Ideal) m c 6 t (ix2 0 q) = m ((c : Thread nD τ).loc main_arg6) (ix1 q) := by
  have e : (win0_6.rect t).emb (ix2 0 q) = ix2 0 q :=
    Shape.idx_ext₂ (win0_6.rect_emb_val_of_index_zero t 0 (idx_row t).2.2.2.2.2.2.1.1 _)
      (win0_6.rect_emb_val_of_index_zero t 1 (idx_row t).2.2.2.2.2.2.1.2 _)
  show V m c main_v28 ((win0_6.rect t).emb (ix2 0 q)) = _
  rw [e]
  entry_read
  pointwise

/-- The decay's parameter as one row. -/
theorem blk7 (c : Dev nD) (t : Fin cfg0.N) (q : Fin 512) :
    iblk (F := Ideal) m c 7 t (ix2 0 q) = m ((c : Thread nD τ).loc main_arg7) (ix1 q) := by
  have e : (win0_7.rect t).emb (ix2 0 q) = ix2 0 q :=
    Shape.idx_ext₂ (win0_7.rect_emb_val_of_index_zero t 0 (idx_row t).2.2.2.2.2.2.2.1.1 _)
      (win0_7.rect_emb_val_of_index_zero t 1 (idx_row t).2.2.2.2.2.2.2.1.2 _)
  show V m c main_v29 ((win0_7.rect t).emb (ix2 0 q)) = _
  rw [e]
  entry_read
  pointwise

/-! ## What the points leave -/

/-- What the result array holds. -/
def G (c : Dev nD) : S16384x512.Idx → EReal := fun i =>
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1)

/-- The convolved rows of sequence `s`, -/
def seqRows (c : Dev nD) (s : Fin 4) : ℕ → Fin 512 → EReal := rows (m ((c : Thread nD τ).loc main_arg0)) s

/-- and the state before row `i`. -/
def seqState (c : Dev nD) (s : Fin 4) (q : Fin 512) (i : ℕ) : EReal :=
  rowState (seqRows m c s) (fun k q => m ((c : Thread nD τ).loc main_arg1) (ix2 k q))
    (fun q => m ((c : Thread nD τ).loc main_arg2) (ix1 q)) (fun g a b => m ((c : Thread nD τ).loc main_arg3) (ix3 g a b))
    (fun q => m ((c : Thread nD τ).loc main_arg4) (ix1 q)) (fun g a b => m ((c : Thread nD τ).loc main_arg5) (ix3 g a b))
    (fun q => m ((c : Thread nD τ).loc main_arg6) (ix1 q)) (fun q => m ((c : Thread nD τ).loc main_arg7) (ix1 q)) q i

/-- The sequence of point `n`. -/
def seqOf (n : ℕ) (h : n < 64) : Fin 4 := ⟨n / 16, by omega⟩

/-- Block `t` of the projected array holds its sequence's rows. -/
theorem block_rows (c : Dev nD) (t : Fin cfg0.N) (r : Fin 256) (q : Fin 512) :
    iblk (F := Ideal) m c 0 t (ix2 r ⟨q.val, by omega⟩) = seqRows m c (seqOf t.val (t_lt t)) (256 * (t.val % 16) + r.val) q := by
  have ht := t_lt t
  unfold seqRows
  rw [blk0, rows_of_lt _ _ (by omega)]
  refine congrArg _ (Shape.idx_ext₂ ?_ rfl)
  show t.val * 256 + r.val = t.val / 16 * 4096 + (256 * (t.val % 16) + r.val)
  omega

/-- What a point leaves, from what it was handed. -/
theorem body_apply (c : Dev nD) (t : Fin cfg0.N) (hist : Vec Ideal S8x512 .f32) (h : Vec Ideal S1x512 .f32)
    (hh : ∀ (j : Fin 8) (q : Fin 512), hist (ix2 j q) = if 8 ≤ 256 * (t.val % 16) + j.val then
      seqRows m c (seqOf t.val (t_lt t)) (256 * (t.val % 16) + j.val - 8) q else 0)
    (hs : ∀ q : Fin 512, h (ix2 0 q) = seqState m c (seqOf t.val (t_lt t)) q (256 * (t.val % 16)))
    (b : Vec Ideal S256x512 .bf16 × Vec Ideal S8x512 .f32 × Vec Ideal S1x512 .f32)
    (hb : b = bodyV (iblk m c 0 t) (iblk m c 1 t) (iblk m c 2 t) (iblk m c 3 t) (iblk m c 4 t) (iblk m c 5 t) (iblk m c 6 t)
          (iblk m c 7 t) hist h) :
    (∀ (r : Fin 256) (q : Fin 512), b.1 (ix2 r q) = G m c (ix2 ⟨t.val * 256 + r.val, by have := t_lt t; omega⟩ q))
    ∧ (∀ (j : Fin 8) (q : Fin 512), b.2.1 (ix2 j q) = seqRows m c (seqOf t.val (t_lt t)) (256 * (t.val % 16) + 256 + j.val - 8) q)
    ∧ (∀ q : Fin 512, b.2.2 (ix2 0 q) = seqState m c (seqOf t.val (t_lt t)) q (256 * (t.val % 16) + 256)) := by
  have ht := t_lt t
  have hst : ∀ (r : Fin 256) (q : Fin 512), statesV (iblk m c 0 t) (iblk m c 1 t) (iblk m c 2 t) (iblk m c 3 t) (iblk m c 4 t)
      (iblk m c 5 t) (iblk m c 6 t) (iblk m c 7 t) hist h (ix2 r q)
        = seqState m c (seqOf t.val (t_lt t)) q (256 * (t.val % 16) + (r.val + 1)) := fun r q => by
    have e := states_row (C := iblk m c 1 t) (cb := iblk m c 2 t) (br := iblk m c 4 t) (bi := iblk m c 6 t)
      (lam := iblk m c 7 t) (Gr := iblk m c 3 t) (Gi := iblk m c 5 t) (h := h)
      (wr := fun g a b => m ((c : Thread nD τ).loc main_arg3) (ix3 g a b))
      (wi := fun g a b => m ((c : Thread nD τ).loc main_arg5) (ix3 g a b))
      (block_rows m c t) hh (blk3 m c t) (blk5 m c t) (by
        intro q
        simp only [blk1, blk2, blk4, blk6, blk7]
        exact hs q) r q
    simp only [blk1, blk2, blk4, blk6, blk7] at e
    exact e
  subst hb
  refine ⟨fun r q => ?_, fun j q => ?_, fun q => ?_⟩
  · show k0_pay1 (F := Ideal) _ _ _ (ix2 r q) = _
    rw [out_apply, hst, blk0]
    unfold G result seqState seqRows seqOf
    have e1 : (t.val * 256 + r.val) / 4096 = t.val / 16 := by omega
    have e2 : (t.val * 256 + r.val) % 4096 + 1 = 256 * (t.val % 16) + (r.val + 1) := by omega
    show _ = rowState (rows _ ⟨(t.val * 256 + r.val) / 4096, _⟩) _ _ _ _ _ _ _ q ((t.val * 256 + r.val) % 4096 + 1) * _
    simp only [e1, e2]
    rfl
  · simp only [bodyV]
    rw [hist_apply]
    have e := block_rows m c t ⟨248 + j.val, by omega⟩ q
    refine e.trans (congrArg (fun i => seqRows m c (seqOf t.val (t_lt t)) i q) ?_)
    show 256 * (t.val % 16) + (248 + j.val) = 256 * (t.val % 16) + 256 + j.val - 8
    omega
  · simp only [bodyV]
    rw [lastState_apply]
    exact hst 255 q

/-- What each point leaves. -/
theorem outs_apply (c : Dev nD) : ∀ (n : ℕ) (hn : n < cfg0.N),
    (∀ (r : Fin 256) (q : Fin 512), (outsAt0 (F := Ideal) m c n hn).1 (ix2 r q)
      = G m c (ix2 ⟨n * 256 + r.val, by have := t_lt ⟨n, hn⟩; simp only at this; omega⟩ q))
    ∧ (∀ (j : Fin 8) (q : Fin 512), (outsAt0 (F := Ideal) m c n hn).2.1 (ix2 j q)
      = seqRows m c (seqOf n (t_lt ⟨n, hn⟩)) (256 * (n % 16) + 256 + j.val - 8) q)
    ∧ (∀ q : Fin 512, (outsAt0 (F := Ideal) m c n hn).2.2 (ix2 0 q)
      = seqState m c (seqOf n (t_lt ⟨n, hn⟩)) q (256 * (n % 16) + 256)) := by
  intro n
  induction n with
  | zero =>
    intro hn
    refine body_apply m c ⟨0, hn⟩ _ _ (fun j q => ?_) (fun q => ?_) _ (outs_A m c ⟨0, hn⟩ rfl)
    · rw [if_neg (by show ¬8 ≤ 256 * (0 % 16) + j.val; omega)]
      pointwise [k0_pay2]
    · show k0_pay3 (F := Ideal) (ix2 0 q) = 0
      pointwise [k0_pay3]
  | succ n ih =>
    intro hn
    have h64 := t_lt ⟨n + 1, hn⟩
    simp only at h64
    obtain ⟨-, ih1, ih2⟩ := ih (by omega)
    by_cases h0 : (n + 1) % 16 = 0
    · refine body_apply m c ⟨n + 1, hn⟩ _ _ (fun j q => ?_) (fun q => ?_) _ (outs_A m c ⟨n + 1, hn⟩ h0)
      · rw [if_neg (by show ¬8 ≤ 256 * ((n + 1) % 16) + j.val; omega)]
        pointwise [k0_pay2]
      · show k0_pay3 (F := Ideal) (ix2 0 q) = seqState m c _ q (256 * ((n + 1) % 16))
        rw [h0]
        show _ = (0 : EReal)
        pointwise [k0_pay3]
    · have es : seqOf n (by omega) = seqOf (n + 1) h64 := Fin.ext (by show n / 16 = (n + 1) / 16; omega)
      have eb : 256 * (n % 16) + 256 = 256 * ((n + 1) % 16) := by omega
      refine body_apply m c ⟨n + 1, hn⟩ _ _ (fun j q => ?_) (fun q => ?_) _ (outs_B m c ⟨n + 1, hn⟩ h0)
      · rw [if_pos (by show 8 ≤ 256 * ((n + 1) % 16) + j.val; omega)]
        refine (ih1 j q).trans ?_
        rw [es, eb]
      · refine (ih2 q).trans ?_
        rw [es, eb]

/-! ## The array -/

/-- Point `t` writes back block `t` of `G`. -/
theorem flushed_eq (c : Dev nD) (t : Fin cfg0.N) :
    (dats m 0 c).flushed 8 t = ((cfg0.win 8).blk t).view.read (Elt Ideal) (G m c) := by
  rw [Value.flushed8]
  funext y
  rw [show y = ix2 (n0 := 256) (n1 := 512) (y 0) (y 1) from eq_ix2 (n0 := 256) (n1 := 512) y]
  refine ((outs_apply m c t.val t.isLt).1 (y 0) (y 1)).trans (congrArg (G m c) ?_)
  refine Shape.idx_ext₂ ?_ ?_
  · exact ((win0_8.rect_emb_val t _ _).trans (by rw [(idx_row t).2.2.2.2.2.2.2.2.1]; rfl)).symm
  · exact ((win0_8.rect_emb_val t _ _).trans (by rw [(idx_row t).2.2.2.2.2.2.2.2.2]; exact Nat.zero_add _)).symm

/-- The point whose block holds row `R`. -/
def pt (i : S16384x512.Idx) : Fin cfg0.N :=
  ⟨(i 0).val / 256, by have : (i 0).val < 16384 := (i 0).isLt; rw [show cfg0.N = 64 from N_0]; omega⟩

/-- Every index of the result is in a block written back. -/
theorem cover (i : S16384x512.Idx) : ∃ t : Fin cfg0.N, (cfg0.win 8).flush t = true ∧ i ∈ ((cfg0.win 8).blk t).view.set := by
  refine ⟨pt i, flush0_8 _, ?_⟩
  show i ∈ ((View.whole main_v30).slice (win0_8.rect (pt i))).set
  rw [View.set_slice_whole, Rect.mem_set_unit]
  obtain ⟨e0, e1⟩ := (idx_row (pt i)).2.2.2.2.2.2.2.2
  intro a
  match a with
  | ⟨0, _⟩ =>
    show win0_8.index (pt i) 0 * 256 ≤ (i 0).val ∧ (i 0).val < win0_8.index (pt i) 0 * 256 + 256
    rw [e0]; show (i 0).val / 256 * 256 ≤ (i 0).val ∧ (i 0).val < (i 0).val / 256 * 256 + 256; omega
  | ⟨1, _⟩ =>
    show win0_8.index (pt i) 1 * 512 ≤ (i 1).val ∧ (i 1).val < win0_8.index (pt i) 1 * 512 + 512
    rw [e1]; have : (i 1).val < 512 := (i 1).isLt; omega

/-- So the result array ends holding `G`. -/
theorem final (c : Dev nD) : (dats m 0 c).arrAt 8 cfg0.N = G m c :=
  (dats m 0 c).arrAt_eq_of_cover 8 (G m c) (fun t _ => flushed_eq m c t) cover

end Cert.LruIdeal.Array
-- ==== Proof.LruSteps.lean ====
module

public import proofs.«01_k».proof.Proof.Gen.LruRefIdeal.Run
public import proofs.«01_k».proof.Proof.Gen.LruRefIdeal.Step

@[expose] public section

set_option maxRecDepth 8192

noncomputable section

/-! # The reference recurrence's loop, trip by trip

The reference walks over the 4096 rows in a loop.  Here its run is stated over the function that makes one state of the
loop from the one before: the result is read off the state after 4096 trips. -/

namespace Cert.LruRefIdeal.Iter

open Idealize.ShloMosaic Idealize.ShloMosaic.TcCoe Idealize.SL.Sem Idealize.ShloMosaic.StableHlo
open Cert.LruRefIdeal Cert.LruRefIdeal.Gen Cert.LruRefIdeal.Value
open Cert.LruRefIdeal.Step (State step init)

variable {F : FTy → Type} [FloatOps F]

variable (V0 : Valuation τ sig (Elt F)) (s : State F) (j : ℕ)

/-- The buffers hold the state `s`, and the counter the number `j`. -/
structure Holds : Prop where
  state : V0 (Proc.devRef .tc main_v77_3) = s.main_v77_3
  rows : V0 (Proc.devRef .tc main_v77_4) = s.main_v77_4
  decays : V0 (Proc.devRef .tc main_v77_0) = s.main_v77_0
  inputs : V0 (Proc.devRef .tc main_v77_1) = s.main_v77_1
  count : V0 (Proc.devRef .tc main_v77_2) = constantI S_ 32 (BitVec.ofNat 32 j)

variable {V0 s j}

/-- The state one trip computes is the step function's. -/
theorem row_eq (h : Holds V0 s j) : res_main_while0b_v100 V0 = Cert.LruRefIdeal.Step.b9 j s := by
  unfold res_main_while0b_v100
  rw [h.decays, h.inputs, h.state, h.count]
  rfl

/-- The carried state after a trip. -/
theorem step_state (h : Holds V0 s j) : step_main_v77_3 V0 = (step j s).main_v77_3 := row_eq h

/-- The table of states after a trip: the trip's row is put in its place. -/
theorem step_rows (h : Holds V0 s j) : step_main_v77_4 V0 = (step j s).main_v77_4 := by
  unfold step_main_v77_4
  rw [row_eq h, h.rows, h.count]
  rfl

/-- The counter after a trip. -/
theorem step_count (h : Holds V0 s j) : step_main_v77_2 V0 = constantI S_ 32 (BitVec.ofNat 32 (j + 1)) := by
  unfold step_main_v77_2
  rw [h.count]
  funext i
  show BitVec.ofNat 32 j + 1#32 = BitVec.ofNat 32 (j + 1)
  simp only [BitVec.ofNat_add]

/-- The result, of the buffers after the last trip. -/
theorem result_eq (h : Holds V0 s j) {x : (⟨S16384x1024, .f32⟩ : BufTy).Contents (Elt F)}
    (hx : V0 (Proc.devRef .tc main_arg0) = x) : out_main_v96 V0 = Cert.LruRefIdeal.Step.R_main_v96 s x := by
  unfold out_main_v96 Cert.LruRefIdeal.Step.R_main_v96
  rw [h.rows, hx]
  rfl

/-- One trip keeps the buffers holding: the next state and the next number. -/
theorem holds_step (h : Holds V0 s j) : Holds (STEP V0) (step j s) (j + 1) where
  state := (STEP_main_v77_3 V0).trans (step_state h)
  rows := (STEP_main_v77_4 V0).trans (step_rows h)
  count := (STEP_main_v77_2 V0).trans (step_count h)
  decays := (STEP_main_v77_0 V0).trans h.decays
  inputs := (STEP_main_v77_1 V0).trans h.inputs

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 500000 in
/-- What stands before the loop: trip number 0 and the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The reference's result by iterating the trip: every run ends with the result read off state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v96) = Cert.LruRefIdeal.Step.R_main_v96 (it c 4096) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 4096
    ⟨(h c).1.trans (result_eq hk (iter_main_arg0 m c 4096)), (h c).2.1, (h c).2.2.1, (h c).2.2.2.1, (h c).2.2.2.2.1, (h c).2.2.2.2.2.1, (h c).2.2.2.2.2.2.1, (h c).2.2.2.2.2.2.2.1, (h c).2.2.2.2.2.2.2.2⟩) (Value.run m ρ)

end Cert.LruRefIdeal.Iter

end
-- ==== Proof.LruRef.lean ====
module

public import proofs.«01_k».proof.Proof.LruSteps
public import proofs.«01_k».proof.Proof.LruSpec
public import Idealize.ShloMosaic.Lib.Pointwise
public import Idealize.ShloMosaic.Lib.Pipeline.ValueKit

@[expose] public section

set_option maxRecDepth 16384

noncomputable section

/-! # What the reference recurrence computes

The reference's values, read at an index, are the sequence's mathematics: the convolution, the gates, the decays and
inputs, the loop's states and the result. -/

namespace Cert.LruRefIdeal.Read

open Cert.LruRefIdeal Cert.LruRefIdeal.Gen Cert.LruRefIdeal.Step Idealize.ShloMosaic Idealize.ShloMosaic.TcCoe
open Cert.Lru

variable (p : (⟨S16384x1024, .f32⟩ : BufTy).Contents (Elt Ideal)) (cw : (⟨S4x512, .f32⟩ : BufTy).Contents (Elt Ideal))
  (cb : (⟨S512, .f32⟩ : BufTy).Contents (Elt Ideal)) (wr : (⟨S8x64x64, .f32⟩ : BufTy).Contents (Elt Ideal))
  (br : (⟨S512, .f32⟩ : BufTy).Contents (Elt Ideal)) (wi : (⟨S8x64x64, .f32⟩ : BufTy).Contents (Elt Ideal))
  (bi lam : (⟨S512, .f32⟩ : BufTy).Contents (Elt Ideal))

/-- The convolution's result of sequence `s`. -/
abbrev convAt (s : Fin 4) : ℕ → Fin 512 → EReal :=
  conv (rows p s) (fun k q => cw (ix2 k q)) (fun q => cb (ix1 q))

/-- The padded rows: three rows of zeros, then the sequence. -/
theorem padded_apply (s : Fin 4) (i : Fin 4099) (q : Fin 512) :
    A_main_v2 p cw cb wr br wi bi lam (ix3 s i q) = tap (rows p s · q) 3 i.val := by
  pointwise [A_main_v2, A_main_v1, A_main_v0, K_main_call0_v0, K_main_c]
  unfold tap
  by_cases h : 3 ≤ i.val
  · rw [dif_pos ⟨h, by omega⟩, if_pos h]
    exact (rows_of_lt p s (by omega) q).symm
  · rw [dif_neg (by omega), if_neg h]
    show ((((0#32 : BitVec 32).toInt : ℤ) : ℝ) : EReal) = 0
    simp

/-- A row a few steps back, of the padded rows. -/
theorem padded_tap {x : ℕ → EReal} {d i j : ℕ} (h : i + 3 = j + d) (hd : d ≤ 3) : tap x 3 j = tap x d i := by
  unfold tap
  by_cases hi : d ≤ i
  · rw [if_pos hi, if_pos (by omega), show j - 3 = i - d by omega]
  · rw [if_neg hi, if_neg (by omega)]

/-- The order in which the four taps and the offset are added does not matter. -/
theorem conv_order (a b c d e : EReal) : e + (d + c + b + a) = a + b + c + d + e := by ac_rfl

/-- The convolution. -/
theorem conv_apply (s : Fin 4) (i : Fin 4096) (q : Fin 512) :
    A_main_v32 p cw cb wr br wi bi lam (ix3 s i q) = convAt p cw cb s i.val q := by
  pointwise [A_main_v32, A_main_v31, A_main_v30, A_main_v29, A_main_v28, A_main_v27, A_main_v26, A_main_v25,
    A_main_v24, A_main_v23, A_main_v22, A_main_v21, A_main_v20, A_main_v19, A_main_v18, A_main_v17, A_main_v16,
    A_main_v15, A_main_v14, A_main_v13, A_main_v12, A_main_v11, A_main_v10, A_main_v9, A_main_v8, A_main_v7,
    A_main_v6, A_main_v5, A_main_v4, A_main_v3]
  simp only [padded_apply]
  rw [padded_tap (d := 3) (i := i.val) (j := i.val) rfl (by omega),
    padded_tap (d := 2) (i := i.val) (j := 1 + i.val) (by omega) (by omega),
    padded_tap (d := 1) (i := i.val) (j := 2 + i.val) (by omega) (by omega),
    padded_tap (d := 0) (i := i.val) (j := 3 + i.val) (by omega) (by omega)]
  rw [show tap (rows p s · q) 0 i.val = rows p s i.val q from if_pos (Nat.zero_le _)]
  exact conv_order _ _ _ _ _

/-- A gate. -/
theorem gateR_apply (s : Fin 4) (i : Fin 4096) (q : Fin 512) :
    A_main_v45 p cw cb wr br wi bi lam (ix3 s i q)
      = gate (lin (convAt p cw cb s i.val) (fun g a b => wr (ix3 g a b)) (fun q => br (ix1 q)) q) := by
  pointwise [A_main_v45, A_main_v43, A_main_v41, A_main_v40, A_main_v39, A_main_v38, A_main_v37, A_main_v36,
    A_main_v35, A_main_v34, A_main_v33, K_main_v42, K_main_v44, K_main_cst, K_main_cst_0]
  simp only [conv_apply]
  rfl

/-- The other gate. -/
theorem gateI_apply (s : Fin 4) (i : Fin 4096) (q : Fin 512) :
    A_main_v57 p cw cb wr br wi bi lam (ix3 s i q)
      = gate (lin (convAt p cw cb s i.val) (fun g a b => wi (ix3 g a b)) (fun q => bi (ix1 q)) q) := by
  pointwise [A_main_v57, A_main_v55, A_main_v53, A_main_v52, A_main_v51, A_main_v50, A_main_v49, A_main_v48,
    A_main_v47, A_main_v46, A_main_v33, K_main_v54, K_main_v56, K_main_cst_1, K_main_cst_2]
  simp only [conv_apply]
  rfl

/-- The logarithm of a decay of sequence `s`. -/
abbrev logAt (s : Fin 4) : ℕ → Fin 512 → EReal :=
  rowLog (rows p s) (fun k q => cw (ix2 k q)) (fun q => cb (ix1 q)) (fun g a b => wr (ix3 g a b))
    (fun q => br (ix1 q)) (fun q => lam (ix1 q))

/-- The logarithm of the decay. -/
theorem log_apply (s : Fin 4) (i : Fin 4096) (q : Fin 512) :
    A_main_v64 p cw cb wr br wi bi lam (ix3 s i q) = logAt p cw cb wr br lam s i.val q := by
  pointwise [A_main_v64, A_main_v63, A_main_v62, A_main_v61, A_main_v60, A_main_v59, K_main_v58, K_main_cst_3,
    K_main_call1_v0, K_main_call1_v2, K_main_call1_v5, K_main_call1_cst, A_main_call1_v1, A_main_call1_v3,
    A_main_call1_v4, A_main_call1_v6, A_main_call1_v7, A_main_call1_v8, A_main_call1_v9, A_main_call1_v10,
    A_main_call1_v11]
  rw [if_neg (fun h => h rfl), gateR_apply]
  rfl

/-- The decays, rows first. -/
theorem decay_apply (s : Fin 4) (i : Fin 4096) (q : Fin 512) :
    A_main_v74 p cw cb wr br wi bi lam (ix3 i s q) = rowDecay (rows p s) (fun k q => cw (ix2 k q))
      (fun q => cb (ix1 q)) (fun g a b => wr (ix3 g a b)) (fun q => br (ix1 q)) (fun q => lam (ix1 q)) q i.val := by
  pointwise [A_main_v74, A_main_v72]
  rw [log_apply]
  rfl

/-- The inputs, rows first. -/
theorem input_apply (s : Fin 4) (i : Fin 4096) (q : Fin 512) :
    A_main_v75 p cw cb wr br wi bi lam (ix3 i s q) = rowInput (rows p s) (fun k q => cw (ix2 k q))
      (fun q => cb (ix1 q)) (fun g a b => wr (ix3 g a b)) (fun q => br (ix1 q)) (fun g a b => wi (ix3 g a b))
      (fun q => bi (ix1 q)) (fun q => lam (ix1 q)) q i.val := by
  pointwise [A_main_v75, A_main_v71, A_main_v70, A_main_v69, A_main_v68, A_main_v67, A_main_v65, K_main_v66,
    K_main_cst_4]
  rw [conv_apply, gateI_apply, log_apply, neg_expm1]
  rfl

/-- Where trip `j`'s slices start. -/
theorem start_eq {j : ℕ} (hj : j < 4096) (h) :
    Host.clampedStart S4096x4x512 S1x4x512 h (fun k => BitVec.toInt
      ((![constantI S_ 32 (BitVec.ofNat 32 j), constantI S_ 32 0#32, constantI S_ 32 0#32] :
        Fin 3 → (⟨S_, .i32⟩ : BufTy).Contents (Elt Ideal)) k (Shape.Idx.first h_S_))) = ![j, 0, 0] := by
  have hj' : (BitVec.ofNat 32 j).toInt = j := by
    rw [BitVec.toInt_eq_toNat_of_lt (by rw [BitVec.toNat_ofNat]; omega), BitVec.toNat_ofNat,
      Nat.mod_eq_of_lt (by omega)]
  funext a
  match a with
  | ⟨0, _⟩ => exact Host.clampedStart_of_le _ _ _ _ hj' (show j + 1 ≤ 4096 by omega)
  | ⟨1, _⟩ => exact Host.clampedStart_of_le _ _ _ _ rfl (show 0 + 4 ≤ 4 by decide)
  | ⟨2, _⟩ => exact Host.clampedStart_of_le _ _ _ _ rfl (show 0 + 512 ≤ 512 by decide)

/-- The state of sequence `s` before row `i`. -/
abbrev stateAt (s : Fin 4) (q : Fin 512) : ℕ → EReal :=
  rowState (rows p s) (fun k q => cw (ix2 k q)) (fun q => cb (ix1 q)) (fun g a b => wr (ix3 g a b))
    (fun q => br (ix1 q)) (fun g a b => wi (ix3 g a b)) (fun q => bi (ix1 q)) (fun q => lam (ix1 q)) q

/-- The loop's states. -/
def iter : ℕ → State Ideal
  | 0 => init p cw cb wr br wi bi lam
  | n + 1 => step n (iter n)

/-- The state one trip computes. -/
theorem trip_state (st : State Ideal) {j : ℕ} (hj : j < 4096) (s : Fin 4) (q : Fin 512) :
    b9 j st (ix2 s q)
      = st.main_v77_0 (ix3 ⟨j, hj⟩ s q) * st.main_v77_3 (ix2 s q) + st.main_v77_1 (ix3 ⟨j, hj⟩ s q) := by
  pointwise [b9, b8, b7, b6, b5, b4, b3, b2, b1, b0]
  simp only [start_eq hj]
  have h1 : ix3 (⟨j, hj⟩ : Fin 4096) (⟨0 + s.val, by omega⟩ : Fin 4) (⟨0 + q.val, by omega⟩ : Fin 512)
      = ix3 ⟨j, hj⟩ s q := by simp only [Nat.zero_add]
  exact congrArg (fun k => st.main_v77_0 k * st.main_v77_3 (ix2 s q) + st.main_v77_1 k) h1

/-- The table of states after a trip. -/
theorem trip_rows (st : State Ideal) {j : ℕ} (hj : j < 4096) (s : Fin 4) (i : Fin 4096) (q : Fin 512) :
    b13 j st (ix3 i s q) = if i.val = j then b9 j st (ix2 s q) else st.main_v77_4 (ix3 i s q) := by
  pointwise [b13, b12, b11, b10]
  simp only [start_eq hj]
  by_cases h : i.val = j
  · rw [if_pos h, dif_pos ⟨⟨h.ge, by show i.val < j + 1; omega⟩, Nat.zero_le _, Nat.zero_le _⟩]
    rfl
  · rw [if_neg h, dif_neg (fun hh => h (by
      have h1 : j ≤ i.val := hh.1.1
      have h2 : i.val < j + 1 := hh.1.2
      omega))]

/-- What the loop's state is after `n` trips. -/
theorem iter_apply (s : Fin 4) (q : Fin 512) : ∀ n, n ≤ 4096 →
    (iter p cw cb wr br wi bi lam n).main_v77_0 = A_main_v74 p cw cb wr br wi bi lam
    ∧ (iter p cw cb wr br wi bi lam n).main_v77_1 = A_main_v75 p cw cb wr br wi bi lam
    ∧ (iter p cw cb wr br wi bi lam n).main_v77_3 (ix2 s q) = stateAt p cw cb wr br wi bi lam s q n
    ∧ ∀ i : Fin 4096, i.val < n →
      (iter p cw cb wr br wi bi lam n).main_v77_4 (ix3 i s q) = stateAt p cw cb wr br wi bi lam s q (i.val + 1)
  | 0, _ => ⟨rfl, rfl, by
      show K_main_v73 (F := Ideal) (ix2 s q) = 0
      pointwise [K_main_v73, K_main_cst_5], fun i hi => absurd hi (Nat.not_lt_zero _)⟩
  | n + 1, hn => by
      obtain ⟨ha, hu, hs, hr⟩ := iter_apply s q n (by omega)
      have hb : b9 n (iter p cw cb wr br wi bi lam n) (ix2 s q) = stateAt p cw cb wr br wi bi lam s q (n + 1) := by
        rw [trip_state _ (by omega), ha, hu, hs, decay_apply, input_apply]
        rfl
      refine ⟨ha, hu, hb, fun i hi => ?_⟩
      show b13 n _ (ix3 i s q) = _
      rw [trip_rows _ (by omega)]
      by_cases h : i.val = n
      · rw [if_pos h, hb, h]
      · rw [if_neg h]
        exact hr i (by omega)

/-- The reference's result array. -/
theorem result_apply (R : Fin 16384) (q : Fin 512) :
    R_main_v96 (iter p cw cb wr br wi bi lam 4096) p (ix2 R q) = result p cw cb wr br wi bi lam R q := by
  pointwise [R_main_v96]
  rw [(iter_apply p cw cb wr br wi bi lam _ q 4096 (le_refl _)).2.2.2 _ (Nat.mod_lt _ (by omega))]
  unfold result gelu
  refine congrArg₂ (· * ·) rfl ?_
  ac_rfl

end Cert.LruRefIdeal.Read
-- ==== Proof.LruEqn.lean ====
module

public import proofs.«01_k».proof.Proof.LruArray
public import proofs.«01_k».proof.Proof.LruRef
public import proofs.«01_k».proof.Defs

@[expose] public section

set_option maxRecDepth 16384

noncomputable section

/-! # The recurrence's claim -/

namespace Cert.LruRefIdeal.Eqn

open Cert.LruRefIdeal Cert.LruRefIdeal.Gen Idealize.ShloMosaic Idealize.ShloMosaic.TcCoe

/-- On the extended reals the blocked recurrence, its states found by doubling inside each block, holds what the reference's
row-by-row loop holds. -/
theorem algebraic : Cert.algebraic_LruIdeal_LruRefIdeal := by
  intro m ρ m' ρ' _ hag
  refine ⟨fun c => Cert.LruIdeal.Array.G m c, ?_, ?_⟩
  · exact (θ_run _ _ _).mono (fun _ h c => ⟨(h c).1.trans (Cert.LruIdeal.Array.final m c), (h c).2⟩)
      (Cert.LruIdeal.Value.run_blocks m ρ)
  · refine (θ_run _ _ _).mono (fun _ h c => ⟨(h c).1.trans ?_, (h c).2⟩)
      (Iter.run_iter m' ρ' (fun c => Read.iter (m' ((c.tc : Thread nD τ).loc main_arg0)) (m' ((c.tc : Thread nD τ).loc main_arg1))
        (m' ((c.tc : Thread nD τ).loc main_arg2)) (m' ((c.tc : Thread nD τ).loc main_arg3)) (m' ((c.tc : Thread nD τ).loc main_arg4))
        (m' ((c.tc : Thread nD τ).loc main_arg5)) (m' ((c.tc : Thread nD τ).loc main_arg6)) (m' ((c.tc : Thread nD τ).loc main_arg7)))
        (fun _ => rfl) (fun _ _ => rfl))
    obtain ⟨h0, h1, h2, h3, h4, h5, h6, h7⟩ := hag c
    funext i
    rw [eq_ix2 (n0 := 16384) (n1 := 512) i]
    refine (Read.result_apply _ _ _ _ _ _ _ _ _ _).trans ?_
    rw [h0, h1, h2, h3, h4, h5, h6, h7]
    rfl

end Cert.LruRefIdeal.Eqn
-- ==== Proof.InSpec.lean ====
module

public import Idealize.ShloMosaic.Lib.IdealHost
public import Idealize.ShloMosaic.Lib.Pointwise

@[expose] public section

set_option maxRecDepth 16384

noncomputable section

/-! # The input projection, as mathematics

A row divided by the root of its mean square, times a weight, times the input matrix; and the lanes of the four results,
one per group of heads, at which the product's columns are put. -/

namespace Cert.InProjSpec

open Idealize.ShloMosaic

/-- A row `a` divided by the root of its mean square, times the weight `g`, at column `k`. -/
def normed (a g : Fin 2048 → EReal) (k : Fin 2048) : EReal :=
  a k * Ideal.rsqrt (Ideal.div (∑ k : Fin 2048, a k * a k) (Ideal.ofBits .f32 0x45000000#32) + Ideal.ofBits .f32 0x358637BD#32)
    * g k

/-- Row `R` of the product: the normed row times the matrix. -/
def proj (x : (⟨2, ![16384, 2048]⟩ : Shape).Idx → EReal) (g : (⟨1, ![2048]⟩ : Shape).Idx → EReal)
    (w : (⟨2, ![2048, 6424]⟩ : Shape).Idx → EReal) (R : Fin 16384) (j : Fin 6424) : EReal :=
  ∑ k : Fin 2048, normed (fun k => x (ix2 R k)) (fun k => g (ix1 k)) k * w (ix2 k j)

/-- The first result's lanes: 1600 columns, 64 zeros, 64 columns, 64 zeros, 128 columns. -/
def laneA (f : Fin 6424 → EReal) (q : Fin 1920) : EReal :=
  if q.val < 1600 then f ⟨q.val, by omega⟩ else if q.val < 1664 then 0 else if q.val < 1728 then f ⟨q.val - 64, by omega⟩
    else if q.val < 1792 then 0 else f ⟨q.val - 128, by omega⟩

/-- The second result's: 1552 columns, then zeros. -/
def laneB (f : Fin 6424 → EReal) (q : Fin 1664) : EReal := if h : q.val < 1552 then f ⟨1792 + q.val, by omega⟩ else 0

/-- The third result's: 1024 columns. -/
def laneC (f : Fin 6424 → EReal) (q : Fin 1024) : EReal := f ⟨3344 + q.val, by omega⟩

/-- The fourth result's: 2056 columns, then zeros. -/
def laneD (f : Fin 6424 → EReal) (q : Fin 2176) : EReal := if h : q.val < 2056 then f ⟨4368 + q.val, by omega⟩ else 0

section Sums

variable (n : Fin 2048 → EReal) (w : Fin 2048 → Fin 6424 → EReal)

/-- Multiplying by the matrix's columns at their lanes is putting the product's columns at theirs. -/
theorem sum_laneA (q : Fin 1920) : ∑ k, n k * laneA (w k) q = laneA (fun j => ∑ k, n k * w k j) q := by
  unfold laneA
  split_ifs <;> simp

@[inherit_doc sum_laneA]
theorem sum_laneB (q : Fin 1664) : ∑ k, n k * laneB (w k) q = laneB (fun j => ∑ k, n k * w k j) q := by
  unfold laneB
  split_ifs <;> simp

@[inherit_doc sum_laneA]
theorem sum_laneC (q : Fin 1024) : ∑ k, n k * laneC (w k) q = laneC (fun j => ∑ k, n k * w k j) q := rfl

@[inherit_doc sum_laneA]
theorem sum_laneD (q : Fin 2176) : ∑ k, n k * laneD (w k) q = laneD (fun j => ∑ k, n k * w k j) q := by
  unfold laneD
  split_ifs <;> simp

end Sums

section Pieces

variable (f : Fin 6424 → EReal) {p : EReal}

/-- The first result's lanes are six pieces side by side, three of them padded. -/
theorem pieces_laneA (hp : p = 0) (q : Fin 1920) :
    (if h : q.val < 512 then f ⟨q.val, by omega⟩
    else if h : q.val - 512 < 512 then f ⟨512 + (q.val - 512), by omega⟩
    else if h : q.val - 512 - 512 < 512 then f ⟨1024 + (q.val - 512 - 512), by omega⟩
    else if h : q.val - 512 - 512 - 512 < 128 then
      if h : q.val - 512 - 512 - 512 < 64 then f ⟨1536 + (q.val - 512 - 512 - 512), by omega⟩ else p
    else if h : q.val - 512 - 512 - 512 - 128 < 128 then
      if h : q.val - 512 - 512 - 512 - 128 < 64 then f ⟨1600 + (q.val - 512 - 512 - 512 - 128), by omega⟩ else p
    else if h : q.val - 512 - 512 - 512 - 128 - 128 < 128 then f ⟨1664 + (q.val - 512 - 512 - 512 - 128 - 128), by omega⟩
    else p) = laneA f q := by
  have hq := q.isLt
  unfold laneA
  split_ifs <;> first
    | (exfalso; omega)
    | exact hp
    | exact congrArg f (Fin.mk_eq_mk.mpr (by omega))

/-- The second result's are five pieces, the last padded. -/
theorem pieces_laneB (hp : p = 0) (q : Fin 1664) :
    (if h : q.val < 256 then f ⟨1792 + q.val, by omega⟩
    else if h : q.val - 256 < 256 then f ⟨1792 + (256 + (q.val - 256)), by omega⟩
    else if h : q.val - 256 - 256 < 512 then f ⟨1792 + (512 + (q.val - 256 - 256)), by omega⟩
    else if h : q.val - 256 - 256 - 512 < 512 then f ⟨1792 + (1024 + (q.val - 256 - 256 - 512)), by omega⟩
    else if h : q.val - 256 - 256 - 512 - 512 < 16 then f ⟨1792 + (1536 + (q.val - 256 - 256 - 512 - 512)), by omega⟩
    else p) = laneB f q := by
  have hq := q.isLt
  unfold laneB
  split_ifs <;> first
    | (exfalso; omega)
    | exact hp
    | exact congrArg f (Fin.mk_eq_mk.mpr (by omega))

/-- The fourth result's are five pieces, the last of two pieces and padded. -/
theorem pieces_laneD (hp : p = 0) (q : Fin 2176) :
    (if h : q.val < 512 then f ⟨4368 + q.val, by omega⟩
    else if h : q.val - 512 < 512 then f ⟨4368 + (512 + (q.val - 512)), by omega⟩
    else if h : q.val - 512 - 512 < 512 then f ⟨4368 + (1024 + (q.val - 512 - 512)), by omega⟩
    else if h : q.val - 512 - 512 - 512 < 512 then f ⟨4368 + (1536 + (q.val - 512 - 512 - 512)), by omega⟩
    else if h : q.val - 512 - 512 - 512 - 512 < 8 then
      if h : q.val - 512 - 512 - 512 - 512 < 4 then f ⟨4368 + (2048 + (q.val - 512 - 512 - 512 - 512)), by omega⟩
      else f ⟨4368 + (2052 + (q.val - 512 - 512 - 512 - 512 - 4)), by omega⟩
    else p) = laneD f q := by
  have hq := q.isLt
  unfold laneD
  split_ifs <;> first
    | (exfalso; omega)
    | exact hp
    | exact congrArg f (Fin.mk_eq_mk.mpr (by omega))

/-- The first result's lanes are also three runs of columns with two runs of zeros between. -/
theorem runs_laneA (q : Fin 1920) :
    (if h : q.val < 1600 then f ⟨q.val, by omega⟩
    else if h : q.val - 1600 < 64 then 0
    else if h : q.val - 1600 - 64 < 64 then f ⟨1600 + (q.val - 1600 - 64), by omega⟩
    else if h : q.val - 1600 - 64 - 64 < 64 then 0
    else f ⟨1664 + (q.val - 1600 - 64 - 64 - 64), by omega⟩) = laneA f q := by
  have hq := q.isLt
  unfold laneA
  split_ifs <;> first
    | (exfalso; omega)
    | rfl
    | exact congrArg f (Fin.mk_eq_mk.mpr (by omega))

end Pieces

/-- The word the host pads with is zero. -/
theorem pad_word : FloatOps.sitofp (F := Ideal) FTy.f32 (0#32 : BitVec 32) = (0 : EReal) := by
  show ((((0#32 : BitVec 32).toInt : ℤ) : ℝ) : EReal) = 0
  simp

end Cert.InProjSpec
-- ==== Proof.InHost.lean ====
module

public import proofs.«01_k».proof.Proof.InSpec
public import proofs.«01_k».proof.Proof.Gen.InProjIdeal.Value
public import Idealize.ShloMosaic.Lib.Pointwise
public import Idealize.ShloMosaic.Lib.StableHlo.RunRead

@[expose] public section

set_option maxRecDepth 16384

noncomputable section

/-! # The four matrices the host hands the kernel

The host cuts the input matrix's columns into pieces, pads some with zeros and puts them side by side: each matrix holds the
input matrix's columns at the lanes of its result. -/

namespace Cert.InProjIdeal.Weights

open Cert.InProjIdeal Cert.InProjIdeal.Gen Idealize.ShloMosaic Idealize.ShloMosaic.TcCoe
open Cert.InProjSpec

/-- The first matrix is its pieces side by side. -/
theorem main_v13_result (hxs hy) (F : Valuation τ sig (Elt Ideal)) :
    (StableHlo.nary (τ := τ) (Val := Elt Ideal) ![main_v4, main_v5, main_v6, main_v10, main_v11, main_v12] main_v13 (fun u => (concatenate S2048x1920 1 [⟨S2048x512, (u 0 : (⟨S2048x512, .f32⟩ : BufTy).Contents (Elt Ideal))⟩, ⟨S2048x512, (u 1 : (⟨S2048x512, .f32⟩ : BufTy).Contents (Elt Ideal))⟩, ⟨S2048x512, (u 2 : (⟨S2048x512, .f32⟩ : BufTy).Contents (Elt Ideal))⟩, ⟨S2048x128, (u 3 : (⟨S2048x128, .f32⟩ : BufTy).Contents (Elt Ideal))⟩, ⟨S2048x128, (u 4 : (⟨S2048x128, .f32⟩ : BufTy).Contents (Elt Ideal))⟩, ⟨S2048x128, (u 5 : (⟨S2048x128, .f32⟩ : BufTy).Contents (Elt Ideal))⟩] concatenates_S2048x512_S2048x512_S2048x512_S2048x128_S2048x128_S2048x128_S2048x1920_d1 : (⟨S2048x1920, .f32⟩ : BufTy).Contents (Elt Ideal))) hxs hy).result F (no_index (Proc.devRef .tc main_v13))
      = (concatenate S2048x1920 1 [⟨S2048x512, (F (Proc.devRef .tc main_v4) : (⟨S2048x512, .f32⟩ : BufTy).Contents (Elt Ideal))⟩, ⟨S2048x512, (F (Proc.devRef .tc main_v5) : (⟨S2048x512, .f32⟩ : BufTy).Contents (Elt Ideal))⟩, ⟨S2048x512, (F (Proc.devRef .tc main_v6) : (⟨S2048x512, .f32⟩ : BufTy).Contents (Elt Ideal))⟩, ⟨S2048x128, (F (Proc.devRef .tc main_v10) : (⟨S2048x128, .f32⟩ : BufTy).Contents (Elt Ideal))⟩, ⟨S2048x128, (F (Proc.devRef .tc main_v11) : (⟨S2048x128, .f32⟩ : BufTy).Contents (Elt Ideal))⟩, ⟨S2048x128, (F (Proc.devRef .tc main_v12) : (⟨S2048x128, .f32⟩ : BufTy).Contents (Elt Ideal))⟩] concatenates_S2048x512_S2048x512_S2048x512_S2048x128_S2048x128_S2048x128_S2048x1920_d1 : (⟨S2048x1920, .f32⟩ : BufTy).Contents (Elt Ideal)) :=
  StableHlo.nary_result _ _ _ hxs hy F

/-- The second matrix is its pieces side by side. -/
theorem main_v21_result (hxs hy) (F : Valuation τ sig (Elt Ideal)) :
    (StableHlo.nary (τ := τ) (Val := Elt Ideal) ![main_v15, main_v16, main_v17, main_v18, main_v20] main_v21 (fun u => (concatenate S2048x1664 1 [⟨S2048x256, (u 0 : (⟨S2048x256, .f32⟩ : BufTy).Contents (Elt Ideal))⟩, ⟨S2048x256, (u 1 : (⟨S2048x256, .f32⟩ : BufTy).Contents (Elt Ideal))⟩, ⟨S2048x512, (u 2 : (⟨S2048x512, .f32⟩ : BufTy).Contents (Elt Ideal))⟩, ⟨S2048x512, (u 3 : (⟨S2048x512, .f32⟩ : BufTy).Contents (Elt Ideal))⟩, ⟨S2048x128, (u 4 : (⟨S2048x128, .f32⟩ : BufTy).Contents (Elt Ideal))⟩] concatenates_S2048x256_S2048x256_S2048x512_S2048x512_S2048x128_S2048x1664_d1 : (⟨S2048x1664, .f32⟩ : BufTy).Contents (Elt Ideal))) hxs hy).result F (no_index (Proc.devRef .tc main_v21))
      = (concatenate S2048x1664 1 [⟨S2048x256, (F (Proc.devRef .tc main_v15) : (⟨S2048x256, .f32⟩ : BufTy).Contents (Elt Ideal))⟩, ⟨S2048x256, (F (Proc.devRef .tc main_v16) : (⟨S2048x256, .f32⟩ : BufTy).Contents (Elt Ideal))⟩, ⟨S2048x512, (F (Proc.devRef .tc main_v17) : (⟨S2048x512, .f32⟩ : BufTy).Contents (Elt Ideal))⟩, ⟨S2048x512, (F (Proc.devRef .tc main_v18) : (⟨S2048x512, .f32⟩ : BufTy).Contents (Elt Ideal))⟩, ⟨S2048x128, (F (Proc.devRef .tc main_v20) : (⟨S2048x128, .f32⟩ : BufTy).Contents (Elt Ideal))⟩] concatenates_S2048x256_S2048x256_S2048x512_S2048x512_S2048x128_S2048x1664_d1 : (⟨S2048x1664, .f32⟩ : BufTy).Contents (Elt Ideal)) :=
  StableHlo.nary_result _ _ _ hxs hy F

/-- The fourth matrix is its pieces side by side. -/
theorem main_v31_result (hxs hy) (F : Valuation τ sig (Elt Ideal)) :
    (StableHlo.nary (τ := τ) (Val := Elt Ideal) ![main_v23, main_v24, main_v25, main_v26, main_v30] main_v31 (fun u => (concatenate S2048x2176 1 [⟨S2048x512, (u 0 : (⟨S2048x512, .f32⟩ : BufTy).Contents (Elt Ideal))⟩, ⟨S2048x512, (u 1 : (⟨S2048x512, .f32⟩ : BufTy).Contents (Elt Ideal))⟩, ⟨S2048x512, (u 2 : (⟨S2048x512, .f32⟩ : BufTy).Contents (Elt Ideal))⟩, ⟨S2048x512, (u 3 : (⟨S2048x512, .f32⟩ : BufTy).Contents (Elt Ideal))⟩, ⟨S2048x128, (u 4 : (⟨S2048x128, .f32⟩ : BufTy).Contents (Elt Ideal))⟩] concatenates_S2048x512_S2048x512_S2048x512_S2048x512_S2048x128_S2048x2176_d1 : (⟨S2048x2176, .f32⟩ : BufTy).Contents (Elt Ideal))) hxs hy).result F (no_index (Proc.devRef .tc main_v31))
      = (concatenate S2048x2176 1 [⟨S2048x512, (F (Proc.devRef .tc main_v23) : (⟨S2048x512, .f32⟩ : BufTy).Contents (Elt Ideal))⟩, ⟨S2048x512, (F (Proc.devRef .tc main_v24) : (⟨S2048x512, .f32⟩ : BufTy).Contents (Elt Ideal))⟩, ⟨S2048x512, (F (Proc.devRef .tc main_v25) : (⟨S2048x512, .f32⟩ : BufTy).Contents (Elt Ideal))⟩, ⟨S2048x512, (F (Proc.devRef .tc main_v26) : (⟨S2048x512, .f32⟩ : BufTy).Contents (Elt Ideal))⟩, ⟨S2048x128, (F (Proc.devRef .tc main_v30) : (⟨S2048x128, .f32⟩ : BufTy).Contents (Elt Ideal))⟩] concatenates_S2048x512_S2048x512_S2048x512_S2048x512_S2048x128_S2048x2176_d1 : (⟨S2048x2176, .f32⟩ : BufTy).Contents (Elt Ideal)) :=
  StableHlo.nary_result _ _ _ hxs hy F

/-- What a buffer holds when the kernel is entered: the host's operations, one after the other, read at it. -/
theorem read_after {F : FTy → Type} [FloatOps F] (m : (ℓ : Loc nD τ sig) → Buf (Elt F) ℓ) (c : Dev nD) (b : Ref sig .tc) : V m c b = StableHlo.after (τ := τ)
  [ StableHlo.unary main_arg2 main_v0 ((extractStridedSlice S2048x1792 ![0, 0] · slices_S2048x6424_S2048x1792_0_0) : (⟨S2048x6424, .f32⟩ : BufTy).Contents (Elt F) → (⟨S2048x1792, .f32⟩ : BufTy).Contents (Elt F)),
    StableHlo.unary main_arg2 main_v1 ((extractStridedSlice S2048x1552 ![0, 1792] · slices_S2048x6424_S2048x1552_0_1792) : (⟨S2048x6424, .f32⟩ : BufTy).Contents (Elt F) → (⟨S2048x1552, .f32⟩ : BufTy).Contents (Elt F)),
    StableHlo.unary main_arg2 main_v2 ((extractStridedSlice S2048x1024 ![0, 3344] · slices_S2048x6424_S2048x1024_0_3344) : (⟨S2048x6424, .f32⟩ : BufTy).Contents (Elt F) → (⟨S2048x1024, .f32⟩ : BufTy).Contents (Elt F)),
    StableHlo.unary main_arg2 main_v3 ((extractStridedSlice S2048x2056 ![0, 4368] · slices_S2048x6424_S2048x2056_0_4368) : (⟨S2048x6424, .f32⟩ : BufTy).Contents (Elt F) → (⟨S2048x2056, .f32⟩ : BufTy).Contents (Elt F)),
    StableHlo.unary main_v0 main_v4 ((extractStridedSlice S2048x512 ![0, 0] · slices_S2048x1792_S2048x512_0_0) : (⟨S2048x1792, .f32⟩ : BufTy).Contents (Elt F) → (⟨S2048x512, .f32⟩ : BufTy).Contents (Elt F)),
    StableHlo.unary main_v0 main_v5 ((extractStridedSlice S2048x512 ![0, 512] · slices_S2048x1792_S2048x512_0_512) : (⟨S2048x1792, .f32⟩ : BufTy).Contents (Elt F) → (⟨S2048x512, .f32⟩ : BufTy).Contents (Elt F)),
    StableHlo.unary main_v0 main_v6 ((extractStridedSlice S2048x512 ![0, 1024] · slices_S2048x1792_S2048x512_0_1024) : (⟨S2048x1792, .f32⟩ : BufTy).Contents (Elt F) → (⟨S2048x512, .f32⟩ : BufTy).Contents (Elt F)),
    StableHlo.unary main_v0 main_v7 ((extractStridedSlice S2048x64 ![0, 1536] · slices_S2048x1792_S2048x64_0_1536) : (⟨S2048x1792, .f32⟩ : BufTy).Contents (Elt F) → (⟨S2048x64, .f32⟩ : BufTy).Contents (Elt F)),
    StableHlo.unary main_v0 main_v8 ((extractStridedSlice S2048x64 ![0, 1600] · slices_S2048x1792_S2048x64_0_1600) : (⟨S2048x1792, .f32⟩ : BufTy).Contents (Elt F) → (⟨S2048x64, .f32⟩ : BufTy).Contents (Elt F)),
    StableHlo.unary main_v0 main_v9 ((extractStridedSlice S2048x128 ![0, 1664] · slices_S2048x1792_S2048x128_0_1664) : (⟨S2048x1792, .f32⟩ : BufTy).Contents (Elt F) → (⟨S2048x128, .f32⟩ : BufTy).Contents (Elt F)),
    StableHlo.nullary main_c (constantI S_ 32 0#32),
    StableHlo.unary main_c main_call0_v0 ((sitofp .f32) : (⟨S_, .i32⟩ : BufTy).Contents (Elt F) → (⟨S_, .f32⟩ : BufTy).Contents (Elt F)),
    StableHlo.binary main_v7 main_call0_v0 main_v10 ((fun x v => pad S2048x128 ![0, 0] ![0, 64] ![0, 0] x v pads_S2048x64_S2048x128_000_0640 h_S_) : (⟨S2048x64, .f32⟩ : BufTy).Contents (Elt F) → (⟨S_, .f32⟩ : BufTy).Contents (Elt F) → (⟨S2048x128, .f32⟩ : BufTy).Contents (Elt F)),
    StableHlo.nullary main_c_0 (constantI S_ 32 0#32),
    StableHlo.unary main_c_0 main_call1_v0 ((sitofp .f32) : (⟨S_, .i32⟩ : BufTy).Contents (Elt F) → (⟨S_, .f32⟩ : BufTy).Contents (Elt F)),
    StableHlo.binary main_v8 main_call1_v0 main_v11 ((fun x v => pad S2048x128 ![0, 0] ![0, 64] ![0, 0] x v pads_S2048x64_S2048x128_000_0640 h_S_) : (⟨S2048x64, .f32⟩ : BufTy).Contents (Elt F) → (⟨S_, .f32⟩ : BufTy).Contents (Elt F) → (⟨S2048x128, .f32⟩ : BufTy).Contents (Elt F)),
    StableHlo.nullary main_c_1 (constantI S_ 32 0#32),
    StableHlo.unary main_c_1 main_call2_v0 ((sitofp .f32) : (⟨S_, .i32⟩ : BufTy).Contents (Elt F) → (⟨S_, .f32⟩ : BufTy).Contents (Elt F)),
    StableHlo.binary main_v9 main_call2_v0 main_v12 ((fun x v => pad S2048x128 ![0, 0] ![0, 0] ![0, 0] x v pads_S2048x128_S2048x128_000_000 h_S_) : (⟨S2048x128, .f32⟩ : BufTy).Contents (Elt F) → (⟨S_, .f32⟩ : BufTy).Contents (Elt F) → (⟨S2048x128, .f32⟩ : BufTy).Contents (Elt F)),
    StableHlo.nary ![main_v4, main_v5, main_v6, main_v10, main_v11, main_v12] main_v13 (fun u => (concatenate S2048x1920 1 [⟨S2048x512, (u 0 : (⟨S2048x512, .f32⟩ : BufTy).Contents (Elt F))⟩, ⟨S2048x512, (u 1 : (⟨S2048x512, .f32⟩ : BufTy).Contents (Elt F))⟩, ⟨S2048x512, (u 2 : (⟨S2048x512, .f32⟩ : BufTy).Contents (Elt F))⟩, ⟨S2048x128, (u 3 : (⟨S2048x128, .f32⟩ : BufTy).Contents (Elt F))⟩, ⟨S2048x128, (u 4 : (⟨S2048x128, .f32⟩ : BufTy).Contents (Elt F))⟩, ⟨S2048x128, (u 5 : (⟨S2048x128, .f32⟩ : BufTy).Contents (Elt F))⟩] concatenates_S2048x512_S2048x512_S2048x512_S2048x128_S2048x128_S2048x128_S2048x1920_d1 : (⟨S2048x1920, .f32⟩ : BufTy).Contents (Elt F))),
    StableHlo.unary main_v13 main_v14 ((truncf .bf16 · bitsLt_bf16_f32) : (⟨S2048x1920, .f32⟩ : BufTy).Contents (Elt F) → (⟨S2048x1920, .bf16⟩ : BufTy).Contents (Elt F)),
    StableHlo.unary main_v1 main_v15 ((extractStridedSlice S2048x256 ![0, 0] · slices_S2048x1552_S2048x256_0_0) : (⟨S2048x1552, .f32⟩ : BufTy).Contents (Elt F) → (⟨S2048x256, .f32⟩ : BufTy).Contents (Elt F)),
    StableHlo.unary main_v1 main_v16 ((extractStridedSlice S2048x256 ![0, 256] · slices_S2048x1552_S2048x256_0_256) : (⟨S2048x1552, .f32⟩ : BufTy).Contents (Elt F) → (⟨S2048x256, .f32⟩ : BufTy).Contents (Elt F)),
    StableHlo.unary main_v1 main_v17 ((extractStridedSlice S2048x512 ![0, 512] · slices_S2048x1552_S2048x512_0_512) : (⟨S2048x1552, .f32⟩ : BufTy).Contents (Elt F) → (⟨S2048x512, .f32⟩ : BufTy).Contents (Elt F)),
    StableHlo.unary main_v1 main_v18 ((extractStridedSlice S2048x512 ![0, 1024] · slices_S2048x1552_S2048x512_0_1024) : (⟨S2048x1552, .f32⟩ : BufTy).Contents (Elt F) → (⟨S2048x512, .f32⟩ : BufTy).Contents (Elt F)),
    StableHlo.unary main_v1 main_v19 ((extractStridedSlice S2048x16 ![0, 1536] · slices_S2048x1552_S2048x16_0_1536) : (⟨S2048x1552, .f32⟩ : BufTy).Contents (Elt F) → (⟨S2048x16, .f32⟩ : BufTy).Contents (Elt F)),
    StableHlo.nullary main_c_2 (constantI S_ 32 0#32),
    StableHlo.unary main_c_2 main_call3_v0 ((sitofp .f32) : (⟨S_, .i32⟩ : BufTy).Contents (Elt F) → (⟨S_, .f32⟩ : BufTy).Contents (Elt F)),
    StableHlo.binary main_v19 main_call3_v0 main_v20 ((fun x v => pad S2048x128 ![0, 0] ![0, 112] ![0, 0] x v pads_S2048x16_S2048x128_000_01120 h_S_) : (⟨S2048x16, .f32⟩ : BufTy).Contents (Elt F) → (⟨S_, .f32⟩ : BufTy).Contents (Elt F) → (⟨S2048x128, .f32⟩ : BufTy).Contents (Elt F)),
    StableHlo.nary ![main_v15, main_v16, main_v17, main_v18, main_v20] main_v21 (fun u => (concatenate S2048x1664 1 [⟨S2048x256, (u 0 : (⟨S2048x256, .f32⟩ : BufTy).Contents (Elt F))⟩, ⟨S2048x256, (u 1 : (⟨S2048x256, .f32⟩ : BufTy).Contents (Elt F))⟩, ⟨S2048x512, (u 2 : (⟨S2048x512, .f32⟩ : BufTy).Contents (Elt F))⟩, ⟨S2048x512, (u 3 : (⟨S2048x512, .f32⟩ : BufTy).Contents (Elt F))⟩, ⟨S2048x128, (u 4 : (⟨S2048x128, .f32⟩ : BufTy).Contents (Elt F))⟩] concatenates_S2048x256_S2048x256_S2048x512_S2048x512_S2048x128_S2048x1664_d1 : (⟨S2048x1664, .f32⟩ : BufTy).Contents (Elt F))),
    StableHlo.unary main_v21 main_v22 ((truncf .bf16 · bitsLt_bf16_f32) : (⟨S2048x1664, .f32⟩ : BufTy).Contents (Elt F) → (⟨S2048x1664, .bf16⟩ : BufTy).Contents (Elt F)),
    StableHlo.unary main_v3 main_v23 ((extractStridedSlice S2048x512 ![0, 0] · slices_S2048x2056_S2048x512_0_0) : (⟨S2048x2056, .f32⟩ : BufTy).Contents (Elt F) → (⟨S2048x512, .f32⟩ : BufTy).Contents (Elt F)),
    StableHlo.unary main_v3 main_v24 ((extractStridedSlice S2048x512 ![0, 512] · slices_S2048x2056_S2048x512_0_512) : (⟨S2048x2056, .f32⟩ : BufTy).Contents (Elt F) → (⟨S2048x512, .f32⟩ : BufTy).Contents (Elt F)),
    StableHlo.unary main_v3 main_v25 ((extractStridedSlice S2048x512 ![0, 1024] · slices_S2048x2056_S2048x512_0_1024) : (⟨S2048x2056, .f32⟩ : BufTy).Contents (Elt F) → (⟨S2048x512, .f32⟩ : BufTy).Contents (Elt F)),
    StableHlo.unary main_v3 main_v26 ((extractStridedSlice S2048x512 ![0, 1536] · slices_S2048x2056_S2048x512_0_1536) : (⟨S2048x2056, .f32⟩ : BufTy).Contents (Elt F) → (⟨S2048x512, .f32⟩ : BufTy).Contents (Elt F)),
    StableHlo.unary main_v3 main_v27 ((extractStridedSlice S2048x4 ![0, 2048] · slices_S2048x2056_S2048x4_0_2048) : (⟨S2048x2056, .f32⟩ : BufTy).Contents (Elt F) → (⟨S2048x4, .f32⟩ : BufTy).Contents (Elt F)),
    StableHlo.unary main_v3 main_v28 ((extractStridedSlice S2048x4 ![0, 2052] · slices_S2048x2056_S2048x4_0_2052) : (⟨S2048x2056, .f32⟩ : BufTy).Contents (Elt F) → (⟨S2048x4, .f32⟩ : BufTy).Contents (Elt F)),
    StableHlo.binary main_v27 main_v28 main_v29 ((fun a b => concatenate S2048x8 1 [⟨S2048x4, a⟩, ⟨S2048x4, b⟩] concatenates_S2048x4_S2048x4_S2048x8_d1) : (⟨S2048x4, .f32⟩ : BufTy).Contents (Elt F) → (⟨S2048x4, .f32⟩ : BufTy).Contents (Elt F) → (⟨S2048x8, .f32⟩ : BufTy).Contents (Elt F)),
    StableHlo.nullary main_c_3 (constantI S_ 32 0#32),
    StableHlo.unary main_c_3 main_call4_v0 ((sitofp .f32) : (⟨S_, .i32⟩ : BufTy).Contents (Elt F) → (⟨S_, .f32⟩ : BufTy).Contents (Elt F)),
    StableHlo.binary main_v29 main_call4_v0 main_v30 ((fun x v => pad S2048x128 ![0, 0] ![0, 120] ![0, 0] x v pads_S2048x8_S2048x128_000_01200 h_S_) : (⟨S2048x8, .f32⟩ : BufTy).Contents (Elt F) → (⟨S_, .f32⟩ : BufTy).Contents (Elt F) → (⟨S2048x128, .f32⟩ : BufTy).Contents (Elt F)),
    StableHlo.nary ![main_v23, main_v24, main_v25, main_v26, main_v30] main_v31 (fun u => (concatenate S2048x2176 1 [⟨S2048x512, (u 0 : (⟨S2048x512, .f32⟩ : BufTy).Contents (Elt F))⟩, ⟨S2048x512, (u 1 : (⟨S2048x512, .f32⟩ : BufTy).Contents (Elt F))⟩, ⟨S2048x512, (u 2 : (⟨S2048x512, .f32⟩ : BufTy).Contents (Elt F))⟩, ⟨S2048x512, (u 3 : (⟨S2048x512, .f32⟩ : BufTy).Contents (Elt F))⟩, ⟨S2048x128, (u 4 : (⟨S2048x128, .f32⟩ : BufTy).Contents (Elt F))⟩] concatenates_S2048x512_S2048x512_S2048x512_S2048x512_S2048x128_S2048x2176_d1 : (⟨S2048x2176, .f32⟩ : BufTy).Contents (Elt F))),
    StableHlo.unary main_v31 main_v32 ((truncf .bf16 · bitsLt_bf16_f32) : (⟨S2048x2176, .f32⟩ : BufTy).Contents (Elt F) → (⟨S2048x2176, .bf16⟩ : BufTy).Contents (Elt F)),
    StableHlo.unary main_v2 main_v33 ((truncf .bf16 · bitsLt_bf16_f32) : (⟨S2048x1024, .f32⟩ : BufTy).Contents (Elt F) → (⟨S2048x1024, .bf16⟩ : BufTy).Contents (Elt F)),
    StableHlo.reshape main_arg1 main_v34 (rfl : (.f32 : EltTy) = .f32) shapeCasts_S2048_S1x2048 ] (fun b => m (c, b)) (Proc.devRef .tc b) := rfl

variable (m : (ℓ : Loc nD τ sig) → Buf (Elt Ideal) ℓ)

/-- The first matrix holds the input matrix's columns at the first result's lanes; -/
theorem weightA (c : Dev nD) (k : Fin 2048) (q : Fin 1920) :
    V m c main_v14 (ix2 k q) = laneA (fun j => m ((c : Thread nD τ).loc main_arg2) (ix2 k j)) q := by
  suffices h : ∀ z : EReal, laneA (fun j => m (c, Proc.devRef .tc main_arg2) (ix2 k j)) q = z → V m c main_v14 (ix2 k q) = z from
    h _ rfl
  intro z hz
  rw [read_after]
  after_reads_simp [main_v13_result]
  pointwise
  after_reads_simp
  pointwise
  exact (pieces_laneA (fun j => m (c, Proc.devRef .tc main_arg2) (ix2 k j)) pad_word q).trans hz

/-- the second at the second's; -/
theorem weightB (c : Dev nD) (k : Fin 2048) (q : Fin 1664) :
    V m c main_v22 (ix2 k q) = laneB (fun j => m ((c : Thread nD τ).loc main_arg2) (ix2 k j)) q := by
  suffices h : ∀ z : EReal, laneB (fun j => m (c, Proc.devRef .tc main_arg2) (ix2 k j)) q = z → V m c main_v22 (ix2 k q) = z from
    h _ rfl
  intro z hz
  rw [read_after]
  after_reads_simp [main_v21_result]
  pointwise
  after_reads_simp
  pointwise
  exact (pieces_laneB (fun j => m (c, Proc.devRef .tc main_arg2) (ix2 k j)) pad_word q).trans hz

/-- the third at the third's; -/
theorem weightC (c : Dev nD) (k : Fin 2048) (q : Fin 1024) :
    V m c main_v33 (ix2 k q) = laneC (fun j => m ((c : Thread nD τ).loc main_arg2) (ix2 k j)) q := by
  suffices h : ∀ z : EReal, laneC (fun j => m (c, Proc.devRef .tc main_arg2) (ix2 k j)) q = z → V m c main_v33 (ix2 k q) = z from
    h _ rfl
  intro z hz
  rw [read_after]
  after_reads_simp
  pointwise
  exact hz

/-- the fourth at the fourth's. -/
theorem weightD (c : Dev nD) (k : Fin 2048) (q : Fin 2176) :
    V m c main_v32 (ix2 k q) = laneD (fun j => m ((c : Thread nD τ).loc main_arg2) (ix2 k j)) q := by
  suffices h : ∀ z : EReal, laneD (fun j => m (c, Proc.devRef .tc main_arg2) (ix2 k j)) q = z → V m c main_v32 (ix2 k q) = z from
    h _ rfl
  intro z hz
  rw [read_after]
  after_reads_simp [main_v31_result]
  pointwise
  after_reads_simp
  pointwise
  after_reads_simp
  pointwise
  exact (pieces_laneD (fun j => m (c, Proc.devRef .tc main_arg2) (ix2 k j)) pad_word q).trans hz

/-- The norm's weight as one row. -/
theorem weightN (c : Dev nD) (k : Fin 2048) : V m c main_v34 (ix2 0 k) = m ((c : Thread nD τ).loc main_arg1) (ix1 k) := by
  rw [read_after]
  after_reads_simp
  pointwise

end Cert.InProjIdeal.Weights
-- ==== Proof.InBlock.lean ====
module

public import proofs.«01_k».proof.Proof.InHost

@[expose] public section

set_option maxRecDepth 16384

noncomputable section

/-! # What the input projection's kernel leaves

At each point the kernel norms 256 rows and multiplies them by the four matrices; so its four result arrays hold the product's
columns at their lanes. -/

namespace Cert.InProjIdeal.Block

open Cert.InProjIdeal Cert.InProjIdeal.Gen Idealize.ShloMosaic Idealize.ShloMosaic.TcCoe
open Idealize.ShloMosaic.Pipeline (Dat)
open Cert.InProjSpec Cert.InProjIdeal.Weights

variable (m : (ℓ : Loc nD τ sig) → Buf (Elt Ideal) ℓ)

/-- Row `R` of the normed input times the input matrix. -/
def row (c : Dev nD) (R : Fin 16384) : Fin 6424 → EReal :=
  proj (m ((c : Thread nD τ).loc main_arg0)) (m ((c : Thread nD τ).loc main_arg1)) (m ((c : Thread nD τ).loc main_arg2)) R

/-- What the first result holds. -/
def G6 (c : Dev nD) : S16384x1920.Idx → EReal := fun i => laneA (row m c (i 0)) (i 1)

/-- What the second result holds. -/
def G7 (c : Dev nD) : S16384x1664.Idx → EReal := fun i => laneB (row m c (i 0)) (i 1)

/-- What the third result holds. -/
def G8 (c : Dev nD) : S16384x1024.Idx → EReal := fun i => laneC (row m c (i 0)) (i 1)

/-- What the fourth result holds. -/
def G9 (c : Dev nD) : S16384x2176.Idx → EReal := fun i => laneD (row m c (i 0)) (i 1)

/-- There are 64 points. -/
theorem t_lt (t : Fin cfg0.N) : t.val < 64 := lt_of_lt_of_eq t.isLt N_0

/-- The input's and the results' windows are at block `t` of the rows at point `t`; the weights are whole. -/
theorem idx_row : ∀ t : Fin cfg0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0) :=
  (by decide +kernel : ∀ t : Fin grid0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0))

/-- Block `t` of the input is its rows `256 t …`. -/
theorem blk0 (c : Dev nD) (t : Fin cfg0.N) (r : Fin 256) (q : Fin 2048) :
    iblk (F := Ideal) m c 0 t (ix2 r q) = m ((c : Thread nD τ).loc main_arg0) (ix2 ⟨t.val * 256 + r.val, by have := t_lt t; omega⟩ q) := by
  show V m c main_arg0 ((win0_0.rect t).emb (ix2 r q)) = _
  rw [V_main_arg0]
  refine congrArg _ (Shape.idx_ext₂ ?_ ?_)
  · rw [win0_0.rect_emb_val t _ _, (idx_row t).1.1]; rfl
  · rw [win0_0.rect_emb_val t _ _, (idx_row t).1.2]; exact Nat.zero_add _

/-- The norm's weight as one row. -/
theorem blk1 (c : Dev nD) (t : Fin cfg0.N) (k : Fin 2048) :
    iblk (F := Ideal) m c 1 t (ix2 0 k) = m ((c : Thread nD τ).loc main_arg1) (ix1 k) := by
  have e : (win0_1.rect t).emb (ix2 0 k) = ix2 0 k :=
    Shape.idx_ext₂ (win0_1.rect_emb_val_of_index_zero t 0 (idx_row t).2.1.1 _)
      (win0_1.rect_emb_val_of_index_zero t 1 (idx_row t).2.1.2 _)
  show V m c main_v34 ((win0_1.rect t).emb (ix2 0 k)) = _
  rw [e]
  exact weightN m c k

/-- The first matrix is the input matrix's columns at the first result's lanes. -/
theorem blk2 (c : Dev nD) (t : Fin cfg0.N) (k : Fin 2048) (q : Fin 1920) :
    iblk (F := Ideal) m c 2 t (ix2 k q) = laneA (fun j => m ((c : Thread nD τ).loc main_arg2) (ix2 k j)) q := by
  have e : (win0_2.rect t).emb (ix2 k q) = ix2 k q :=
    Shape.idx_ext₂ (win0_2.rect_emb_val_of_index_zero t 0 (idx_row t).2.2.1.1 _)
      (win0_2.rect_emb_val_of_index_zero t 1 (idx_row t).2.2.1.2 _)
  show V m c main_v14 ((win0_2.rect t).emb (ix2 k q)) = _
  rw [e]
  exact weightA m c k q

/-- The second matrix is the input matrix's columns at the second result's lanes. -/
theorem blk3 (c : Dev nD) (t : Fin cfg0.N) (k : Fin 2048) (q : Fin 1664) :
    iblk (F := Ideal) m c 3 t (ix2 k q) = laneB (fun j => m ((c : Thread nD τ).loc main_arg2) (ix2 k j)) q := by
  have e : (win0_3.rect t).emb (ix2 k q) = ix2 k q :=
    Shape.idx_ext₂ (win0_3.rect_emb_val_of_index_zero t 0 (idx_row t).2.2.2.1.1 _)
      (win0_3.rect_emb_val_of_index_zero t 1 (idx_row t).2.2.2.1.2 _)
  show V m c main_v22 ((win0_3.rect t).emb (ix2 k q)) = _
  rw [e]
  exact weightB m c k q

/-- The third matrix is the input matrix's columns at the third result's lanes. -/
theorem blk4 (c : Dev nD) (t : Fin cfg0.N) (k : Fin 2048) (q : Fin 1024) :
    iblk (F := Ideal) m c 4 t (ix2 k q) = laneC (fun j => m ((c : Thread nD τ).loc main_arg2) (ix2 k j)) q := by
  have e : (win0_4.rect t).emb (ix2 k q) = ix2 k q :=
    Shape.idx_ext₂ (win0_4.rect_emb_val_of_index_zero t 0 (idx_row t).2.2.2.2.1.1 _)
      (win0_4.rect_emb_val_of_index_zero t 1 (idx_row t).2.2.2.2.1.2 _)
  show V m c main_v33 ((win0_4.rect t).emb (ix2 k q)) = _
  rw [e]
  exact weightC m c k q

/-- The fourth matrix is the input matrix's columns at the fourth result's lanes. -/
theorem blk5 (c : Dev nD) (t : Fin cfg0.N) (k : Fin 2048) (q : Fin 2176) :
    iblk (F := Ideal) m c 5 t (ix2 k q) = laneD (fun j => m ((c : Thread nD τ).loc main_arg2) (ix2 k j)) q := by
  have e : (win0_5.rect t).emb (ix2 k q) = ix2 k q :=
    Shape.idx_ext₂ (win0_5.rect_emb_val_of_index_zero t 0 (idx_row t).2.2.2.2.2.1.1 _)
      (win0_5.rect_emb_val_of_index_zero t 1 (idx_row t).2.2.2.2.2.1.2 _)
  show V m c main_v32 ((win0_5.rect t).emb (ix2 k q)) = _
  rw [e]
  exact weightD m c k q

/-- The offsets of a whole block are all zero. -/
theorem hz : (![0, 0] : Fin 2 → Nat) = fun _ => 0 := funext fun a => by fin_cases a <;> rfl

/-- The normed row the body computes, from the input's row and the weight's. -/
theorem pay1_apply (v0 : Vec Ideal S256x2048 .f32) (v11 : Vec Ideal S1x2048 .f32) (r : Fin 256) (a g : Fin 2048 → EReal)
    (ha : ∀ k, v0 (ix2 r k) = a k) (hg : ∀ k, v11 (ix2 0 k) = g k) (k : Fin 2048) :
    k0_pay1 (F := Ideal) v0 v11 (ix2 r k) = normed a g k := by
  pointwise [k0_pay1]
  simp only [ha, hg]
  rfl

/-- The first product the body stores: the normed row times the first matrix's columns. -/
theorem pay2_apply (v0 : Vec Ideal S256x2048 .f32) (v11 : Vec Ideal S1x2048 .f32) (v16 : Vec Ideal S2048x1920 .bf16) (r : Fin 256)
    (a g : Fin 2048 → EReal) (w : Fin 2048 → Fin 6424 → EReal) (ha : ∀ k, v0 (ix2 r k) = a k) (hg : ∀ k, v11 (ix2 0 k) = g k)
    (hw : ∀ k q, v16 (ix2 k q) = laneA (w k) q) (q : Fin 1920) :
    k0_pay2 (F := Ideal) v0 v11 v16 (ix2 r q) = laneA (fun j => ∑ k, normed a g k * w k j) q := by
  have h := pay1_apply v0 v11 r a g ha hg
  rw [← sum_laneA]
  suffices e : k0_pay2 (F := Ideal) v0 v11 v16 (ix2 r q) = ∑ x : Fin 2048, k0_pay1 (F := Ideal) v0 v11 (ix2 r x) * v16 (ix2 x q) by
    rw [e]
    exact Finset.sum_congr rfl fun k _ => by rw [h k, hw k q]
  generalize hP : k0_pay1 (F := Ideal) v0 v11 = P
  pointwise [k0_pay2, hP, dot_S256x2048_S2048x1920_S256x1920_1_0_0_1_n_n]

/-- The second product the body stores: the normed row times the second matrix's columns. -/
theorem pay3_apply (v0 : Vec Ideal S256x2048 .f32) (v11 : Vec Ideal S1x2048 .f32) (v16 : Vec Ideal S2048x1664 .bf16) (r : Fin 256)
    (a g : Fin 2048 → EReal) (w : Fin 2048 → Fin 6424 → EReal) (ha : ∀ k, v0 (ix2 r k) = a k) (hg : ∀ k, v11 (ix2 0 k) = g k)
    (hw : ∀ k q, v16 (ix2 k q) = laneB (w k) q) (q : Fin 1664) :
    k0_pay3 (F := Ideal) v0 v11 v16 (ix2 r q) = laneB (fun j => ∑ k, normed a g k * w k j) q := by
  have h := pay1_apply v0 v11 r a g ha hg
  rw [← sum_laneB]
  suffices e : k0_pay3 (F := Ideal) v0 v11 v16 (ix2 r q) = ∑ x : Fin 2048, k0_pay1 (F := Ideal) v0 v11 (ix2 r x) * v16 (ix2 x q) by
    rw [e]
    exact Finset.sum_congr rfl fun k _ => by rw [h k, hw k q]
  generalize hP : k0_pay1 (F := Ideal) v0 v11 = P
  pointwise [k0_pay3, hP, dot_S256x2048_S2048x1664_S256x1664_1_0_0_1_n_n]

/-- The third product the body stores: the normed row times the third matrix's columns. -/
theorem pay4_apply (v0 : Vec Ideal S256x2048 .f32) (v11 : Vec Ideal S1x2048 .f32) (v16 : Vec Ideal S2048x1024 .bf16) (r : Fin 256)
    (a g : Fin 2048 → EReal) (w : Fin 2048 → Fin 6424 → EReal) (ha : ∀ k, v0 (ix2 r k) = a k) (hg : ∀ k, v11 (ix2 0 k) = g k)
    (hw : ∀ k q, v16 (ix2 k q) = laneC (w k) q) (q : Fin 1024) :
    k0_pay4 (F := Ideal) v0 v11 v16 (ix2 r q) = laneC (fun j => ∑ k, normed a g k * w k j) q := by
  have h := pay1_apply v0 v11 r a g ha hg
  rw [← sum_laneC]
  suffices e : k0_pay4 (F := Ideal) v0 v11 v16 (ix2 r q) = ∑ x : Fin 2048, k0_pay1 (F := Ideal) v0 v11 (ix2 r x) * v16 (ix2 x q) by
    rw [e]
    exact Finset.sum_congr rfl fun k _ => by rw [h k, hw k q]
  generalize hP : k0_pay1 (F := Ideal) v0 v11 = P
  pointwise [k0_pay4, hP, dot_S256x2048_S2048x1024_S256x1024_1_0_0_1_n_n]

/-- The fourth product the body stores: the normed row times the fourth matrix's columns. -/
theorem pay5_apply (v0 : Vec Ideal S256x2048 .f32) (v11 : Vec Ideal S1x2048 .f32) (v16 : Vec Ideal S2048x2176 .bf16) (r : Fin 256)
    (a g : Fin 2048 → EReal) (w : Fin 2048 → Fin 6424 → EReal) (ha : ∀ k, v0 (ix2 r k) = a k) (hg : ∀ k, v11 (ix2 0 k) = g k)
    (hw : ∀ k q, v16 (ix2 k q) = laneD (w k) q) (q : Fin 2176) :
    k0_pay5 (F := Ideal) v0 v11 v16 (ix2 r q) = laneD (fun j => ∑ k, normed a g k * w k j) q := by
  have h := pay1_apply v0 v11 r a g ha hg
  rw [← sum_laneD]
  suffices e : k0_pay5 (F := Ideal) v0 v11 v16 (ix2 r q) = ∑ x : Fin 2048, k0_pay1 (F := Ideal) v0 v11 (ix2 r x) * v16 (ix2 x q) by
    rw [e]
    exact Finset.sum_congr rfl fun k _ => by rw [h k, hw k q]
  generalize hP : k0_pay1 (F := Ideal) v0 v11 = P
  pointwise [k0_pay5, hP, dot_S256x2048_S2048x2176_S256x2176_1_0_0_1_n_n]

/-- So the first output's block at a point. -/
theorem out6_apply (c : Dev nD) (t : Fin cfg0.N) (r : Fin 256) (q : Fin 1920) :
    out0_6 (iblk (F := Ideal) m c 0 t) (iblk m c 1 t) (iblk m c 2 t) (iblk m c 3 t) (iblk m c 4 t) (iblk m c 5 t) (ix2 r q)
      = G6 m c (ix2 ⟨t.val * 256 + r.val, by have := t_lt t; omega⟩ q) := by
  unfold out0_6
  rw [View.canon_unit_zero hz]
  refine (pay2_apply _ _ _ r (fun k => m ((c : Thread nD τ).loc main_arg0) (ix2 ⟨t.val * 256 + r.val, by have := t_lt t; omega⟩ k))
    (fun k => m ((c : Thread nD τ).loc main_arg1) (ix1 k)) (fun k j => m ((c : Thread nD τ).loc main_arg2) (ix2 k j)) ?_ ?_ ?_ q).trans ?_
  · intro k; rw [View.ld_unit_zero hz]; exact blk0 m c t r k
  · intro k; rw [View.ld_unit_zero hz]; exact blk1 m c t k
  · intro k q; rw [View.ld_unit_zero hz]; exact blk2 m c t k q
  · rfl

/-- Point `t` writes back block `t` of it. -/
theorem flushed6_eq (c : Dev nD) (t : Fin cfg0.N) :
    (dats m 0 c).flushed 6 t = ((cfg0.win 6).blk t).view.read (Elt Ideal) (G6 m c) := by
  rw [Value.flushed6]
  funext y
  rw [show y = ix2 (n0 := 256) (n1 := 1920) (y 0) (y 1) from eq_ix2 (n0 := 256) (n1 := 1920) y]
  refine (out6_apply m c t (y 0) (y 1)).trans (congrArg (G6 m c) ?_)
  refine Shape.idx_ext₂ ?_ ?_
  · exact ((win0_6.rect_emb_val t _ _).trans (by rw [(idx_row t).2.2.2.2.2.2.1.1]; rfl)).symm
  · exact ((win0_6.rect_emb_val t _ _).trans (by rw [(idx_row t).2.2.2.2.2.2.1.2]; exact Nat.zero_add _)).symm

/-- Every index of the first result is in a block written back. -/
theorem cover6 (i : S16384x1920.Idx) : ∃ t : Fin cfg0.N, (cfg0.win 6).flush t = true ∧ i ∈ ((cfg0.win 6).blk t).view.set := by
  have h0 : (i 0).val < 16384 := (i 0).isLt
  have h1 : (i 1).val < 1920 := (i 1).isLt
  obtain ⟨t, ht⟩ : ∃ t : Fin cfg0.N, t.val = (i 0).val / 256 :=
    ⟨⟨(i 0).val / 256, by rw [show cfg0.N = 64 from N_0]; omega⟩, rfl⟩
  refine ⟨t, flush0_6 _, ?_⟩
  show i ∈ ((View.whole main_v35_0).slice (win0_6.rect t)).set
  rw [View.set_slice_whole, Rect.mem_set_unit]
  obtain ⟨e0, e1⟩ := (idx_row t).2.2.2.2.2.2.1
  intro a
  match a with
  | ⟨0, _⟩ =>
    show win0_6.index t 0 * 256 ≤ (i 0).val ∧ (i 0).val < win0_6.index t 0 * 256 + 256
    rw [e0, ht]; omega
  | ⟨1, _⟩ =>
    show win0_6.index t 1 * 1920 ≤ (i 1).val ∧ (i 1).val < win0_6.index t 1 * 1920 + 1920
    rw [e1]; omega

/-- So the first result's array ends holding `G6`. -/
theorem final6 (c : Dev nD) : (dats m 0 c).arrAt 6 cfg0.N = G6 m c :=
  (dats m 0 c).arrAt_eq_of_cover 6 (G6 m c) (fun t _ => flushed6_eq m c t) cover6

/-- So the second output's block at a point. -/
theorem out7_apply (c : Dev nD) (t : Fin cfg0.N) (r : Fin 256) (q : Fin 1664) :
    out0_7 (iblk (F := Ideal) m c 0 t) (iblk m c 1 t) (iblk m c 2 t) (iblk m c 3 t) (iblk m c 4 t) (iblk m c 5 t) (ix2 r q)
      = G7 m c (ix2 ⟨t.val * 256 + r.val, by have := t_lt t; omega⟩ q) := by
  unfold out0_7
  rw [View.canon_unit_zero hz]
  refine (pay3_apply _ _ _ r (fun k => m ((c : Thread nD τ).loc main_arg0) (ix2 ⟨t.val * 256 + r.val, by have := t_lt t; omega⟩ k))
    (fun k => m ((c : Thread nD τ).loc main_arg1) (ix1 k)) (fun k j => m ((c : Thread nD τ).loc main_arg2) (ix2 k j)) ?_ ?_ ?_ q).trans ?_
  · intro k; rw [View.ld_unit_zero hz]; exact blk0 m c t r k
  · intro k; rw [View.ld_unit_zero hz]; exact blk1 m c t k
  · intro k q; rw [View.ld_unit_zero hz]; exact blk3 m c t k q
  · rfl

/-- Point `t` writes back block `t` of it. -/
theorem flushed7_eq (c : Dev nD) (t : Fin cfg0.N) :
    (dats m 0 c).flushed 7 t = ((cfg0.win 7).blk t).view.read (Elt Ideal) (G7 m c) := by
  rw [Value.flushed7]
  funext y
  rw [show y = ix2 (n0 := 256) (n1 := 1664) (y 0) (y 1) from eq_ix2 (n0 := 256) (n1 := 1664) y]
  refine (out7_apply m c t (y 0) (y 1)).trans (congrArg (G7 m c) ?_)
  refine Shape.idx_ext₂ ?_ ?_
  · exact ((win0_7.rect_emb_val t _ _).trans (by rw [(idx_row t).2.2.2.2.2.2.2.1.1]; rfl)).symm
  · exact ((win0_7.rect_emb_val t _ _).trans (by rw [(idx_row t).2.2.2.2.2.2.2.1.2]; exact Nat.zero_add _)).symm

/-- Every index of the second result is in a block written back. -/
theorem cover7 (i : S16384x1664.Idx) : ∃ t : Fin cfg0.N, (cfg0.win 7).flush t = true ∧ i ∈ ((cfg0.win 7).blk t).view.set := by
  have h0 : (i 0).val < 16384 := (i 0).isLt
  have h1 : (i 1).val < 1664 := (i 1).isLt
  obtain ⟨t, ht⟩ : ∃ t : Fin cfg0.N, t.val = (i 0).val / 256 :=
    ⟨⟨(i 0).val / 256, by rw [show cfg0.N = 64 from N_0]; omega⟩, rfl⟩
  refine ⟨t, flush0_7 _, ?_⟩
  show i ∈ ((View.whole main_v35_1).slice (win0_7.rect t)).set
  rw [View.set_slice_whole, Rect.mem_set_unit]
  obtain ⟨e0, e1⟩ := (idx_row t).2.2.2.2.2.2.2.1
  intro a
  match a with
  | ⟨0, _⟩ =>
    show win0_7.index t 0 * 256 ≤ (i 0).val ∧ (i 0).val < win0_7.index t 0 * 256 + 256
    rw [e0, ht]; omega
  | ⟨1, _⟩ =>
    show win0_7.index t 1 * 1664 ≤ (i 1).val ∧ (i 1).val < win0_7.index t 1 * 1664 + 1664
    rw [e1]; omega

/-- So the second result's array ends holding `G7`. -/
theorem final7 (c : Dev nD) : (dats m 0 c).arrAt 7 cfg0.N = G7 m c :=
  (dats m 0 c).arrAt_eq_of_cover 7 (G7 m c) (fun t _ => flushed7_eq m c t) cover7

/-- So the third output's block at a point. -/
theorem out8_apply (c : Dev nD) (t : Fin cfg0.N) (r : Fin 256) (q : Fin 1024) :
    out0_8 (iblk (F := Ideal) m c 0 t) (iblk m c 1 t) (iblk m c 2 t) (iblk m c 3 t) (iblk m c 4 t) (iblk m c 5 t) (ix2 r q)
      = G8 m c (ix2 ⟨t.val * 256 + r.val, by have := t_lt t; omega⟩ q) := by
  unfold out0_8
  rw [View.canon_unit_zero hz]
  refine (pay4_apply _ _ _ r (fun k => m ((c : Thread nD τ).loc main_arg0) (ix2 ⟨t.val * 256 + r.val, by have := t_lt t; omega⟩ k))
    (fun k => m ((c : Thread nD τ).loc main_arg1) (ix1 k)) (fun k j => m ((c : Thread nD τ).loc main_arg2) (ix2 k j)) ?_ ?_ ?_ q).trans ?_
  · intro k; rw [View.ld_unit_zero hz]; exact blk0 m c t r k
  · intro k; rw [View.ld_unit_zero hz]; exact blk1 m c t k
  · intro k q; rw [View.ld_unit_zero hz]; exact blk4 m c t k q
  · rfl

/-- Point `t` writes back block `t` of it. -/
theorem flushed8_eq (c : Dev nD) (t : Fin cfg0.N) :
    (dats m 0 c).flushed 8 t = ((cfg0.win 8).blk t).view.read (Elt Ideal) (G8 m c) := by
  rw [Value.flushed8]
  funext y
  rw [show y = ix2 (n0 := 256) (n1 := 1024) (y 0) (y 1) from eq_ix2 (n0 := 256) (n1 := 1024) y]
  refine (out8_apply m c t (y 0) (y 1)).trans (congrArg (G8 m c) ?_)
  refine Shape.idx_ext₂ ?_ ?_
  · exact ((win0_8.rect_emb_val t _ _).trans (by rw [(idx_row t).2.2.2.2.2.2.2.2.1.1]; rfl)).symm
  · exact ((win0_8.rect_emb_val t _ _).trans (by rw [(idx_row t).2.2.2.2.2.2.2.2.1.2]; exact Nat.zero_add _)).symm

/-- Every index of the third result is in a block written back. -/
theorem cover8 (i : S16384x1024.Idx) : ∃ t : Fin cfg0.N, (cfg0.win 8).flush t = true ∧ i ∈ ((cfg0.win 8).blk t).view.set := by
  have h0 : (i 0).val < 16384 := (i 0).isLt
  have h1 : (i 1).val < 1024 := (i 1).isLt
  obtain ⟨t, ht⟩ : ∃ t : Fin cfg0.N, t.val = (i 0).val / 256 :=
    ⟨⟨(i 0).val / 256, by rw [show cfg0.N = 64 from N_0]; omega⟩, rfl⟩
  refine ⟨t, flush0_8 _, ?_⟩
  show i ∈ ((View.whole main_v35_2).slice (win0_8.rect t)).set
  rw [View.set_slice_whole, Rect.mem_set_unit]
  obtain ⟨e0, e1⟩ := (idx_row t).2.2.2.2.2.2.2.2.1
  intro a
  match a with
  | ⟨0, _⟩ =>
    show win0_8.index t 0 * 256 ≤ (i 0).val ∧ (i 0).val < win0_8.index t 0 * 256 + 256
    rw [e0, ht]; omega
  | ⟨1, _⟩ =>
    show win0_8.index t 1 * 1024 ≤ (i 1).val ∧ (i 1).val < win0_8.index t 1 * 1024 + 1024
    rw [e1]; omega

/-- So the third result's array ends holding `G8`. -/
theorem final8 (c : Dev nD) : (dats m 0 c).arrAt 8 cfg0.N = G8 m c :=
  (dats m 0 c).arrAt_eq_of_cover 8 (G8 m c) (fun t _ => flushed8_eq m c t) cover8

/-- So the fourth output's block at a point. -/
theorem out9_apply (c : Dev nD) (t : Fin cfg0.N) (r : Fin 256) (q : Fin 2176) :
    out0_9 (iblk (F := Ideal) m c 0 t) (iblk m c 1 t) (iblk m c 2 t) (iblk m c 3 t) (iblk m c 4 t) (iblk m c 5 t) (ix2 r q)
      = G9 m c (ix2 ⟨t.val * 256 + r.val, by have := t_lt t; omega⟩ q) := by
  unfold out0_9
  rw [View.canon_unit_zero hz]
  refine (pay5_apply _ _ _ r (fun k => m ((c : Thread nD τ).loc main_arg0) (ix2 ⟨t.val * 256 + r.val, by have := t_lt t; omega⟩ k))
    (fun k => m ((c : Thread nD τ).loc main_arg1) (ix1 k)) (fun k j => m ((c : Thread nD τ).loc main_arg2) (ix2 k j)) ?_ ?_ ?_ q).trans ?_
  · intro k; rw [View.ld_unit_zero hz]; exact blk0 m c t r k
  · intro k; rw [View.ld_unit_zero hz]; exact blk1 m c t k
  · intro k q; rw [View.ld_unit_zero hz]; exact blk5 m c t k q
  · rfl

/-- Point `t` writes back block `t` of it. -/
theorem flushed9_eq (c : Dev nD) (t : Fin cfg0.N) :
    (dats m 0 c).flushed 9 t = ((cfg0.win 9).blk t).view.read (Elt Ideal) (G9 m c) := by
  rw [Value.flushed9]
  funext y
  rw [show y = ix2 (n0 := 256) (n1 := 2176) (y 0) (y 1) from eq_ix2 (n0 := 256) (n1 := 2176) y]
  refine (out9_apply m c t (y 0) (y 1)).trans (congrArg (G9 m c) ?_)
  refine Shape.idx_ext₂ ?_ ?_
  · exact ((win0_9.rect_emb_val t _ _).trans (by rw [(idx_row t).2.2.2.2.2.2.2.2.2.1]; rfl)).symm
  · exact ((win0_9.rect_emb_val t _ _).trans (by rw [(idx_row t).2.2.2.2.2.2.2.2.2.2]; exact Nat.zero_add _)).symm

/-- Every index of the fourth result is in a block written back. -/
theorem cover9 (i : S16384x2176.Idx) : ∃ t : Fin cfg0.N, (cfg0.win 9).flush t = true ∧ i ∈ ((cfg0.win 9).blk t).view.set := by
  have h0 : (i 0).val < 16384 := (i 0).isLt
  have h1 : (i 1).val < 2176 := (i 1).isLt
  obtain ⟨t, ht⟩ : ∃ t : Fin cfg0.N, t.val = (i 0).val / 256 :=
    ⟨⟨(i 0).val / 256, by rw [show cfg0.N = 64 from N_0]; omega⟩, rfl⟩
  refine ⟨t, flush0_9 _, ?_⟩
  show i ∈ ((View.whole main_v35_3).slice (win0_9.rect t)).set
  rw [View.set_slice_whole, Rect.mem_set_unit]
  obtain ⟨e0, e1⟩ := (idx_row t).2.2.2.2.2.2.2.2.2
  intro a
  match a with
  | ⟨0, _⟩ =>
    show win0_9.index t 0 * 256 ≤ (i 0).val ∧ (i 0).val < win0_9.index t 0 * 256 + 256
    rw [e0, ht]; omega
  | ⟨1, _⟩ =>
    show win0_9.index t 1 * 2176 ≤ (i 1).val ∧ (i 1).val < win0_9.index t 1 * 2176 + 2176
    rw [e1]; omega

/-- So the fourth result's array ends holding `G9`. -/
theorem final9 (c : Dev nD) : (dats m 0 c).arrAt 9 cfg0.N = G9 m c :=
  (dats m 0 c).arrAt_eq_of_cover 9 (G9 m c) (fun t _ => flushed9_eq m c t) cover9

end Cert.InProjIdeal.Block
-- ==== Proof.InRef.lean ====
module

public import proofs.«01_k».proof.Defs
public import proofs.«01_k».proof.Proof.InBlock
public import proofs.«01_k».proof.Proof.Gen.InProjRefIdeal.Run
public import proofs.«01_k».proof.Proof.Gen.InProjRefIdeal.Read

@[expose] public section

set_option maxRecDepth 16384

noncomputable section

/-! # The input projection's reference, and the claim

The reference norms the whole array, multiplies it by the whole input matrix and puts the product's columns at their lanes. -/

namespace Cert.InProjRefIdeal.Eqn

open Cert.InProjRefIdeal Cert.InProjRefIdeal.Gen Cert.InProjRefIdeal.Read Idealize.ShloMosaic Idealize.ShloMosaic.TcCoe
open Cert.InProjSpec

variable (x0 : S16384x2048.Idx → EReal) (x1 : S2048.Idx → EReal) (x2 : S2048x6424.Idx → EReal)

/-- The normed rows. -/
theorem v12_apply (R : Fin 16384) (k : Fin 2048) :
    val_main_v12 (F := Ideal) x0 x1 (ix2 R k) = normed (fun k => x0 (ix2 R k)) (fun k => x1 (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- Their product with the input matrix. -/
theorem v13_apply (R : Fin 16384) (j : Fin 6424) : val_main_v13 (F := Ideal) x0 x1 x2 (ix2 R j) = proj x0 x1 x2 R j := by
  have h := v12_apply x0 x1 R
  generalize hy : val_main_v12 (F := Ideal) x0 x1 = y at h
  pointwise [val_main_v13, hy, dot_S16384x2048_S2048x6424_S16384x6424_1_0_0_1_n_n]
  simp only [h]
  rfl

/-- The first result holds the product's columns at its lanes. -/
theorem v19_apply (R : Fin 16384) (q : Fin 1920) :
    val_main_v19 (F := Ideal) x0 x1 x2 (ix2 R q) = laneA (proj x0 x1 x2 R) q := by
  have h := v13_apply x0 x1 x2 R
  generalize hy : val_main_v13 (F := Ideal) x0 x1 x2 = y at h
  suffices e : ∀ z : EReal, laneA (proj x0 x1 x2 R) q = z → val_main_v19 (F := Ideal) x0 x1 x2 (ix2 R q) = z from e _ rfl
  intro z hz
  pointwise [val_main_v19, val_main_v18, val_main_v17, val_main_v16, val_main_v15, val_main_v14, val_main_cst_2, val_main_cst_3, hy]
  simp only [h]
  generalize proj x0 x1 x2 R = f at hz ⊢
  exact (runs_laneA f q).trans hz

/-- The second result holds the product's columns at its lanes. -/
theorem v22_apply (R : Fin 16384) (q : Fin 1664) :
    val_main_v22 (F := Ideal) x0 x1 x2 (ix2 R q) = laneB (proj x0 x1 x2 R) q := by
  have h := v13_apply x0 x1 x2 R
  generalize hy : val_main_v13 (F := Ideal) x0 x1 x2 = y at h
  suffices e : ∀ z : EReal, laneB (proj x0 x1 x2 R) q = z → val_main_v22 (F := Ideal) x0 x1 x2 (ix2 R q) = z from e _ rfl
  intro z hz
  pointwise [val_main_v22, val_main_v21, val_main_v20, val_main_cst_4, hy]
  simp only [h]
  generalize proj x0 x1 x2 R = f at hz ⊢
  exact hz

/-- The third result holds the product's columns at its lanes. -/
theorem v23_apply (R : Fin 16384) (q : Fin 1024) :
    val_main_v23 (F := Ideal) x0 x1 x2 (ix2 R q) = laneC (proj x0 x1 x2 R) q := by
  have h := v13_apply x0 x1 x2 R
  generalize hy : val_main_v13 (F := Ideal) x0 x1 x2 = y at h
  suffices e : ∀ z : EReal, laneC (proj x0 x1 x2 R) q = z → val_main_v23 (F := Ideal) x0 x1 x2 (ix2 R q) = z from e _ rfl
  intro z hz
  pointwise [val_main_v23, hy]
  simp only [h]
  generalize proj x0 x1 x2 R = f at hz ⊢
  exact hz

/-- The fourth result holds the product's columns at its lanes. -/
theorem v26_apply (R : Fin 16384) (q : Fin 2176) :
    val_main_v26 (F := Ideal) x0 x1 x2 (ix2 R q) = laneD (proj x0 x1 x2 R) q := by
  have h := v13_apply x0 x1 x2 R
  generalize hy : val_main_v13 (F := Ideal) x0 x1 x2 = y at h
  suffices e : ∀ z : EReal, laneD (proj x0 x1 x2 R) q = z → val_main_v26 (F := Ideal) x0 x1 x2 (ix2 R q) = z from e _ rfl
  intro z hz
  pointwise [val_main_v26, val_main_v25, val_main_v24, val_main_cst_5, hy]
  simp only [h]
  generalize proj x0 x1 x2 R = f at hz ⊢
  exact hz

/-! ## The claim -/

/-- On the extended reals the tiled norm and four products hold what the whole-array reference holds. -/
theorem algebraic : Cert.algebraic_InProjIdeal_InProjRefIdeal := by
  intro m ρ m' ρ' _ hag
  refine ⟨fun c => Cert.InProjIdeal.Block.G6 m c, fun c => Cert.InProjIdeal.Block.G7 m c, fun c => Cert.InProjIdeal.Block.G8 m c,
    fun c => Cert.InProjIdeal.Block.G9 m c, ?_, ?_⟩
  · exact (θ_run _ _ _).mono (fun _ h c => ⟨(h c).1.trans (Cert.InProjIdeal.Block.final6 m c),
      (h c).2.1.trans (Cert.InProjIdeal.Block.final7 m c), (h c).2.2.1.trans (Cert.InProjIdeal.Block.final8 m c),
      (h c).2.2.2.1.trans (Cert.InProjIdeal.Block.final9 m c), (h c).2.2.2.2⟩) (Cert.InProjIdeal.Value.run_blocks m ρ)
  · refine (θ_run _ _ _).mono (fun _ h c => ⟨(h c).1.trans ?_, (h c).2.1.trans ?_, (h c).2.2.1.trans ?_, (h c).2.2.2.1.trans ?_,
      (h c).2.2.2.2⟩) (Cert.InProjRefIdeal.Value.run (F := Ideal) m' ρ')
    · obtain ⟨h0, h1, h2⟩ := hag c
      rw [val_main_v19_eq, h0, h1, h2]
      funext i
      rw [eq_ix2 (n0 := 16384) (n1 := 1920) i]
      exact v19_apply _ _ _ _ _
    · obtain ⟨h0, h1, h2⟩ := hag c
      rw [val_main_v22_eq, h0, h1, h2]
      funext i
      rw [eq_ix2 (n0 := 16384) (n1 := 1664) i]
      exact v22_apply _ _ _ _ _
    · obtain ⟨h0, h1, h2⟩ := hag c
      rw [val_main_v23_eq, h0, h1, h2]
      funext i
      rw [eq_ix2 (n0 := 16384) (n1 := 1024) i]
      exact v23_apply _ _ _ _ _
    · obtain ⟨h0, h1, h2⟩ := hag c
      rw [val_main_v26_eq, h0, h1, h2]
      funext i
      rw [eq_ix2 (n0 := 16384) (n1 := 2176) i]
      exact v26_apply _ _ _ _ _

end Cert.InProjRefIdeal.Eqn
-- ==== Proof.OutBlock.lean ====
module

public import proofs.«01_k».proof.Proof.Gen.OutProjIdeal.Value
public import Idealize.ShloMosaic.Lib.Pointwise

@[expose] public section

set_option maxRecDepth 16384

noncomputable section

/-! # What the output projection's kernel leaves

At each point the kernel adds to 512 rows of the residual stream the four mixers' outputs times their rows of the output matrix,
and norms the sum. -/

namespace Cert.OutProjIdeal.Block

open Cert.OutProjIdeal Cert.OutProjIdeal.Gen Idealize.ShloMosaic Idealize.ShloMosaic.TcCoe
open Idealize.ShloMosaic.Pipeline (Dat)

variable (m : (ℓ : Loc nD τ sig) → Buf (Elt Ideal) ℓ)

/-- The residual stream plus the four mixers' outputs through their 512 rows each of the output matrix: row `R`, column `q`. -/
def sum (x : S16384x2048.Idx → EReal) (oa ob oc od : S16384x512.Idx → EReal) (w : S2048x2048.Idx → EReal)
    (R : Fin 16384) (q : Fin 2048) : EReal :=
  x (ix2 R q) + (∑ k : Fin 512, oa (ix2 R k) * w (ix2 ⟨k.val, by omega⟩ q))
    + (∑ k : Fin 512, ob (ix2 R k) * w (ix2 ⟨512 + k.val, by omega⟩ q))
    + (∑ k : Fin 512, oc (ix2 R k) * w (ix2 ⟨1024 + k.val, by omega⟩ q))
    + (∑ k : Fin 512, od (ix2 R k) * w (ix2 ⟨1536 + k.val, by omega⟩ q))

/-- A row `a` divided by the root of its mean square, times the weight `g`, at column `q`. -/
def normed (a : Fin 2048 → EReal) (g : S2048.Idx → EReal) (q : Fin 2048) : EReal :=
  a q * Ideal.rsqrt (Ideal.div (∑ k : Fin 2048, a k * a k) (Ideal.ofBits .f32 0x45000000#32) + Ideal.ofBits .f32 0x358637BD#32)
    * g (ix1 q)

/-- What the first result holds, -/
def G7 (c : Dev nD) : S16384x2048.Idx → EReal := fun i =>
  sum (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

/-- and the second. -/
def G8 (c : Dev nD) : S16384x2048.Idx → EReal := fun i =>
  normed (fun k => G7 m c (ix2 (i 0) k)) (m ((c : Thread nD τ).loc main_arg6)) (i 1)

/-- There are 32 points. -/
theorem t_lt (t : Fin cfg0.N) : t.val < 32 := lt_of_lt_of_eq t.isLt N_0

/-- Each row-tiled window reads or writes block `t` of the rows at point `t`; the two weights are whole. -/
theorem idx_row : ∀ t : Fin cfg0.N, (win0_0.index t 0 = t.val ∧ win0_0.index t 1 = 0) ∧ (win0_1.index t 0 = t.val ∧ win0_1.index t 1 = 0)
   ∧ (win0_2.index t 0 = t.val ∧ win0_2.index t 1 = 0) ∧ (win0_3.index t 0 = t.val ∧ win0_3.index t 1 = 0)
   ∧ (win0_4.index t 0 = t.val ∧ win0_4.index t 1 = 0) ∧ (win0_5.index t 0 = 0 ∧ win0_5.index t 1 = 0 ∧ win0_5.index t 2 = 0)
   ∧ (win0_6.index t 0 = 0 ∧ win0_6.index t 1 = 0)
   ∧ (win0_7.index t 0 = t.val ∧ win0_7.index t 1 = 0)∧ (win0_8.index t 0 = t.val ∧ win0_8.index t 1 = 0):=
  (by decide +kernel : ∀ t : Fin grid0.N, (win0_0.index t 0 = t.val ∧ win0_0.index t 1 = 0) ∧ (win0_1.index t 0 = t.val ∧ win0_1.index t 1 = 0)
   ∧ (win0_2.index t 0 = t.val ∧ win0_2.index t 1 = 0) ∧ (win0_3.index t 0 = t.val ∧ win0_3.index t 1 = 0)
   ∧ (win0_4.index t 0 = t.val ∧ win0_4.index t 1 = 0) ∧ (win0_5.index t 0 = 0 ∧ win0_5.index t 1 = 0 ∧ win0_5.index t 2 = 0)
   ∧ (win0_6.index t 0 = 0 ∧ win0_6.index t 1 = 0)
   ∧ (win0_7.index t 0 = t.val ∧ win0_7.index t 1 = 0)∧ (win0_8.index t 0 = t.val ∧ win0_8.index t 1 = 0))

/-- Block `t` of the residual stream is its rows `512 t …`. -/
theorem blk0 (c : Dev nD) (t : Fin cfg0.N) (r : Fin 512) (q : Fin 2048) :
    iblk (F := Ideal) m c 0 t (ix2 r q) = m ((c : Thread nD τ).loc main_arg0) (ix2 ⟨t.val * 512 + r.val, by have := t_lt t; omega⟩ q) := by
  show V m c main_arg0 ((win0_0.rect t).emb (ix2 r q)) = _
  rw [V_main_arg0]
  refine congrArg _ (Shape.idx_ext₂ ?_ ?_)
  · rw [win0_0.rect_emb_val t _ _ , (idx_row t).1.1]; rfl
  · rw [win0_0.rect_emb_val t _ _ , (idx_row t).1.2]; exact Nat.zero_add _

/-- Block `t` of a mixer's output is its rows `512 t …`. -/
theorem blk1 (c : Dev nD) (t : Fin cfg0.N) (r : Fin 512) (q : Fin 512) :
    iblk (F := Ideal) m c 1 t (ix2 r q) = m ((c : Thread nD τ).loc main_arg1) (ix2 ⟨t.val * 512 + r.val, by have := t_lt t; omega⟩ q) := by
  show V m c main_arg1 ((win0_1.rect t).emb (ix2 r q)) = _
  rw [V_main_arg1]
  refine congrArg _ (Shape.idx_ext₂ ?_ ?_)
  · rw [win0_1.rect_emb_val t _ _, (idx_row t).2.1.1]; rfl
  · rw [win0_1.rect_emb_val t _ _, (idx_row t).2.1.2]; exact Nat.zero_add _

@[inherit_doc blk1]
theorem blk2 (c : Dev nD) (t : Fin cfg0.N) (r : Fin 512) (q : Fin 512) :
    iblk (F := Ideal) m c 2 t (ix2 r q) = m ((c : Thread nD τ).loc main_arg2) (ix2 ⟨t.val * 512 + r.val, by have := t_lt t; omega⟩ q) := by
  show V m c main_arg2 ((win0_2.rect t).emb (ix2 r q)) = _
  rw [V_main_arg2]
  refine congrArg _ (Shape.idx_ext₂ ?_ ?_)
  · rw [win0_2.rect_emb_val t _ _, (idx_row t).2.2.1.1]; rfl
  · rw [win0_2.rect_emb_val t _ _, (idx_row t).2.2.1.2]; exact Nat.zero_add _

@[inherit_doc blk1]
theorem blk3 (c : Dev nD) (t : Fin cfg0.N) (r : Fin 512) (q : Fin 512) :
    iblk (F := Ideal) m c 3 t (ix2 r q) = m ((c : Thread nD τ).loc main_arg3) (ix2 ⟨t.val * 512 + r.val, by have := t_lt t; omega⟩ q) := by
  show V m c main_arg3 ((win0_3.rect t).emb (ix2 r q)) = _
  rw [V_main_arg3]
  refine congrArg _ (Shape.idx_ext₂ ?_ ?_)
  · rw [win0_3.rect_emb_val t _ _, (idx_row t).2.2.2.1.1]; rfl
  · rw [win0_3.rect_emb_val t _ _, (idx_row t).2.2.2.1.2]; exact Nat.zero_add _

@[inherit_doc blk1]
theorem blk4 (c : Dev nD) (t : Fin cfg0.N) (r : Fin 512) (q : Fin 512) :
    iblk (F := Ideal) m c 4 t (ix2 r q) = m ((c : Thread nD τ).loc main_arg4) (ix2 ⟨t.val * 512 + r.val, by have := t_lt t; omega⟩ q) := by
  show V m c main_arg4 ((win0_4.rect t).emb (ix2 r q)) = _
  rw [V_main_arg4]
  refine congrArg _ (Shape.idx_ext₂ ?_ ?_)
  · rw [win0_4.rect_emb_val t _ _, (idx_row t).2.2.2.2.1.1]; rfl
  · rw [win0_4.rect_emb_val t _ _, (idx_row t).2.2.2.2.1.2]; exact Nat.zero_add _

/-- The output matrix, its rows cut in four: part `s`, row `r` is row `512 s + r`. -/
theorem blk5 (c : Dev nD) (t : Fin cfg0.N) (s : Fin 4) (r : Fin 512) (q : Fin 2048) :
    iblk (F := Ideal) m c 5 t (ix3 s r q) = m ((c : Thread nD τ).loc main_arg5) (ix2 ⟨s.val * 512 + r.val, by omega⟩ q) := by
  have e : (win0_5.rect t).emb (ix3 s r q) = ix3 s r q := by
    funext a
    apply Fin.ext
    obtain ⟨h0, h1, h2⟩ := (idx_row t).2.2.2.2.2.1
    match a with
    | ⟨0, _⟩ => exact win0_5.rect_emb_val_of_index_zero t 0 h0 _
    | ⟨1, _⟩ => exact win0_5.rect_emb_val_of_index_zero t 1 h1 _
    | ⟨2, _⟩ => exact win0_5.rect_emb_val_of_index_zero t 2 h2 _
  show V m c main_v1 ((win0_5.rect t).emb (ix3 s r q)) = _
  rw [e]
  entry_read
  pointwise

/-- The norm's weight as one row. -/
theorem blk6 (c : Dev nD) (t : Fin cfg0.N) (q : Fin 2048) :
    iblk (F := Ideal) m c 6 t (ix2 0 q) = m ((c : Thread nD τ).loc main_arg6) (ix1 q) := by
  have e : (win0_6.rect t).emb (ix2 0 q) = ix2 0 q :=
    Shape.idx_ext₂ (win0_6.rect_emb_val_of_index_zero t 0 (idx_row t).2.2.2.2.2.2.1.1 _)
      (win0_6.rect_emb_val_of_index_zero t 1 (idx_row t).2.2.2.2.2.2.1.2 _)
  show V m c main_v2 ((win0_6.rect t).emb (ix2 0 q)) = _
  rw [e]
  entry_read
  pointwise

/-- The offsets of a whole block are all zero. -/
theorem hz : (![0, 0] : Fin 2 → Nat) = fun _ => 0 := funext fun a => by fin_cases a <;> rfl

/-- The sum the body stores, at a row and a column of the block. -/
theorem pay2_apply (c : Dev nD) (t : Fin cfg0.N) (r : Fin 512) (q : Fin 2048) :
    k0_pay2 (F := Ideal) (View.ld (iblk m c 0 t) r0_0) (View.ld (iblk m c 1 t) r0_1) (View.ld (iblk m c 5 t) r0_2)
        (View.ld (iblk m c 2 t) r0_1) (View.ld (iblk m c 5 t) r0_3) (View.ld (iblk m c 3 t) r0_1) (View.ld (iblk m c 5 t) r0_4)
        (View.ld (iblk m c 4 t) r0_1) (View.ld (iblk m c 5 t) r0_5) (ix2 r q)
      = G7 m c (ix2 ⟨t.val * 512 + r.val, by have := t_lt t; omega⟩ q) := by
  pointwise [k0_pay2, dot_S512x512_S512x2048_S512x2048_1_0_0_1_n_n, r0_0, r0_1, r0_2, r0_3, r0_4, r0_5]
  simp only [blk0, blk1, blk2, blk3, blk4, blk5]
  rfl

/-- The normed row the body stores, from the sum's row and the weight's. -/
theorem pay1_apply (v0 : Vec Ideal S512x2048 .f32) (v1 v6 v11 v16 : Vec Ideal S512x512 .bf16) (v2 v7 v12 v17 : Vec Ideal S1x512x2048 .bf16)
    (v32 : Vec Ideal S1x2048 .f32) (r : Fin 512) (a : Fin 2048 → EReal) (g : S2048.Idx → EReal)
    (ha : ∀ q : Fin 2048, k0_pay2 (F := Ideal) v0 v1 v2 v6 v7 v11 v12 v16 v17 (ix2 r q) = a q)
    (hg : ∀ q : Fin 2048, v32 (ix2 0 q) = g (ix1 q)) (q : Fin 2048) :
    k0_pay1 (F := Ideal) (k0_pay2 v0 v1 v2 v6 v7 v11 v12 v16 v17) (k0_pay3 v0 v1 v2 v6 v7 v11 v12 v16 v17)
      (Scalar.ofBits .f32 0x358637BD#32) v32 (ix2 r q) = normed a g q := by
  generalize hP : k0_pay2 (F := Ideal) v0 v1 v2 v6 v7 v11 v12 v16 v17 = P at *
  pointwise [k0_pay1, k0_pay3]
  rw [hP]
  simp only [ha, hg]
  rfl

/-- So the first output's block at a point, -/
theorem out7_apply (c : Dev nD) (t : Fin cfg0.N) (r : Fin 512) (q : Fin 2048) :
    out0_7 (iblk (F := Ideal) m c 0 t) (iblk m c 1 t) (iblk m c 2 t) (iblk m c 3 t) (iblk m c 4 t) (iblk m c 5 t) (iblk m c 6 t) (ix2 r q)
      = G7 m c (ix2 ⟨t.val * 512 + r.val, by have := t_lt t; omega⟩ q) := by
  unfold out0_7
  rw [View.canon_unit_zero hz]
  exact pay2_apply m c t r q

/-- and the second's. -/
theorem out8_apply (c : Dev nD) (t : Fin cfg0.N) (r : Fin 512) (q : Fin 2048) :
    out0_8 (iblk (F := Ideal) m c 0 t) (iblk m c 1 t) (iblk m c 2 t) (iblk m c 3 t) (iblk m c 4 t) (iblk m c 5 t) (iblk m c 6 t) (ix2 r q)
      = G8 m c (ix2 ⟨t.val * 512 + r.val, by have := t_lt t; omega⟩ q) := by
  unfold out0_8
  rw [View.canon_unit_zero hz]
  exact pay1_apply _ _ _ _ _ _ _ _ _ _ r _ _ (pay2_apply m c t r)
    (fun q => by rw [View.ld_unit_zero hz]; exact blk6 m c t q) q

/-- Point `t` writes back block `t` of `G7`, -/
theorem flushed7_eq (c : Dev nD) (t : Fin cfg0.N) :
    (dats m 0 c).flushed 7 t = ((cfg0.win 7).blk t).view.read (Elt Ideal) (G7 m c) := by
  rw [Value.flushed7]
  funext y
  rw [show y = ix2 (n0 := 512) (n1 := 2048) (y 0) (y 1) from eq_ix2 (n0 := 512) (n1 := 2048) y]
  refine (out7_apply m c t (y 0) (y 1)).trans (congrArg (G7 m c) ?_)
  refine Shape.idx_ext₂ ?_ ?_
  · exact ((win0_7.rect_emb_val t _ _).trans (by rw [(idx_row t).2.2.2.2.2.2.2.1.1]; rfl)).symm
  · exact ((win0_7.rect_emb_val t _ _).trans (by rw [(idx_row t).2.2.2.2.2.2.2.1.2]; exact Nat.zero_add _)).symm

/-- and of `G8`. -/
theorem flushed8_eq (c : Dev nD) (t : Fin cfg0.N) :
    (dats m 0 c).flushed 8 t = ((cfg0.win 8).blk t).view.read (Elt Ideal) (G8 m c) := by
  rw [Value.flushed8]
  funext y
  rw [show y = ix2 (n0 := 512) (n1 := 2048) (y 0) (y 1) from eq_ix2 (n0 := 512) (n1 := 2048) y]
  refine (out8_apply m c t (y 0) (y 1)).trans (congrArg (G8 m c) ?_)
  refine Shape.idx_ext₂ ?_ ?_
  · exact ((win0_8.rect_emb_val t _ _).trans (by rw [(idx_row t).2.2.2.2.2.2.2.2.1]; rfl)).symm
  · exact ((win0_8.rect_emb_val t _ _).trans (by rw [(idx_row t).2.2.2.2.2.2.2.2.2]; exact Nat.zero_add _)).symm

/-- The point whose block holds row `R`. -/
def pt (i : S16384x2048.Idx) : Fin cfg0.N :=
  ⟨(i 0).val / 512, by have : (i 0).val < 16384 := (i 0).isLt; rw [show cfg0.N = 32 from N_0]; omega⟩

/-- Every index of the first result is in a block written back, -/
theorem cover7 (i : S16384x2048.Idx) : ∃ t : Fin cfg0.N, (cfg0.win 7).flush t = true ∧ i ∈ ((cfg0.win 7).blk t).view.set := by
  refine ⟨pt i, flush0_7 _, ?_⟩
  show i ∈ ((View.whole main_v3_0).slice (win0_7.rect (pt i))).set
  rw [View.set_slice_whole, Rect.mem_set_unit]
  obtain ⟨e0, e1⟩ := (idx_row (pt i)).2.2.2.2.2.2.2.1
  intro a
  match a with
  | ⟨0, _⟩ =>
    show win0_7.index (pt i) 0 * 512 ≤ (i 0).val ∧ (i 0).val < win0_7.index (pt i) 0 * 512 + 512
    rw [e0]; show (i 0).val / 512 * 512 ≤ (i 0).val ∧ (i 0).val < (i 0).val / 512 * 512 + 512; omega
  | ⟨1, _⟩ =>
    show win0_7.index (pt i) 1 * 2048 ≤ (i 1).val ∧ (i 1).val < win0_7.index (pt i) 1 * 2048 + 2048
    rw [e1]; have : (i 1).val < 2048 := (i 1).isLt; omega

/-- and of the second. -/
theorem cover8 (i : S16384x2048.Idx) : ∃ t : Fin cfg0.N, (cfg0.win 8).flush t = true ∧ i ∈ ((cfg0.win 8).blk t).view.set := by
  refine ⟨pt i, flush0_8 _, ?_⟩
  show i ∈ ((View.whole main_v3_1).slice (win0_8.rect (pt i))).set
  rw [View.set_slice_whole, Rect.mem_set_unit]
  obtain ⟨e0, e1⟩ := (idx_row (pt i)).2.2.2.2.2.2.2.2
  intro a
  match a with
  | ⟨0, _⟩ =>
    show win0_8.index (pt i) 0 * 512 ≤ (i 0).val ∧ (i 0).val < win0_8.index (pt i) 0 * 512 + 512
    rw [e0]; show (i 0).val / 512 * 512 ≤ (i 0).val ∧ (i 0).val < (i 0).val / 512 * 512 + 512; omega
  | ⟨1, _⟩ =>
    show win0_8.index (pt i) 1 * 2048 ≤ (i 1).val ∧ (i 1).val < win0_8.index (pt i) 1 * 2048 + 2048
    rw [e1]; have : (i 1).val < 2048 := (i 1).isLt; omega

/-- So the result arrays end holding `G7` -/
theorem final7 (c : Dev nD) : (dats m 0 c).arrAt 7 cfg0.N = G7 m c :=
  (dats m 0 c).arrAt_eq_of_cover 7 (G7 m c) (fun t _ => flushed7_eq m c t) cover7

/-- and `G8`. -/
theorem final8 (c : Dev nD) : (dats m 0 c).arrAt 8 cfg0.N = G8 m c :=
  (dats m 0 c).arrAt_eq_of_cover 8 (G8 m c) (fun t _ => flushed8_eq m c t) cover8

end Cert.OutProjIdeal.Block
-- ==== Proof.OutRef.lean ====
module

public import proofs.«01_k».proof.Defs
public import proofs.«01_k».proof.Proof.OutBlock
public import proofs.«01_k».proof.Proof.Gen.OutProjRefIdeal.Run
public import proofs.«01_k».proof.Proof.Gen.OutProjRefIdeal.Read

@[expose] public section

set_option maxRecDepth 16384

noncomputable section

/-! # The output projection's reference, and the claim

The reference puts the four mixers' outputs side by side and multiplies them by the whole output matrix; the product's sum over
2048 columns is the four sums the kernel adds. -/

namespace Cert.OutProjRefIdeal.Eqn

open Cert.OutProjRefIdeal Cert.OutProjRefIdeal.Gen Cert.OutProjRefIdeal.Read Idealize.ShloMosaic Idealize.ShloMosaic.TcCoe
open Cert.OutProjIdeal.Block (sum normed)

/-- A sum over 2048 indices is the sum of its four runs of 512. -/
theorem sum_four (f : Fin 2048 → EReal) :
    ∑ k : Fin 2048, f k = (∑ k : Fin 512, f ⟨k.val, by omega⟩) + (∑ k : Fin 512, f ⟨512 + k.val, by omega⟩)
      + (∑ k : Fin 512, f ⟨1024 + k.val, by omega⟩) + (∑ k : Fin 512, f ⟨1536 + k.val, by omega⟩) := by
  have h1 := Fin.sum_univ_add (a := 1536) (b := 512) f
  have h2 := Fin.sum_univ_add (a := 1024) (b := 512) fun i => f (Fin.castAdd 512 i)
  have h3 := Fin.sum_univ_add (a := 512) (b := 512) fun i => f (Fin.castAdd 512 (Fin.castAdd 512 i))
  exact h1.trans (congrArg (· + _) (h2.trans (congrArg (· + _) h3)))

variable (x0 : S16384x2048.Idx → EReal) (x1 x2 x3 x4 : S16384x512.Idx → EReal) (x5 : S2048x2048.Idx → EReal) (x6 : S2048.Idx → EReal)

/-- The four mixers' outputs side by side, read in each of its four runs of columns. -/
theorem cat_apply (R : Fin 16384) (k : Fin 512) :
    val_main_v4 (F := Ideal) x1 x2 x3 x4 (ix2 R ⟨k.val, by omega⟩) = x1 (ix2 R k)
      ∧ val_main_v4 (F := Ideal) x1 x2 x3 x4 (ix2 R ⟨512 + k.val, by omega⟩) = x2 (ix2 R k)
      ∧ val_main_v4 (F := Ideal) x1 x2 x3 x4 (ix2 R ⟨1024 + k.val, by omega⟩) = x3 (ix2 R k)
      ∧ val_main_v4 (F := Ideal) x1 x2 x3 x4 (ix2 R ⟨1536 + k.val, by omega⟩) = x4 (ix2 R k) := by
  have hk := k.isLt
  refine ⟨?_, ?_, ?_, ?_⟩
  · pointwise [val_main_v4, val_main_v0, val_main_v1, val_main_v2, val_main_v3]
  · pointwise [val_main_v4, val_main_v0, val_main_v1, val_main_v2, val_main_v3]
  · pointwise [val_main_v4, val_main_v0, val_main_v1, val_main_v2, val_main_v3]
    rw [dif_neg (by omega), dif_neg (by omega), dif_pos (by omega)]
    exact congrArg (fun j => x3 (ix2 R j)) (Fin.ext (by show 1024 + k.val - 512 - 512 = k.val; omega))
  · pointwise [val_main_v4, val_main_v0, val_main_v1, val_main_v2, val_main_v3]
    rw [dif_neg (by omega), dif_neg (by omega), dif_neg (by omega)]
    exact congrArg (fun j => x4 (ix2 R j)) (Fin.ext (by show 1536 + k.val - 512 - 512 - 512 = k.val; omega))

/-- The reference's first result is the sum, -/
theorem v6_apply (R : Fin 16384) (q : Fin 2048) :
    val_main_v6 (F := Ideal) x0 x1 x2 x3 x4 x5 (ix2 R q) = sum x0 x1 x2 x3 x4 x5 R q := by
  have h : val_main_v5 (F := Ideal) x1 x2 x3 x4 x5 (ix2 R q)
      = ∑ k : Fin 2048, val_main_v4 (F := Ideal) x1 x2 x3 x4 (ix2 R k) * x5 (ix2 k q) := by
    generalize hy : val_main_v4 (F := Ideal) x1 x2 x3 x4 = y
    pointwise [val_main_v5, hy, dot_S16384x2048_S2048x2048_S16384x2048_1_0_0_1_n_n]
  rw [val_main_v6_apply, h, sum_four]
  simp only [(cat_apply x1 x2 x3 x4 R _).1, (cat_apply x1 x2 x3 x4 R _).2.1, (cat_apply x1 x2 x3 x4 R _).2.2.1,
    (cat_apply x1 x2 x3 x4 R _).2.2.2]
  unfold sum
  show (_ : EReal) + _ = _
  simp only [← add_assoc]

/-- and its second the normed sum. -/
theorem v20_apply (R : Fin 16384) (q : Fin 2048) :
    val_main_v20 (F := Ideal) x0 x1 x2 x3 x4 x5 x6 (ix2 R q) = normed (sum x0 x1 x2 x3 x4 x5 R) x6 q := by
  have h := v6_apply x0 x1 x2 x3 x4 x5 R
  generalize hy : val_main_v6 (F := Ideal) x0 x1 x2 x3 x4 x5 = y at h
  pointwise [val_main_v20, val_main_v19, val_main_v18, val_main_v17, val_main_v16, val_main_v15, val_main_v14, val_main_v13,
    val_main_v12, val_main_v11, val_main_v10, val_main_v9, val_main_v8, val_main_v7, val_main_cst, val_main_cst_0, val_main_cst_1, hy, h]
  rfl

/-! ## The claim -/

/-- On the extended reals the tiled output projection and its norm hold what the whole-array reference holds. -/
theorem algebraic : Cert.algebraic_OutProjIdeal_OutProjRefIdeal := by
  intro m ρ m' ρ' _ hag
  refine ⟨fun c => Cert.OutProjIdeal.Block.G7 m c, fun c => Cert.OutProjIdeal.Block.G8 m c, ?_, ?_⟩
  · exact (θ_run _ _ _).mono (fun _ h c => ⟨(h c).1.trans (Cert.OutProjIdeal.Block.final7 m c),
      (h c).2.1.trans (Cert.OutProjIdeal.Block.final8 m c), (h c).2.2⟩) (Cert.OutProjIdeal.Value.run_blocks m ρ)
  · refine (θ_run _ _ _).mono (fun _ h c => ⟨(h c).1.trans ?_, (h c).2.1.trans ?_, (h c).2.2⟩) (Cert.OutProjRefIdeal.Value.run (F := Ideal) m' ρ')
    · obtain ⟨h0, h1, h2, h3, h4, h5, h6⟩ := hag c
      rw [val_main_v6_eq, h0, h1, h2, h3, h4, h5]
      funext i
      rw [eq_ix2 (n0 := 16384) (n1 := 2048) i]
      exact v6_apply _ _ _ _ _ _ _ _
    · obtain ⟨h0, h1, h2, h3, h4, h5, h6⟩ := hag c
      rw [val_main_v20_eq, h0, h1, h2, h3, h4, h5, h6]
      funext i
      rw [eq_ix2 (n0 := 16384) (n1 := 2048) i]
      exact v20_apply _ _ _ _ _ _ _ _ _

end Cert.OutProjRefIdeal.Eqn
-- ==== Proof.GlaSpec.lean ====
module

public import Idealize.ShloMosaic.Lib.IdealHost
public import proofs.«01_k».proof.Proof.LruSpec

@[expose] public section

noncomputable section

/-! # Gated linear attention, as mathematics

What one sequence of the layer computes, in extended reals.  Rows come in chunks of 64.  Each of the four heads keeps a
state of 64 by 128 numbers; a chunk's rows read the state before the chunk and one another, and the state decays and takes in
the chunk's keys and values.  Rows are counted within the sequence. -/

namespace Cert.Gla

open Idealize.ShloMosaic

/-! ## Real numbers among the extended reals -/

/-- An extended real that is a real number. -/
def IsReal (x : EReal) : Prop := ∃ r : ℝ, x = (r : EReal)

/-- Zero is real. -/
theorem isReal_zero : IsReal 0 := ⟨0, rfl⟩

/-- A real number is real. -/
theorem isReal_coe (r : ℝ) : IsReal (r : EReal) := ⟨r, rfl⟩

/-- Sums of reals are real, -/
theorem IsReal.add {x y : EReal} (hx : IsReal x) (hy : IsReal y) : IsReal (x + y) := by
  obtain ⟨r, rfl⟩ := hx; obtain ⟨t, rfl⟩ := hy; exact ⟨r + t, (EReal.coe_add r t).symm⟩

/-- products, -/
theorem IsReal.mul {x y : EReal} (hx : IsReal x) (hy : IsReal y) : IsReal (x * y) := by
  obtain ⟨r, rfl⟩ := hx; obtain ⟨t, rfl⟩ := hy; exact ⟨r * t, (EReal.coe_mul r t).symm⟩

/-- negatives, -/
theorem IsReal.neg {x : EReal} (hx : IsReal x) : IsReal (-x) := by
  obtain ⟨r, rfl⟩ := hx; exact ⟨-r, (EReal.coe_neg r).symm⟩

/-- differences, -/
theorem IsReal.sub {x y : EReal} (hx : IsReal x) (hy : IsReal y) : IsReal (x - y) := by
  obtain ⟨r, rfl⟩ := hx; obtain ⟨t, rfl⟩ := hy; exact ⟨r - t, (EReal.coe_sub r t).symm⟩

/-- exponentials, -/
theorem IsReal.exp {x : EReal} (hx : IsReal x) : IsReal (Ideal.exp x) := by
  obtain ⟨r, rfl⟩ := hx; exact ⟨Real.exp r, Ideal.exp_coe r⟩

/-- greater ones of two, -/
theorem IsReal.max {x y : EReal} (hx : IsReal x) (hy : IsReal y) : IsReal (max x y) := by
  rcases max_choice x y with h | h
  · rw [h]; exact hx
  · rw [h]; exact hy

/-- and sums of any number of terms. -/
theorem isReal_sum {ι : Type} [Fintype ι] {f : ι → EReal} (h : ∀ i, IsReal (f i)) : IsReal (∑ i, f i) := by
  choose g hg using h
  refine ⟨∑ i, g i, ?_⟩
  rw [Finset.sum_congr rfl fun i _ => hg i]
  exact (map_sum (⟨⟨((↑) : ℝ → EReal), EReal.coe_zero⟩, EReal.coe_add⟩ : ℝ →+ EReal) g Finset.univ).symm

/-- A real number less itself is zero. -/
theorem IsReal.sub_self {x : EReal} (hx : IsReal x) : x - x = 0 := by
  obtain ⟨r, rfl⟩ := hx
  rw [← EReal.coe_sub, _root_.sub_self, EReal.coe_zero]

/-- `log (1 + exp z)` of a real number is real. -/
theorem isReal_softplus {z : EReal} (hz : IsReal z) : IsReal (Cert.Lru.softplus z) := by
  have hlog : ∀ y : EReal, IsReal y → IsReal (Ideal.log (1 + Ideal.exp y)) := by
    rintro y ⟨r, rfl⟩
    have h : (1 : EReal) + Ideal.exp r = ((1 + Real.exp r : ℝ) : EReal) := by simp
    have hr := Real.exp_pos r
    rw [h, Ideal.log_coe, if_neg (by linarith)]
    exact isReal_coe _
  exact (hz.max isReal_zero).add (hlog _ ((hz.max hz.neg).neg))

/-- `log (1 + exp z)` is real or plus infinity. -/
theorem softplus_cases (z : EReal) : IsReal (Cert.Lru.softplus z) ∨ Cert.Lru.softplus z = ⊤ := by
  have h0 : Ideal.log (1 + Ideal.exp ⊥) = 0 := by
    rw [Ideal.exp_bot, add_zero, ← EReal.coe_one, Ideal.log_coe, if_neg (by norm_num), Real.log_one, EReal.coe_zero]
  induction z with
  | coe r => exact .inl (isReal_softplus (isReal_coe r))
  | bot =>
    refine .inl ?_
    show IsReal (max ⊥ 0 + Ideal.log (1 + Ideal.exp (-(max ⊥ (-⊥)))))
    rw [EReal.neg_bot, max_eq_right bot_le, max_eq_right bot_le, EReal.neg_top, h0, add_zero]
    exact isReal_zero
  | top =>
    refine .inr ?_
    show max ⊤ 0 + Ideal.log (1 + Ideal.exp (-(max ⊤ (-⊤)))) = ⊤
    rw [max_eq_left le_top, max_eq_left le_top, EReal.neg_top, h0, add_zero]

/-- A real number isn't plus infinity. -/
theorem IsReal.ne_top {x : EReal} (hx : IsReal x) : x ≠ ⊤ := by
  obtain ⟨r, rfl⟩ := hx
  exact EReal.coe_ne_top r

/-- What is neither infinity is real. -/
theorem isReal_of_ne {x : EReal} (h1 : x ≠ ⊤) (h2 : x ≠ ⊥) : IsReal x := ⟨x.toReal, (EReal.coe_toReal h1 h2).symm⟩

/-- A sum with a term minus infinity is minus infinity. -/
theorem sum_eq_bot {f : Fin 64 → EReal} (j : Fin 64) (h : f j = ⊥) : ∑ i, f i = ⊥ := by
  rw [← Finset.add_sum_erase Finset.univ f (Finset.mem_univ j), h, EReal.bot_add]

/-- A sum without a term plus infinity isn't plus infinity. -/
theorem sum_ne_top {f : Fin 64 → EReal} (h : ∀ i, f i ≠ ⊤) : ∑ i, f i ≠ ⊤ := by
  by_cases hb : ∃ j, f j = ⊥
  · obtain ⟨j, hj⟩ := hb
    rw [sum_eq_bot j hj]
    simp
  · exact (isReal_sum fun i => isReal_of_ne (h i) fun e => hb ⟨i, e⟩).ne_top

/-- A sum that is minus infinity, of terms of which none is plus infinity, has a term minus infinity. -/
theorem exists_bot {f : Fin 64 → EReal} (e : ∑ i, f i = ⊥) (h : ∀ i, f i ≠ ⊤) : ∃ j, f j = ⊥ := by
  by_contra hb
  obtain ⟨r, hr⟩ := isReal_sum fun i => isReal_of_ne (h i) fun e => hb ⟨i, e⟩
  rw [e] at hr
  exact absurd hr (by simp)

/-- A number less itself, and that less itself, add nothing to a number that isn't plus infinity. -/
theorem sum_parts (p : Fin 64 → Prop) [DecidablePred p] (f : Fin 64 → EReal) (h : ∀ j, f j ≠ ⊤) :
    (∑ j, (if p j then (1 : EReal) else 0) * f j) + (∑ j, (if p j then (1 : EReal) else 0) * (f j - f j))
        + (∑ j, (if p j then (1 : EReal) else 0) * ((f j - f j) - (f j - f j)))
      = ∑ j, if p j then f j else 0 := by
  by_cases hb : ∃ j, p j ∧ f j = ⊥
  · obtain ⟨j, hp, hj⟩ := hb
    rw [sum_eq_bot (f := fun j => (if p j then (1 : EReal) else 0) * f j) j (by rw [if_pos hp, one_mul, hj]),
      sum_eq_bot (f := fun j => if p j then f j else 0) j (by rw [if_pos hp, hj]), EReal.bot_add, EReal.bot_add]
  · have hz : ∀ j, p j → f j - f j = 0 := fun j hp => (isReal_of_ne (h j) fun e => hb ⟨j, hp, e⟩).sub_self
    have e2 : ∑ j, (if p j then (1 : EReal) else 0) * (f j - f j) = 0 := Finset.sum_eq_zero fun j _ => by
      split_ifs with hp
      · rw [hz j hp, mul_zero]
      · exact zero_mul _
    have e3 : ∑ j, (if p j then (1 : EReal) else 0) * ((f j - f j) - (f j - f j)) = 0 := Finset.sum_eq_zero fun j _ => by
      split_ifs with hp
      · rw [hz j hp, sub_zero, mul_zero]
      · exact zero_mul _
    rw [e2, e3, add_zero, add_zero]
    refine Finset.sum_congr rfl fun j _ => ?_
    split_ifs
    · exact one_mul _
    · exact zero_mul _

/-- The constants are real numbers. -/
theorem word_sixteen : Ideal.ofBits .f32 0x41800000#32 = ((16 : ℝ) : EReal) := by
  simp [Ideal.ofBits, Ideal.ieee, -EReal.coe_mul, -EReal.coe_neg]; norm_num
/-- One sixteenth. -/
theorem word_sixteenth : Ideal.ofBits .f32 0x3D800000#32 = ((1 / 16 : ℝ) : EReal) := by
  simp [Ideal.ofBits, Ideal.ieee, -EReal.coe_mul, -EReal.coe_neg]; norm_num
/-- One hundred and twenty-eight. -/
theorem word_128 : Ideal.ofBits .f32 0x43000000#32 = ((128 : ℝ) : EReal) := by
  simp [Ideal.ofBits, Ideal.ieee, -EReal.coe_mul, -EReal.coe_neg]; norm_num
/-- One part in one hundred and twenty-eight. -/
theorem word_128th : Ideal.ofBits .f32 0x3C000000#32 = ((1 / 128 : ℝ) : EReal) := by
  simp [Ideal.ofBits, Ideal.ieee, -EReal.coe_mul, -EReal.coe_neg]; norm_num
/-- One eighth. -/
theorem word_eighth : Ideal.ofBits .f32 0x3E000000#32 = ((1 / 8 : ℝ) : EReal) := by
  simp [Ideal.ofBits, Ideal.ieee, -EReal.coe_mul, -EReal.coe_neg]; norm_num

/-- A sixteenth of a number. -/
theorem mul_sixteenth (x : EReal) : x * Ideal.ofBits .f32 0x3D800000#32 = Ideal.div x (Ideal.ofBits .f32 0x41800000#32) := by
  rw [word_sixteenth, word_sixteen, Ideal.div_coe (by norm_num)]

/-- One part of a number in one hundred and twenty-eight. -/
theorem mul_128th (x : EReal) : x * Ideal.ofBits .f32 0x3C000000#32 = Ideal.div x (Ideal.ofBits .f32 0x43000000#32) := by
  rw [word_128th, word_128, Ideal.div_coe (by norm_num)]

/-! ## One head's chunk -/

section Head

variable (q k b : Fin 64 → Fin 64 → EReal) (v : Fin 64 → Fin 128 → EReal) (S : Fin 64 → Fin 128 → EReal)

/-- A row's score against another: the products of its query and the other's key, each decayed to the middle row. -/
def score (i j : Fin 64) : EReal :=
  ∑ x : Fin 64, q i x * Ideal.exp (b i x - b 31 x) * (k j x * Ideal.exp (b 31 x - b j x))

/-- A row's output: the values of the rows up to it, by their scores, and the state before the chunk, decayed to the row. -/
def headOut (i : Fin 64) (w : Fin 128) : EReal :=
  (∑ j : Fin 64, if j.val ≤ i.val then score q k b i j * v j w else 0) + ∑ x : Fin 64, q i x * Ideal.exp (b i x) * S x w

/-- The state after the chunk. -/
def headNext (x : Fin 64) (w : Fin 128) : EReal :=
  S x w * Ideal.exp (b 63 x) + ∑ i : Fin 64, k i x * Ideal.exp (b 63 x - b i x) * v i w

variable {q k b v S}

/-- The exponential of what isn't plus infinity is real. -/
theorem isReal_exp_of_ne {x : EReal} (hx : x ≠ ⊤) : IsReal (Ideal.exp x) := by
  induction x with
  | bot => rw [Ideal.exp_bot]; exact isReal_zero
  | coe r => exact (isReal_coe r).exp
  | top => exact absurd rfl hx

/-- From an earlier row to a later one the decay is real: it's nothing when it has come to nothing by the later row. -/
theorem isReal_exp_sub {x y : EReal} (hy : y ≠ ⊤) (h : x = ⊥ → y = ⊥) : IsReal (Ideal.exp (y - x)) := by
  refine isReal_exp_of_ne fun e => ?_
  induction y with
  | bot => rw [EReal.bot_sub] at e; exact absurd e (by simp)
  | top => exact hy rfl
  | coe r =>
    induction x with
    | bot => exact absurd (h rfl) (by simp)
    | coe t => rw [← EReal.coe_sub] at e; exact absurd e (EReal.coe_ne_top _)
    | top => rw [EReal.sub_top] at e; exact absurd e (by simp)

/-- A query and an earlier row's key, each decayed to the middle row, have a real product. -/
theorem isReal_pair {u z x y c : EReal} (hu : IsReal u) (hz : IsReal z) (hy : y ≠ ⊤) (hx : x ≠ ⊤) (hc : c ≠ ⊤) (h : x = ⊥ → y = ⊥) :
    IsReal (u * Ideal.exp (y - c) * (z * Ideal.exp (c - x))) := by
  by_cases c0 : c = ⊥
  · rw [c0, EReal.bot_sub, Ideal.exp_bot, mul_zero, mul_zero]
    exact isReal_zero
  · by_cases y0 : y = ⊥
    · rw [y0, EReal.bot_sub, Ideal.exp_bot, mul_zero, zero_mul]
      exact isReal_zero
    · exact (hu.mul (isReal_exp_sub hy fun e => absurd e c0)).mul (hz.mul (isReal_exp_sub hc fun e => absurd (h e) y0))

/-- Queries, keys, values and state real, and decays that once nothing stay nothing: the outputs are real, -/
theorem isReal_headOut (hq : ∀ i x, IsReal (q i x)) (hk : ∀ i x, IsReal (k i x)) (hb : ∀ i x, b i x ≠ ⊤)
    (hd : ∀ i j x, j.val ≤ i.val → b j x = ⊥ → b i x = ⊥)
    (hv : ∀ i w, IsReal (v i w)) (hS : ∀ x w, IsReal (S x w)) (i : Fin 64) (w : Fin 128) : IsReal (headOut q k b v S i w) := by
  refine (isReal_sum fun j => ?_).add (isReal_sum fun x => ((hq i x).mul (isReal_exp_of_ne (hb i x))).mul (hS x w))
  split_ifs with hj
  · exact (isReal_sum fun x => isReal_pair (hq i x) (hk j x) (hb i x) (hb j x) (hb 31 x) (hd i j x hj)).mul (hv j w)
  · exact isReal_zero

/-- and so is the state. -/
theorem isReal_headNext (hk : ∀ i x, IsReal (k i x)) (hb : ∀ i x, b i x ≠ ⊤)
    (hd : ∀ i j x, j.val ≤ i.val → b j x = ⊥ → b i x = ⊥)
    (hv : ∀ i w, IsReal (v i w)) (hS : ∀ x w, IsReal (S x w)) (x : Fin 64) (w : Fin 128) : IsReal (headNext k b v S x w) :=
  ((hS x w).mul (isReal_exp_of_ne (hb 63 x))).add
    (isReal_sum fun i => ((hk i x).mul (isReal_exp_sub (hb 63 x) (hd 63 i x (by show i.val ≤ 63; omega)))).mul (hv i w))

end Head

/-! ## One sequence -/

section Sequence

variable (X : ℕ → Fin 1664 → EReal) (au : Fin 16 → Fin 256 → EReal) (ab : Fin 256 → EReal) (gn : Fin 128 → EReal)

/-- The logarithm of row `R`'s decay of a key's channel. -/
def logDecay (R : ℕ) (c : Fin 256) : EReal :=
  Ideal.div (-(Cert.Lru.softplus (-(∑ x : Fin 16, X R ⟨1536 + x.val, by omega⟩ * au x c + ab c)))) (Ideal.ofBits .f32 0x41800000#32)

/-- The queries of chunk `n`, scaled, -/
def qAt (h : Fin 4) (n : ℕ) (i x : Fin 64) : EReal := X (n * 64 + i.val) ⟨h.val * 64 + x.val, by omega⟩ * Ideal.ofBits .f32 0x3E000000#32

/-- its keys, -/
def kAt (h : Fin 4) (n : ℕ) (i x : Fin 64) : EReal := X (n * 64 + i.val) ⟨256 + (h.val * 64 + x.val), by omega⟩

/-- its values, -/
def vAt (h : Fin 4) (n : ℕ) (i : Fin 64) (w : Fin 128) : EReal := X (n * 64 + i.val) ⟨512 + (h.val * 128 + w.val), by omega⟩

/-- and the logarithms of its decays, summed from the chunk's first row. -/
def bAt (h : Fin 4) (n : ℕ) (i x : Fin 64) : EReal :=
  ∑ j : Fin 64, if j.val ≤ i.val then logDecay X au ab (n * 64 + j.val) ⟨h.val * 64 + x.val, by omega⟩ else 0

/-- The state before chunk `n`, zero before the first. -/
def stateAt (h : Fin 4) : ℕ → Fin 64 → Fin 128 → EReal
  | 0 => fun _ _ => 0
  | n + 1 => headNext (kAt X h n) (bAt X au ab h n) (vAt X h n) (stateAt h n)

/-- The outputs of chunk `n`. -/
def oAt (h : Fin 4) (n : ℕ) (i : Fin 64) (w : Fin 128) : EReal :=
  headOut (qAt X h n) (kAt X h n) (bAt X au ab h n) (vAt X h n) (stateAt X au ab h n) i w

/-- Row `R`'s result: the outputs over their root mean square, by their gains and the row's gate. -/
def rowOut (n : ℕ) (i : Fin 64) (d : Fin 512) : EReal :=
  oAt X au ab ⟨d.val / 128, by omega⟩ n i ⟨d.val % 128, by omega⟩
    * Ideal.rsqrt (Ideal.div (∑ x : Fin 128, oAt X au ab ⟨d.val / 128, by omega⟩ n i x * oAt X au ab ⟨d.val / 128, by omega⟩ n i x)
        (Ideal.ofBits .f32 0x43000000#32) + Ideal.ofBits .f32 0x358637BD#32)
    * gn ⟨d.val % 128, by omega⟩
    * (X (n * 64 + i.val) ⟨1024 + d.val, by omega⟩
        * Ideal.div 1 (1 + Ideal.exp (-(X (n * 64 + i.val) ⟨1024 + d.val, by omega⟩))))

variable {X au ab}

/-- The decays' logarithms are never plus infinity, whatever the inputs, -/
theorem logDecay_ne_top (R : ℕ) (c : Fin 256) : logDecay X au ab R c ≠ ⊤ := by
  unfold logDecay
  rw [word_sixteen, Ideal.div_coe (by norm_num)]
  generalize -(∑ x : Fin 16, X R ⟨1536 + x.val, by omega⟩ * au x c + ab c) = z
  rcases softplus_cases z with h | h
  · exact (h.neg.mul (isReal_coe _)).ne_top
  · rw [h, EReal.neg_top, EReal.bot_mul_coe_of_pos (by norm_num)]
    simp

/-- nor are their sums, -/
theorem bAt_ne_top (h : Fin 4) (n : ℕ) (i x : Fin 64) : bAt X au ab h n i x ≠ ⊤ := by
  unfold bAt
  refine sum_ne_top fun j => ?_
  split_ifs
  · exact logDecay_ne_top _ _
  · simp

/-- and a sum that is minus infinity stays so in the rows that follow. -/
theorem bAt_stays (h : Fin 4) (n : ℕ) (i j x : Fin 64) (hij : j.val ≤ i.val) (e : bAt X au ab h n j x = ⊥) :
    bAt X au ab h n i x = ⊥ := by
  unfold bAt at e ⊢
  obtain ⟨y, hy⟩ := exists_bot e fun y => by
    split_ifs
    · exact logDecay_ne_top _ _
    · simp
  split_ifs at hy with hyj
  · refine sum_eq_bot y ?_
    rw [if_pos (by omega), hy]
  · exact absurd hy (by simp)

/-- From real queries, keys and values the states are real, -/
theorem isReal_stateAt (hX : ∀ R (c : Fin 1664), c.val < 1024 → IsReal (X R c)) (h : Fin 4) :
    ∀ (n : ℕ) (x : Fin 64) (w : Fin 128), IsReal (stateAt X au ab h n x w)
  | 0, _, _ => isReal_zero
  | n + 1, x, w => isReal_headNext (fun _ x => hX _ _ (by show 256 + (h.val * 64 + x.val) < 1024; omega)) (bAt_ne_top h n) (bAt_stays h n)
      (fun _ w => hX _ _ (by show 512 + (h.val * 128 + w.val) < 1024; omega)) (isReal_stateAt hX h n) x w

/-- and the outputs. -/
theorem isReal_oAt (hX : ∀ R (c : Fin 1664), c.val < 1024 → IsReal (X R c)) (h : Fin 4) (n : ℕ)
    (i : Fin 64) (w : Fin 128) : IsReal (oAt X au ab h n i w) :=
  isReal_headOut (fun _ x => (hX _ _ (by show h.val * 64 + x.val < 1024; omega)).mul (by rw [word_eighth]; exact isReal_coe _))
    (fun _ x => hX _ _ (by show 256 + (h.val * 64 + x.val) < 1024; omega)) (bAt_ne_top h n) (bAt_stays h n)
    (fun _ w => hX _ _ (by show 512 + (h.val * 128 + w.val) < 1024; omega)) (isReal_stateAt hX h n) i w

end Sequence

/-! ## The whole array -/

/-- Row `R` of sequence `s` of the projected array, zero past its end. -/
def rowAt (p : (⟨3, ![4, 4096, 1664]⟩ : Shape).Idx → EReal) (s : Fin 4) (R : ℕ) (c : Fin 1664) : EReal :=
  if h : R < 4096 then p (ix3 s ⟨R, h⟩ c) else 0

/-- A row within the array. -/
theorem rowAt_of_lt (p : (⟨3, ![4, 4096, 1664]⟩ : Shape).Idx → EReal) (s : Fin 4) {R : ℕ} (h : R < 4096) (c : Fin 1664) :
    rowAt p s R c = p (ix3 s ⟨R, h⟩ c) := dif_pos h

/-- Queries, keys and values of an array in which these are real are real. -/
theorem isReal_rowAt {p : (⟨3, ![4, 4096, 1664]⟩ : Shape).Idx → EReal}
    (hp : ∀ (s : Fin 4) (r : Fin 4096) (c : Fin 1664), c.val < 1024 → IsReal (p (ix3 s r c))) (s : Fin 4) (R : ℕ) (c : Fin 1664)
    (hc : c.val < 1024) : IsReal (rowAt p s R c) := by
  unfold rowAt
  split_ifs
  · exact hp _ _ _ hc
  · exact isReal_zero

/-- What the result array holds at row `R` of sequence `s`. -/
def result (p : (⟨3, ![4, 4096, 1664]⟩ : Shape).Idx → EReal) (au : (⟨2, ![16, 256]⟩ : Shape).Idx → EReal)
    (ab : (⟨1, ![256]⟩ : Shape).Idx → EReal) (gn : (⟨1, ![128]⟩ : Shape).Idx → EReal) (s : Fin 4) (R : Fin 4096) (d : Fin 512) : EReal :=
  rowOut (rowAt p s) (fun x c => au (ix2 x c)) (fun c => ab (ix1 c)) (fun w => gn (ix1 w)) (R.val / 64) ⟨R.val % 64, by omega⟩ d

/-! ## Sums with most terms zero -/

/-- A sum whose terms vanish outside one block of `n`. -/
theorem sum_block {N n : ℕ} (h : ℕ) (hn : 0 < n) (hN : h * n + n ≤ N) (F : Fin N → EReal) (z : ∀ c : Fin N, c.val / n ≠ h → F c = 0) :
    ∑ c : Fin N, F c = ∑ k : Fin n, F ⟨h * n + k.val, by omega⟩ := by
  symm
  refine Finset.sum_of_injOn (fun k : Fin n => (⟨h * n + k.val, by omega⟩ : Fin N)) ?_ (fun _ _ => Finset.mem_univ _) ?_ (fun _ _ => rfl)
  · intro a _ b _ e
    have e1 : h * n + a.val = h * n + b.val := congrArg Fin.val e
    exact Fin.ext (by omega)
  · intro c _ hc
    refine z c fun e => hc ?_
    have h1 := Nat.div_add_mod c.val n
    rw [e, Nat.mul_comm] at h1
    exact ⟨⟨c.val % n, Nat.mod_lt _ hn⟩, Finset.mem_coe.mpr (Finset.mem_univ _), Fin.ext h1⟩

end Cert.Gla
-- ==== Proof.GlaBlock.lean ====
module

public import proofs.«01_k».proof.Proof.Gen.GlaIdeal.Value
public import Idealize.ShloMosaic.Lib.Pointwise
public import Idealize.ShloMosaic.Lib.WordCmp
public import Idealize.ShloMosaic.Lib.Pipeline.ValueKit
public import Idealize.ShloMosaic.Lib.Pipeline.ReadBack

@[expose] public section

set_option maxRecDepth 16384
set_option maxHeartbeats 1600000

noncomputable section

/-! # What one chunk of the kernel's gated linear attention leaves

A chunk is 64 rows of each of the four sequences.  For each sequence the kernel takes the chunk's rows and the state before
them, and leaves the rows' results and the state after them; the four sequences' blocks fill the two buffers. -/

namespace Cert.GlaIdeal.Block

open Cert.GlaIdeal Cert.GlaIdeal.Gen Idealize.ShloMosaic Idealize.ShloMosaic.TcCoe

/-- The summed logarithms of a sequence's decays. -/
def bV (X : Vec Ideal S1x64x1664 .f32) (au : Vec Ideal S128x256 .f32) (ab : Vec Ideal S1x256 .f32) (tril : Vec Ideal S64x64 .bf16) :
    FVec Ideal S64x256 .f32 :=
  k0_pay31 (k0_pay9 X au ab) tril

/-- The rows' scores against each other, before masking. -/
def scV (X : Vec Ideal S1x64x1664 .f32) (b : FVec Ideal S64x256 .f32) (hmk : Vec Ideal S256x256 .bf16) : FVec Ideal S64x256 .f32 :=
  k0_pay39 (k0_pay5 X) (k0_pay6 X) b hmk

/-- The rows' outputs, before their norm. -/
def oV (X : Vec Ideal S1x64x1664 .f32) (b : FVec Ideal S64x256 .f32) (hmk : Vec Ideal S256x256 .bf16)
    (incl : Vec Ideal S64x256 .f32) (hmv : Vec Ideal S256x512 .bf16) (S : Vec Ideal S1x512x256 .f32) : FVec Ideal S64x512 .f32 :=
  k0_pay48 (k0_pay5 X) (k0_pay7 X) b (scV X b hmk) incl hmv S

/-- The state after the rows. -/
def stV (X : Vec Ideal S1x64x1664 .f32) (b : FVec Ideal S64x256 .f32) (hmvk : Vec Ideal S512x256 .f32)
    (S : Vec Ideal S1x512x256 .f32) : FVec Ideal S1x512x256 .f32 :=
  k0_pay49 (k0_pay6 X) (k0_pay7 X) b (k0_pay38 b) S hmvk

/-- The rows' results. -/
def outV (X : Vec Ideal S1x64x1664 .f32) (o : FVec Ideal S64x512 .f32) (hm : Vec Ideal S512x512 .bf16) (gain : Vec Ideal S1x512 .f32) :
    FVec Ideal S1x64x512 .bf16 :=
  k0_pay72 (k0_pay8 X) (k0_pay70 o (k0_pay65 o hm) gain) (k0_pay71 (k0_pay8 X))

/-- Two indices of rank three with equal coordinates are equal. -/
theorem idx3_ext {n0 n1 n2 : ℕ} {i j : (⟨3, ![n0, n1, n2]⟩ : Shape).Idx} (h0 : (i 0).val = (j 0).val) (h1 : (i 1).val = (j 1).val)
    (h2 : (i 2).val = (j 2).val) : i = j := by
  rw [eq_ix3 i, eq_ix3 j, show i 0 = j 0 from Fin.ext h0, show i 1 = j 1 from Fin.ext h1, show i 2 = j 2 from Fin.ext h2]

/-- A block written last, read inside it, -/
theorem canon_hit {sh : Shape} {e : EltTy} {r : Rect sh} {w : r.shape.Idx → Elt Ideal e} {L : List (View.Piece (Elt Ideal) sh e)}
    {y : sh.Idx} (x : r.shape.Idx) (h : r.emb x = y) : View.canon (Val := Elt Ideal) (⟨r, w⟩ :: L) y = w x := by
  subst h
  exact View.canon_cons_emb (Val := Elt Ideal) r w L x

/-- and read outside it. -/
theorem canon_miss {sh : Shape} {e : EltTy} {r : Rect sh} {w : r.shape.Idx → Elt Ideal e} {L : List (View.Piece (Elt Ideal) sh e)}
    {y : sh.Idx} {z : Elt Ideal e} (h : y ∉ r.set) (hz : View.canon (Val := Elt Ideal) L y = z) :
    View.canon (Val := Elt Ideal) (⟨r, w⟩ :: L) y = z :=
  (View.canon_cons_of_not_mem (Val := Elt Ideal) ⟨r, w⟩ L h).trans hz

section Four

variable {a b : ℕ}

/-- The block of sequence `k`. -/
abbrev blockAt (a b k : ℕ) (h : ∀ x, (![k, 0, 0] : Fin 3 → ℕ) x + (![1, a, b] : Fin 3 → ℕ) x ≤ (⟨3, ![4, a, b]⟩ : Shape).size x) :
    Rect (⟨3, ![4, a, b]⟩ : Shape) :=
  Rect.unit ![k, 0, 0] ![1, a, b] h

/-- An index of a sequence's block, -/
theorem block_emb {k : ℕ} (hk : k < 4) (h) (i : Fin a) (d : Fin b) : (blockAt a b k h).emb (ix3 (0 : Fin 1) i d) = ix3 ⟨k, hk⟩ i d := by
  refine idx3_ext (n0 := 4) (n1 := a) (n2 := b) ?_ ?_ ?_
  · show k + 1 * 0 = k; omega
  · show 0 + 1 * i.val = i.val; omega
  · show 0 + 1 * d.val = d.val; omega

/-- and one outside it. -/
theorem block_miss {k : ℕ} (h) (s : Fin 4) (hs : s.val ≠ k) (i : Fin a) (d : Fin b) :
    (ix3 s i d : (⟨3, ![4, a, b]⟩ : Shape).Idx) ∉ (blockAt a b k h).set := by
  intro hm
  have h1 : k ≤ s.val ∧ s.val < k + 1 := (Rect.mem_set_unit.mp hm) (0 : Fin 3)
  omega

/-- Four blocks, one per sequence, read at an index. -/
theorem canon4 {e : EltTy} (i3 i2 i1 i0) (w3 w2 w1 w0 : (⟨3, ![1, a, b]⟩ : Shape).Idx → Elt Ideal e)
    (L : List (View.Piece (Elt Ideal) (⟨3, ![4, a, b]⟩ : Shape) e)) (f : Fin 4 → (⟨3, ![1, a, b]⟩ : Shape).Idx → Elt Ideal e)
    (h3 : w3 = f 3) (h2 : w2 = f 2) (h1 : w1 = f 1) (h0 : w0 = f 0) (s : Fin 4) (i : Fin a) (d : Fin b) :
    View.canon (Val := Elt Ideal) (s := (⟨3, ![4, a, b]⟩ : Shape)) (e := e)
      (⟨blockAt a b 3 i3, w3⟩ :: ⟨blockAt a b 2 i2, w2⟩ :: ⟨blockAt a b 1 i1, w1⟩ :: ⟨blockAt a b 0 i0, w0⟩ :: L) (ix3 s i d)
      = f s (ix3 0 i d) := by
  subst h3; subst h2; subst h1; subst h0
  rcases s with ⟨s, hs⟩
  interval_cases s
  · exact canon_miss (block_miss i3 _ (by simp) i d) (canon_miss (block_miss i2 _ (by simp) i d)
      (canon_miss (block_miss i1 _ (by simp) i d) (canon_hit (r := blockAt a b 0 i0) (ix3 (0 : Fin 1) i d) (block_emb (by omega) i0 i d))))
  · exact canon_miss (block_miss i3 _ (by simp) i d) (canon_miss (block_miss i2 _ (by simp) i d)
      (canon_hit (r := blockAt a b 1 i1) (ix3 (0 : Fin 1) i d) (block_emb (by omega) i1 i d)))
  · exact canon_miss (block_miss i3 _ (by simp) i d) (canon_hit (r := blockAt a b 2 i2) (ix3 (0 : Fin 1) i d) (block_emb (by omega) i2 i d))
  · exact canon_hit (r := blockAt a b 3 i3) (ix3 (0 : Fin 1) i d) (block_emb (by omega) i3 i d)

end Four

/-- A sequence's rows of a chunk, -/
def rowsOf (X : Vec Ideal S4x64x1664 .f32) : Fin 4 → Vec Ideal S1x64x1664 .f32
  | 0 => View.ld X (Rect.unit ![0, 0, 0] ![1, 64, 1664] inb_S4x64x1664_S1x64x1664_0_0_0)
  | 1 => View.ld X (Rect.unit ![1, 0, 0] ![1, 64, 1664] inb_S4x64x1664_S1x64x1664_1_0_0)
  | 2 => View.ld X (Rect.unit ![2, 0, 0] ![1, 64, 1664] inb_S4x64x1664_S1x64x1664_2_0_0)
  | 3 => View.ld X (Rect.unit ![3, 0, 0] ![1, 64, 1664] inb_S4x64x1664_S1x64x1664_3_0_0)

/-- and its state. -/
def stateOf (S : Vec Ideal S4x512x256 .f32) : Fin 4 → Vec Ideal S1x512x256 .f32
  | 0 => View.ld S (Rect.unit ![0, 0, 0] ![1, 512, 256] inb_S4x512x256_S1x512x256_0_0_0)
  | 1 => View.ld S (Rect.unit ![1, 0, 0] ![1, 512, 256] inb_S4x512x256_S1x512x256_1_0_0)
  | 2 => View.ld S (Rect.unit ![2, 0, 0] ![1, 512, 256] inb_S4x512x256_S1x512x256_2_0_0)
  | 3 => View.ld S (Rect.unit ![3, 0, 0] ![1, 512, 256] inb_S4x512x256_S1x512x256_3_0_0)

/-- A sequence's rows, read. -/
theorem rowsOf_apply (X : Vec Ideal S4x64x1664 .f32) (s : Fin 4) (i : Fin 64) (q : Fin 1664) :
    rowsOf X s (ix3 0 i q) = X (ix3 s i q) := by
  match s with
  | 0 => exact congrArg X (idx3_ext (n0 := 4) (n1 := 64) (n2 := 1664) rfl (by show 0 + 1 * i.val = i.val; omega) (by show 0 + 1 * q.val = q.val; omega))
  | 1 => exact congrArg X (idx3_ext (n0 := 4) (n1 := 64) (n2 := 1664) rfl (by show 0 + 1 * i.val = i.val; omega) (by show 0 + 1 * q.val = q.val; omega))
  | 2 => exact congrArg X (idx3_ext (n0 := 4) (n1 := 64) (n2 := 1664) rfl (by show 0 + 1 * i.val = i.val; omega) (by show 0 + 1 * q.val = q.val; omega))
  | 3 => exact congrArg X (idx3_ext (n0 := 4) (n1 := 64) (n2 := 1664) rfl (by show 0 + 1 * i.val = i.val; omega) (by show 0 + 1 * q.val = q.val; omega))

/-- A sequence's state, read. -/
theorem stateOf_apply (S : Vec Ideal S4x512x256 .f32) (s : Fin 4) (d : Fin 512) (q : Fin 256) :
    stateOf S s (ix3 0 d q) = S (ix3 s d q) := by
  match s with
  | 0 => exact congrArg S (idx3_ext (n0 := 4) (n1 := 512) (n2 := 256) rfl (by show 0 + 1 * d.val = d.val; omega) (by show 0 + 1 * q.val = q.val; omega))
  | 1 => exact congrArg S (idx3_ext (n0 := 4) (n1 := 512) (n2 := 256) rfl (by show 0 + 1 * d.val = d.val; omega) (by show 0 + 1 * q.val = q.val; omega))
  | 2 => exact congrArg S (idx3_ext (n0 := 4) (n1 := 512) (n2 := 256) rfl (by show 0 + 1 * d.val = d.val; omega) (by show 0 + 1 * q.val = q.val; omega))
  | 3 => exact congrArg S (idx3_ext (n0 := 4) (n1 := 512) (n2 := 256) rfl (by show 0 + 1 * d.val = d.val; omega) (by show 0 + 1 * q.val = q.val; omega))

/-- What a chunk leaves of one sequence's rows, -/
def outsOf (X : Vec Ideal S4x64x1664 .f32) (au : Vec Ideal S128x256 .f32) (ab : Vec Ideal S1x256 .f32) (gain : Vec Ideal S1x512 .f32)
    (hmk : Vec Ideal S256x256 .bf16) (hmv : Vec Ideal S256x512 .bf16) (hm : Vec Ideal S512x512 .bf16)
    (tril : Vec Ideal S64x64 .bf16) (incl : Vec Ideal S64x256 .f32) (S : Vec Ideal S4x512x256 .f32) (s : Fin 4) :
    Vec Ideal S1x64x512 .bf16 :=
  outV (rowsOf X s) (oV (rowsOf X s) (bV (rowsOf X s) au ab tril) hmk incl hmv (stateOf S s)) hm gain

/-- and of its state. -/
def nextOf (X : Vec Ideal S4x64x1664 .f32) (au : Vec Ideal S128x256 .f32) (ab : Vec Ideal S1x256 .f32) (hmvk : Vec Ideal S512x256 .f32)
    (tril : Vec Ideal S64x64 .bf16) (S : Vec Ideal S4x512x256 .f32) (s : Fin 4) : Vec Ideal S1x512x256 .f32 :=
  stV (rowsOf X s) (bV (rowsOf X s) au ab tril) hmvk (stateOf S s)

/-- What a chunk leaves, from its blocks and the state before. -/
def Leaves (X : Vec Ideal S4x64x1664 .f32) (au : Vec Ideal S128x256 .f32) (ab : Vec Ideal S1x256 .f32) (gain : Vec Ideal S1x512 .f32)
    (hmk : Vec Ideal S256x256 .bf16) (hmv : Vec Ideal S256x512 .bf16) (hmvk : Vec Ideal S512x256 .f32) (hm : Vec Ideal S512x512 .bf16)
    (tril : Vec Ideal S64x64 .bf16) (incl : Vec Ideal S64x256 .f32) (S : Vec Ideal S4x512x256 .f32)
    (Z : Vec Ideal S4x64x512 .bf16 × Vec Ideal S4x512x256 .f32) : Prop :=
  (∀ (s : Fin 4) (i : Fin 64) (d : Fin 512), Z.1 (ix3 s i d) = outsOf X au ab gain hmk hmv hm tril incl S s (ix3 0 i d))
    ∧ (∀ (s : Fin 4) (d : Fin 512) (q : Fin 256), Z.2 (ix3 s d q) = nextOf X au ab hmvk tril S s (ix3 0 d q))

variable (m : (ℓ : Loc nD τ sig) → Buf (Elt Ideal) ℓ)

/-- A point after the first goes on from the state the point before it left. -/
theorem outs_B (c : Dev nD) (t : Fin cfg0.N) (h0 : ¬t.val % 64 = 0) :
    Leaves (iblk m c 0 t) (iblk m c 1 t) (iblk m c 2 t) (iblk m c 3 t) (iblk m c 4 t) (iblk m c 5 t) (iblk m c 6 t) (iblk m c 7 t)
      (iblk m c 8 t) (iblk m c 9 t) (outsAt0 (F := Ideal) m c (t.val - 1) (Nat.lt_of_le_of_lt (Nat.sub_le _ _) t.isLt)).2
      (outsAt0 (F := Ideal) m c t.val t.isLt) := by
  rw [outsAt0_B m c t h0]
  frame_out
  simp only [read_unread_whole]
  unfold Leaves
  dsimp only
  refine ⟨?_, ?_⟩
  · intro s i d
    refine canon4 (a := 64) (b := 512) inb_S4x64x512_S1x64x512_3_0_0 inb_S4x64x512_S1x64x512_2_0_0 inb_S4x64x512_S1x64x512_1_0_0
      inb_S4x64x512_S1x64x512_0_0_0 _ _ _ _ []
      (outsOf (iblk m c 0 t) (iblk m c 1 t) (iblk m c 2 t) (iblk m c 3 t) (iblk m c 4 t) (iblk m c 5 t) (iblk m c 7 t) (iblk m c 8 t)
        (iblk m c 9 t) (outsAt0 (F := Ideal) m c (t.val - 1) (Nat.lt_of_le_of_lt (Nat.sub_le _ _) t.isLt)).2) ?_ ?_ ?_ ?_ s i d
    · rfl
    · rfl
    · rfl
    · rfl
  · intro s i d
    refine canon4 (a := 512) (b := 256) inb_S4x512x256_S1x512x256_3_0_0 inb_S4x512x256_S1x512x256_2_0_0 inb_S4x512x256_S1x512x256_1_0_0
      inb_S4x512x256_S1x512x256_0_0_0 _ _ _ _ _
      (nextOf (iblk m c 0 t) (iblk m c 1 t) (iblk m c 2 t) (iblk m c 6 t) (iblk m c 8 t)
        (outsAt0 (F := Ideal) m c (t.val - 1) (Nat.lt_of_le_of_lt (Nat.sub_le _ _) t.isLt)).2) ?_ ?_ ?_ ?_ s i d
    · rfl
    · rfl
    · rfl
    · rfl

/-- The first point starts from a zero state. -/
theorem outs_A (c : Dev nD) (t : Fin cfg0.N) (h0 : t.val % 64 = 0) :
    Leaves (iblk m c 0 t) (iblk m c 1 t) (iblk m c 2 t) (iblk m c 3 t) (iblk m c 4 t) (iblk m c 5 t) (iblk m c 6 t) (iblk m c 7 t)
      (iblk m c 8 t) (iblk m c 9 t) (k0_pay3 (F := Ideal)) (outsAt0 (F := Ideal) m c t.val t.isLt) := by
  rw [outsAt0_A m c t h0]
  frame_out
  simp (discharger := decide) only [↓View.readCov_skip, ↓View.readCov_fill]
  unfold Leaves
  dsimp only
  refine ⟨?_, ?_⟩
  · intro s i d
    refine canon4 (a := 64) (b := 512) inb_S4x64x512_S1x64x512_3_0_0 inb_S4x64x512_S1x64x512_2_0_0 inb_S4x64x512_S1x64x512_1_0_0
      inb_S4x64x512_S1x64x512_0_0_0 _ _ _ _ []
      (outsOf (iblk m c 0 t) (iblk m c 1 t) (iblk m c 2 t) (iblk m c 3 t) (iblk m c 4 t) (iblk m c 5 t) (iblk m c 7 t) (iblk m c 8 t)
        (iblk m c 9 t) (k0_pay3 (F := Ideal))) ?_ ?_ ?_ ?_ s i d
    · rfl
    · rfl
    · rfl
    · rfl
  · intro s i d
    refine canon4 (a := 512) (b := 256) inb_S4x512x256_S1x512x256_3_0_0 inb_S4x512x256_S1x512x256_2_0_0 inb_S4x512x256_S1x512x256_1_0_0
      inb_S4x512x256_S1x512x256_0_0_0 _ _ _ _ _
      (nextOf (iblk m c 0 t) (iblk m c 1 t) (iblk m c 2 t) (iblk m c 6 t) (iblk m c 8 t)
        (k0_pay3 (F := Ideal))) ?_ ?_ ?_ ?_ s i d
    · rfl
    · rfl
    · rfl
    · rfl

end Cert.GlaIdeal.Block
-- ==== Proof.GlaRows.lean ====
module

public import proofs.«01_k».proof.Proof.GlaSpec
public import proofs.«01_k».proof.Proof.GlaBlock

@[expose] public section

set_option maxRecDepth 16384

noncomputable section

/-! # What one chunk of the kernel's linear attention computes

The kernel works on all four heads at once: it lays the heads' keys and values out one after another and multiplies by
masks of zeros and ones that keep each head to itself.  Read at an index, a masked sum is the head's own sum. -/

namespace Cert.GlaIdeal.Rows

open Cert.GlaIdeal Cert.GlaIdeal.Gen Cert.GlaIdeal.Block Idealize.ShloMosaic Idealize.ShloMosaic.TcCoe
open Cert.Gla

/-- Four copies of 64 rows, one after another. -/
theorem four_blocks (f : Fin 64 → EReal) (J : Fin 256) :
    (if h : J.val < 64 then f ⟨J.val, h⟩
      else if h : J.val - 64 < 64 then f ⟨J.val - 64, h⟩
      else if h : J.val - 64 - 64 < 64 then f ⟨J.val - 64 - 64, h⟩
      else f ⟨J.val - 64 - 64 - 64, by omega⟩) = f ⟨J.val % 64, by omega⟩ := by
  split_ifs <;> exact congrArg f (Fin.ext (by simp only; omega))

/-! ## The decays -/

section Decay

variable {X : ℕ → Fin 1664 → EReal} {au : Fin 16 → Fin 256 → EReal} {ab : Fin 256 → EReal} {n : ℕ}
  {Xc : Vec Ideal S1x64x1664 .f32} {auW : Vec Ideal S128x256 .f32} {abW : Vec Ideal S1x256 .f32} {tril : Vec Ideal S64x64 .bf16}

/-- The logarithms of the decays. -/
theorem decay_apply (hX : ∀ i c, Xc (ix3 0 i c) = X (n * 64 + i.val) c)
    (hu : ∀ (r : Fin 128) (c : Fin 256), auW (ix2 r c) = if h : r.val < 16 then au ⟨r.val, h⟩ c else 0)
    (ha : ∀ c, abW (ix2 0 c) = ab c) (i : Fin 64) (c : Fin 256) :
    k0_pay9 (F := Ideal) Xc auW abW (ix2 i c) = logDecay X au ab (n * 64 + i.val) c := by
  pointwise [k0_pay9, k0_pay4]
  have hs : ∑ x : Fin 128, Xc (ix3 0 i ⟨1536 + x.val, by omega⟩) * auW (ix2 x c)
      = ∑ x : Fin 16, X (n * 64 + i.val) ⟨1536 + x.val, by omega⟩ * au x c := by
    refine (sum_block (n := 16) 0 (by omega) (by omega) _ fun x hx => ?_).trans (Finset.sum_congr rfl fun x _ => ?_)
    · rw [hu, dif_neg (by omega), mul_zero]
    · rw [hX, hu, dif_pos (by show 0 * 16 + x.val < 16; omega)]
      refine congrArg₂ (· * ·) (congrArg _ (Fin.ext ?_)) (congrArg (fun y => au y c) (Fin.ext ?_))
      · show 1536 + (0 * 16 + x.val) = 1536 + x.val; omega
      · show 0 * 16 + x.val = x.val; omega
  rw [hs, ha]
  simp only [Ideal.absf_def, zero_sub]
  exact mul_sixteenth _

/-- Their sums from the chunk's first row: the kernel adds them in three parts, and the later two add nothing. -/
theorem cum_apply (hX : ∀ i c, Xc (ix3 0 i c) = X (n * 64 + i.val) c)
    (hu : ∀ (r : Fin 128) (c : Fin 256), auW (ix2 r c) = if h : r.val < 16 then au ⟨r.val, h⟩ c else 0)
    (ha : ∀ c, abW (ix2 0 c) = ab c) (ht : ∀ i j : Fin 64, tril (ix2 i j) = if j.val ≤ i.val then (1 : EReal) else 0)
    (i : Fin 64) (c : Fin 256) :
    bV Xc auW abW tril (ix2 i c) = ∑ j : Fin 64, if j.val ≤ i.val then logDecay X au ab (n * 64 + j.val) c else 0 := by
  have hA := decay_apply hX hu ha
  unfold bV
  generalize k0_pay9 (F := Ideal) Xc auW abW = A at hA
  pointwise [k0_pay31]
  refine Eq.trans (congrArg₂ (· + ·) (congrArg₂ (· + ·) (Finset.sum_congr rfl fun j _ => ?_) (Finset.sum_congr rfl fun j _ => ?_))
    (Finset.sum_congr rfl fun j _ => ?_))
    (sum_parts (fun j => j.val ≤ i.val) (fun j => logDecay X au ab (n * 64 + j.val) c) fun j => logDecay_ne_top _ _)
  · rw [ht, hA]
  · rw [ht, hA]
  · have ec : (⟨512 + c.val - 256 - 256, by omega⟩ : Fin 256) = c := Fin.ext (by show 512 + c.val - 256 - 256 = c.val; omega)
    rw [dif_neg (by omega), dif_neg (by omega), ht, ec, hA]

end Decay

/-! ## The heads -/

section Heads

variable {q k b : FVec Ideal S64x256 .f32} {v : FVec Ideal S64x512 .f32} {hmk : Vec Ideal S256x256 .bf16}
  {hmv : Vec Ideal S256x512 .bf16} {hmvk : Vec Ideal S512x256 .f32} {incl : Vec Ideal S64x256 .f32}
  {qh kh bh : Fin 4 → Fin 64 → Fin 64 → EReal} {vh : Fin 4 → Fin 64 → Fin 128 → EReal}
  {Sh : Fin 4 → Fin 64 → Fin 128 → EReal} {S : Vec Ideal S1x512x256 .f32}

/-- The scores of all heads, laid out one head after another. -/
theorem score_apply (hq : ∀ (h : Fin 4) (i x : Fin 64), q (ix2 i ⟨h.val * 64 + x.val, by omega⟩) = qh h i x)
    (hk : ∀ (h : Fin 4) (i x : Fin 64), k (ix2 i ⟨h.val * 64 + x.val, by omega⟩) = kh h i x)
    (hb : ∀ (h : Fin 4) (i x : Fin 64), b (ix2 i ⟨h.val * 64 + x.val, by omega⟩) = bh h i x)
    (hm : ∀ (J c : Fin 256), hmk (ix2 J c) = if J.val / 64 = c.val / 64 then (1 : EReal) else 0)
    (h : Fin 4) (i j : Fin 64) :
    k0_pay39 (F := Ideal) q k b hmk (ix2 i ⟨h.val * 64 + j.val, by omega⟩) = score (qh h) (kh h) (bh h) i j := by
  have hJ : (h.val * 64 + j.val) / 64 = h.val := by omega
  have hJ' : (h.val * 64 + j.val) % 64 = j.val := by omega
  pointwise [k0_pay39]
  have e : ∀ x : Fin 256, _ := fun x : Fin 256 =>
    four_blocks (fun y => k (ix2 y x) * Ideal.exp (b (ix2 31 x) - b (ix2 y x))) ⟨h.val * 64 + j.val, by omega⟩
  refine (Finset.sum_congr rfl fun x _ => congrArg₂ (· * ·) rfl (congrArg₂ (· * ·) (e x) rfl)).trans ?_
  refine (sum_block (n := 64) h.val (by omega) (by omega) _ fun x hx => ?_).trans (Finset.sum_congr rfl fun x _ => ?_)
  · rw [hm, if_neg (by show ¬(h.val * 64 + j.val) / 64 = x.val / 64; omega), mul_zero, mul_zero]
  · rw [hm, if_pos (by show (h.val * 64 + j.val) / 64 = (h.val * 64 + x.val) / 64; omega), mul_one]
    have ej : (⟨(h.val * 64 + j.val) % 64, by omega⟩ : Fin 64) = j := Fin.ext hJ'
    simp only [ej, hq, hk, hb]

/-- The outputs of all heads. -/
theorem out_apply (hq : ∀ (h : Fin 4) (i x : Fin 64), q (ix2 i ⟨h.val * 64 + x.val, by omega⟩) = qh h i x)
    (hk : ∀ (h : Fin 4) (i x : Fin 64), k (ix2 i ⟨h.val * 64 + x.val, by omega⟩) = kh h i x)
    (hb : ∀ (h : Fin 4) (i x : Fin 64), b (ix2 i ⟨h.val * 64 + x.val, by omega⟩) = bh h i x)
    (hv : ∀ (h : Fin 4) (i : Fin 64) (w : Fin 128), v (ix2 i ⟨h.val * 128 + w.val, by omega⟩) = vh h i w)
    (hS : ∀ (h h' : Fin 4) (x : Fin 64) (w : Fin 128), S (ix3 0 ⟨h.val * 128 + w.val, by omega⟩ ⟨h'.val * 64 + x.val, by omega⟩)
      = if h = h' then Sh h x w else 0)
    (hm : ∀ (J c : Fin 256), hmk (ix2 J c) = if J.val / 64 = c.val / 64 then (1 : EReal) else 0)
    (hm2 : ∀ (J : Fin 256) (d : Fin 512), hmv (ix2 J d) = if J.val / 64 = d.val / 128 then (1 : EReal) else 0)
    (hi : ∀ (i : Fin 64) (J : Fin 256), incl (ix2 i J) = if J.val % 64 ≤ i.val then (1 : EReal) else 0)
    (h : Fin 4) (i : Fin 64) (w : Fin 128) :
    k0_pay48 (F := Ideal) q v b (k0_pay39 (F := Ideal) q k b hmk) incl hmv S (ix2 i ⟨h.val * 128 + w.val, by omega⟩)
      = headOut (qh h) (kh h) (bh h) (vh h) (Sh h) i w := by
  have hsc := score_apply hq hk hb hm
  generalize k0_pay39 (F := Ideal) q k b hmk = sc at hsc
  pointwise [k0_pay48, k0_pay47]
  unfold headOut
  refine congrArg₂ (· + ·) ?_ ?_
  · have e : ∀ J : Fin 256, _ := fun J : Fin 256 =>
      four_blocks (fun y => v (ix2 y ⟨h.val * 128 + w.val, by omega⟩)) J
    refine (Finset.sum_congr rfl fun x _ => congrArg₂ (· * ·) rfl (congrArg₂ (· * ·) (e x) rfl)).trans ?_
    refine (sum_block (n := 64) h.val (by omega) (by omega) _ fun x hx => ?_).trans (Finset.sum_congr rfl fun j _ => ?_)
    · rw [hm2, if_neg (by show ¬x.val / 64 = (h.val * 128 + w.val) / 128; omega), mul_zero, mul_zero]
    · rw [hm2, if_pos (by show (h.val * 64 + j.val) / 64 = (h.val * 128 + w.val) / 128; omega), mul_one, hi, hsc]
      have ej : (⟨(h.val * 64 + j.val) % 64, by omega⟩ : Fin 64) = j := Fin.ext (by show (h.val * 64 + j.val) % 64 = j.val; omega)
      simp only [ej, hv, show (h.val * 64 + j.val) % 64 = j.val by omega]
      split_ifs
      · rw [mul_one]
      · rw [mul_zero, zero_mul]
  · refine (sum_block (n := 64) h.val (by omega) (by omega) _ fun x hx => ?_).trans (Finset.sum_congr rfl fun x _ => ?_)
    · have e := hS h ⟨x.val / 64, by omega⟩ ⟨x.val % 64, by omega⟩ w
      rw [if_neg (fun e' => hx (congrArg Fin.val e').symm)] at e
      have ex : (⟨x.val / 64 * 64 + x.val % 64, by omega⟩ : Fin 256) = x := Fin.ext (by show x.val / 64 * 64 + x.val % 64 = x.val; omega)
      simp only [ex] at e
      rw [e, mul_zero]
    · rw [hS, if_pos rfl, hq, hb]

/-- The states of all heads after the chunk; away from a head's own block they stay zero. -/
theorem next_apply
    (hk : ∀ (h : Fin 4) (i x : Fin 64), k (ix2 i ⟨h.val * 64 + x.val, by omega⟩) = kh h i x)
    (hb : ∀ (h : Fin 4) (i x : Fin 64), b (ix2 i ⟨h.val * 64 + x.val, by omega⟩) = bh h i x)
    (hv : ∀ (h : Fin 4) (i : Fin 64) (w : Fin 128), v (ix2 i ⟨h.val * 128 + w.val, by omega⟩) = vh h i w)
    (hS : ∀ (h h' : Fin 4) (x : Fin 64) (w : Fin 128), S (ix3 0 ⟨h.val * 128 + w.val, by omega⟩ ⟨h'.val * 64 + x.val, by omega⟩)
      = if h = h' then Sh h x w else 0)
    (hm3 : ∀ (d : Fin 512) (c : Fin 256), hmvk (ix2 d c) = if d.val / 128 = c.val / 64 then (1 : EReal) else 0)
    (h h' : Fin 4) (x : Fin 64) (w : Fin 128) :
    k0_pay49 (F := Ideal) k v b (k0_pay38 b) S hmvk (ix3 0 ⟨h.val * 128 + w.val, by omega⟩ ⟨h'.val * 64 + x.val, by omega⟩)
      = if h = h' then headNext (kh h) (bh h) (vh h) (Sh h) x w else 0 := by
  pointwise [k0_pay49, k0_pay47, k0_pay38]
  rw [hS, hm3]
  by_cases e : h = h'
  · subst e
    rw [if_pos rfl, if_pos rfl, if_pos (by show (h.val * 128 + w.val) / 128 = (h.val * 64 + x.val) / 64; omega), mul_one, hb]
    unfold headNext
    refine congrArg₂ (· + ·) rfl (Finset.sum_congr rfl fun i _ => ?_)
    rw [hv, hk, hb, hb, mul_comm]
  · have e' : h.val ≠ h'.val := fun h0 => e (Fin.ext h0)
    rw [if_neg e, if_neg e, if_neg (by show ¬(h.val * 128 + w.val) / 128 = (h'.val * 64 + x.val) / 64; omega), mul_zero, zero_mul,
      add_zero]

end Heads

/-! ## The chunk's result -/

section Result

variable {o : FVec Ideal S64x512 .f32} {oh : Fin 4 → Fin 64 → Fin 128 → EReal} {hm : Vec Ideal S512x512 .bf16}

/-- The mean of the squares of a row's outputs of one head: the kernel adds the squares in two parts, and the second is zero. -/
theorem meanSq_apply (ho : ∀ (h : Fin 4) (i : Fin 64) (w : Fin 128), o (ix2 i ⟨h.val * 128 + w.val, by omega⟩) = oh h i w)
    (hr : ∀ h i w, IsReal (oh h i w))
    (hm4 : ∀ (d d' : Fin 512), hm (ix2 d d') = if d.val / 128 = d'.val / 128 then (1 : EReal) else 0)
    (h : Fin 4) (i : Fin 64) (w : Fin 128) :
    k0_pay65 (F := Ideal) o hm (ix2 i ⟨h.val * 128 + w.val, by omega⟩)
      = Ideal.div (∑ x : Fin 128, oh h i x * oh h i x) (Ideal.ofBits .f32 0x43000000#32) := by
  have hz : ∀ d : Fin 512, o (ix2 i d) * o (ix2 i d) - o (ix2 i d) * o (ix2 i d) = 0 := fun d => by
    have e := ho ⟨d.val / 128, by omega⟩ i ⟨d.val % 128, by omega⟩
    have ed : (⟨d.val / 128 * 128 + d.val % 128, by omega⟩ : Fin 512) = d := Fin.ext (by show d.val / 128 * 128 + d.val % 128 = d.val; omega)
    simp only [ed] at e
    rw [e]
    exact ((hr _ _ _).mul (hr _ _ _)).sub_self
  pointwise [k0_pay65]
  simp only [hz, zero_mul, Finset.sum_const_zero, add_zero]
  refine (mul_128th _).trans (congrArg (fun y => Ideal.div y _) ?_)
  refine (sum_block (n := 128) h.val (by omega) (by omega) _ fun x hx => ?_).trans (Finset.sum_congr rfl fun x _ => ?_)
  · rw [hm4, if_neg (by show ¬x.val / 128 = (h.val * 128 + w.val) / 128; omega), mul_zero]
  · rw [hm4, if_pos (by show (h.val * 128 + x.val) / 128 = (h.val * 128 + w.val) / 128; omega), mul_one, ho]

end Result

/-! ## A chunk of one sequence -/

section Chunk

variable {X : ℕ → Fin 1664 → EReal} {au : Fin 16 → Fin 256 → EReal} {ab : Fin 256 → EReal} {gn : Fin 128 → EReal} {n : ℕ}
  {Xc : Vec Ideal S1x64x1664 .f32} {auW : Vec Ideal S128x256 .f32} {abW : Vec Ideal S1x256 .f32} {gnW : Vec Ideal S1x512 .f32}
  {hmk : Vec Ideal S256x256 .bf16} {hmv : Vec Ideal S256x512 .bf16} {hmvk : Vec Ideal S512x256 .f32} {hm : Vec Ideal S512x512 .bf16}
  {tril : Vec Ideal S64x64 .bf16} {incl : Vec Ideal S64x256 .f32} {S : Vec Ideal S1x512x256 .f32}

variable (hX : ∀ i c, Xc (ix3 0 i c) = X (n * 64 + i.val) c)
  (hu : ∀ (r : Fin 128) (c : Fin 256), auW (ix2 r c) = if h : r.val < 16 then au ⟨r.val, h⟩ c else 0)
  (ha : ∀ c, abW (ix2 0 c) = ab c) (hg : ∀ (d : Fin 512) (p : d.val % 128 < 128), gnW (ix2 0 d) = gn ⟨d.val % 128, p⟩)
  (hm1 : ∀ (J c : Fin 256), hmk (ix2 J c) = if J.val / 64 = c.val / 64 then (1 : EReal) else 0)
  (hm2 : ∀ (J : Fin 256) (d : Fin 512), hmv (ix2 J d) = if J.val / 64 = d.val / 128 then (1 : EReal) else 0)
  (hm3 : ∀ (d : Fin 512) (c : Fin 256), hmvk (ix2 d c) = if d.val / 128 = c.val / 64 then (1 : EReal) else 0)
  (hm4 : ∀ (d d' : Fin 512), hm (ix2 d d') = if d.val / 128 = d'.val / 128 then (1 : EReal) else 0)
  (ht : ∀ i j : Fin 64, tril (ix2 i j) = if j.val ≤ i.val then (1 : EReal) else 0)
  (hi : ∀ (i : Fin 64) (J : Fin 256), incl (ix2 i J) = if J.val % 64 ≤ i.val then (1 : EReal) else 0)
  (hS : ∀ (h h' : Fin 4) (x : Fin 64) (w : Fin 128) (p : h.val * 128 + w.val < 512) (p' : h'.val * 64 + x.val < 256), S (ix3 0 ⟨h.val * 128 + w.val, p⟩ ⟨h'.val * 64 + x.val, p'⟩)
      = if h = h' then stateAt X au ab h n x w else 0)
  (rX : ∀ R (c : Fin 1664), c.val < 1024 → IsReal (X R c))

include hX in
/-- The chunk's queries, -/
theorem queries_apply (h : Fin 4) (i x : Fin 64) : k0_pay5 (F := Ideal) Xc (ix2 i ⟨h.val * 64 + x.val, by omega⟩) = qAt X h n i x := by
  pointwise [k0_pay5, k0_pay4]
  rw [hX]
  rfl

include hX in
/-- its keys -/
theorem keys_apply (h : Fin 4) (i x : Fin 64) : k0_pay6 (F := Ideal) Xc (ix2 i ⟨h.val * 64 + x.val, by omega⟩) = kAt X h n i x := by
  pointwise [k0_pay6, k0_pay4]
  rw [hX]
  rfl

include hX in
/-- and its values. -/
theorem values_apply (h : Fin 4) (i : Fin 64) (w : Fin 128) :
    k0_pay7 (F := Ideal) Xc (ix2 i ⟨h.val * 128 + w.val, by omega⟩) = vAt X h n i w := by
  pointwise [k0_pay7, k0_pay4]
  rw [hX]
  rfl

include hX hu ha ht in
/-- Its decays, summed. -/
theorem sums_apply (h : Fin 4) (i x : Fin 64) :
    bV Xc auW abW tril (ix2 i ⟨h.val * 64 + x.val, by omega⟩) = bAt X au ab h n i x :=
  cum_apply hX hu ha ht i _

include hX hu ha ht hm1 hm2 hi hS in
/-- The chunk's outputs. -/
theorem outputs_apply (h : Fin 4) (i : Fin 64) (w : Fin 128) :
    oV Xc (bV Xc auW abW tril) hmk incl hmv S (ix2 i ⟨h.val * 128 + w.val, by omega⟩) = oAt X au ab h n i w :=
  out_apply (queries_apply hX) (keys_apply hX) (sums_apply hX hu ha ht) (values_apply hX) (fun h h' x w => hS h h' x w _ _) hm1 hm2 hi h i w

include hX hu ha ht hm3 hS in
/-- The states after the chunk. -/
theorem states_apply (h h' : Fin 4) (x : Fin 64) (w : Fin 128) :
    stV Xc (bV Xc auW abW tril) hmvk S (ix3 0 ⟨h.val * 128 + w.val, by omega⟩ ⟨h'.val * 64 + x.val, by omega⟩)
      = if h = h' then stateAt X au ab h (n + 1) x w else 0 :=
  next_apply (keys_apply hX) (sums_apply hX hu ha ht) (values_apply hX) (fun h h' x w => hS h h' x w _ _) hm3 h h' x w

include hX hu ha hg ht hm1 hm2 hm4 hi hS rX in
/-- The chunk's result. -/
theorem result_apply (i : Fin 64) (d : Fin 512) :
    outV Xc (oV Xc (bV Xc auW abW tril) hmk incl hmv S) hm gnW (ix3 0 i d) = rowOut X au ab gn n i d := by
  have ho := outputs_apply hX hu ha hm1 hm2 ht hi hS
  unfold outV
  generalize oV Xc (bV Xc auW abW tril) hmk incl hmv S = o at ho
  have hms := meanSq_apply ho (isReal_oAt rX · n) hm4
  generalize k0_pay65 (F := Ideal) o hm = ms at hms
  pointwise [k0_pay72, k0_pay70, k0_pay71, k0_pay8, k0_pay4]
  have ho' := ho ⟨d.val / 128, by omega⟩ i ⟨d.val % 128, by omega⟩
  have hms' := hms ⟨d.val / 128, by omega⟩ i ⟨d.val % 128, by omega⟩
  have ed : (⟨d.val / 128 * 128 + d.val % 128, by omega⟩ : Fin 512) = d := Fin.ext (by show d.val / 128 * 128 + d.val % 128 = d.val; omega)
  simp only [ed] at ho' hms'
  rw [ho', hms', hg d (Nat.mod_lt _ (by omega)), hX, zero_sub]
  rfl

end Chunk

/-- The state after a chunk, from what its blocks hold. -/
theorem chunk_states {X : ℕ → Fin 1664 → EReal} {au : Fin 16 → Fin 256 → EReal} {ab : Fin 256 → EReal} {n : ℕ}
    {Xc : Vec Ideal S1x64x1664 .f32} {auW : Vec Ideal S128x256 .f32} {abW : Vec Ideal S1x256 .f32} {tril : Vec Ideal S64x64 .bf16}
    {S : Vec Ideal S1x512x256 .f32} {hmvk : Vec Ideal S512x256 .f32}
    (hX : ∀ i c, Xc (ix3 0 i c) = X (n * 64 + i.val) c)
    (hu : ∀ (r : Fin 128) (c : Fin 256), auW (ix2 r c) = if h : r.val < 16 then au ⟨r.val, h⟩ c else 0)
    (ha : ∀ c, abW (ix2 0 c) = ab c) (ht : ∀ i j : Fin 64, tril (ix2 i j) = if j.val ≤ i.val then (1 : EReal) else 0)
    (hS : ∀ (h h' : Fin 4) (x : Fin 64) (w : Fin 128), S (ix3 0 ⟨h.val * 128 + w.val, by omega⟩ ⟨h'.val * 64 + x.val, by omega⟩)
      = if h = h' then stateAt X au ab h n x w else 0)
    (hm3 : ∀ (d : Fin 512) (c : Fin 256), hmvk (ix2 d c) = if d.val / 128 = c.val / 64 then (1 : EReal) else 0)
    (h h' : Fin 4) (x : Fin 64) (w : Fin 128) :
    stV Xc (bV Xc auW abW tril) hmvk S (ix3 0 ⟨h.val * 128 + w.val, by omega⟩ ⟨h'.val * 64 + x.val, by omega⟩)
      = if h = h' then stateAt X au ab h (n + 1) x w else 0 :=
  states_apply (hX := hX) (hu := hu) (ha := ha) (ht := ht) (hS := fun h h' x w _ _ => hS h h' x w) (hm3 := hm3) h h' x w

/-- A chunk's result, from what its blocks hold. -/
theorem chunk_result {X : ℕ → Fin 1664 → EReal} {au : Fin 16 → Fin 256 → EReal} {ab : Fin 256 → EReal} {gn : Fin 128 → EReal} {n : ℕ}
    {Xc : Vec Ideal S1x64x1664 .f32} {auW : Vec Ideal S128x256 .f32} {abW : Vec Ideal S1x256 .f32} {tril : Vec Ideal S64x64 .bf16}
    {S : Vec Ideal S1x512x256 .f32} {gnW : Vec Ideal S1x512 .f32} {hmk : Vec Ideal S256x256 .bf16}
    {hmv : Vec Ideal S256x512 .bf16} {hm : Vec Ideal S512x512 .bf16} {incl : Vec Ideal S64x256 .f32}
    (hX : ∀ i c, Xc (ix3 0 i c) = X (n * 64 + i.val) c)
    (hu : ∀ (r : Fin 128) (c : Fin 256), auW (ix2 r c) = if h : r.val < 16 then au ⟨r.val, h⟩ c else 0)
    (ha : ∀ c, abW (ix2 0 c) = ab c) (ht : ∀ i j : Fin 64, tril (ix2 i j) = if j.val ≤ i.val then (1 : EReal) else 0)
    (hS : ∀ (h h' : Fin 4) (x : Fin 64) (w : Fin 128), S (ix3 0 ⟨h.val * 128 + w.val, by omega⟩ ⟨h'.val * 64 + x.val, by omega⟩)
      = if h = h' then stateAt X au ab h n x w else 0)
    (rX : ∀ R (c : Fin 1664), c.val < 1024 → IsReal (X R c))
    (hg : ∀ d : Fin 512, gnW (ix2 0 d) = gn ⟨d.val % 128, by omega⟩)
    (hm1 : ∀ J c : Fin 256, hmk (ix2 J c) = if J.val / 64 = c.val / 64 then (1 : EReal) else 0)
    (hm2 : ∀ (J : Fin 256) (d : Fin 512), hmv (ix2 J d) = if J.val / 64 = d.val / 128 then (1 : EReal) else 0)
    (hm4 : ∀ d d' : Fin 512, hm (ix2 d d') = if d.val / 128 = d'.val / 128 then (1 : EReal) else 0)
    (hi : ∀ (i : Fin 64) (J : Fin 256), incl (ix2 i J) = if J.val % 64 ≤ i.val then (1 : EReal) else 0) (i : Fin 64) (d : Fin 512) :
    outV Xc (oV Xc (bV Xc auW abW tril) hmk incl hmv S) hm gnW (ix3 0 i d) = rowOut X au ab gn n i d :=
  result_apply (hX := hX) (hu := hu) (ha := ha) (hg := fun d _ => hg d) (ht := ht) (hS := fun h h' x w _ _ => hS h h' x w) (hm1 := hm1) (hm2 := hm2) (hm4 := hm4) (hi := hi)
    (rX := rX) i d

end Cert.GlaIdeal.Rows
-- ==== Proof.GlaHost.lean ====
module

public import proofs.«01_k».proof.Proof.GlaRows
public import proofs.«01_k».proof.Proof.Gen.GlaIdeal.Value
public import Idealize.ShloMosaic.Lib.StableHlo.RunRead

@[expose] public section

set_option maxRecDepth 65536

noncomputable section

/-! # The arrays the host builds before the kernel of the linear attention -/

namespace Cert.GlaIdeal.Host

open Cert.GlaIdeal Cert.GlaIdeal.Gen Idealize.ShloMosaic Idealize.ShloMosaic.TcCoe
open Cert.Gla

/-- The host's arrays, one operation at a time. -/
theorem read_after {F : FTy → Type} [FloatOps F] (m : (ℓ : Loc nD τ sig) → Buf (Elt F) ℓ) (c : Dev nD) (b : Ref sig .tc) :
    V m c b = StableHlo.after (τ := τ)
      [ StableHlo.nullary main_c (constantI S_ 32 0#32),
        StableHlo.unary main_c main_call0_v0 ((sitofp .f32) : (⟨S_, .i32⟩ : BufTy).Contents (Elt F) → (⟨S_, .f32⟩ : BufTy).Contents (Elt F)),
        StableHlo.binary main_arg1 main_call0_v0 main_v0 ((fun x v => pad S128x256 ![0, 0] ![112, 0] ![0, 0] x v pads_S16x256_S128x256_01120_000 h_S_) : (⟨S16x256, .f32⟩ : BufTy).Contents (Elt F) → (⟨S_, .f32⟩ : BufTy).Contents (Elt F) → (⟨S128x256, .f32⟩ : BufTy).Contents (Elt F)),
        StableHlo.reshape main_arg2 main_v1 (rfl : (.f32 : EltTy) = .f32) shapeCasts_S256_S1x256,
        StableHlo.reshape main_arg3 main_v2 (rfl : (.f32 : EltTy) = .f32) shapeCasts_S128_S1x128,
        StableHlo.unary main_v2 main_v3 (broadcastInDim S4x128 ![0, 1] bcast_S1x128_S4x128_0_1 : (⟨S1x128, .f32⟩ : BufTy).Contents (Elt F) → (⟨S4x128, .f32⟩ : BufTy).Contents (Elt F)),
        StableHlo.reshape main_v3 main_v4 (rfl : (.f32 : EltTy) = .f32) shapeCasts_S4x128_S512,
        StableHlo.reshape main_v4 main_v5 (rfl : (.f32 : EltTy) = .f32) shapeCasts_S512_S1x512,
        StableHlo.nullary main_v6 (iotaInDim S256 32 0),
        StableHlo.nullary main_v7 (iotaInDim S512 32 0),
        StableHlo.nullary main_v8 (iotaInDim S64 32 0),
        StableHlo.nullary main_c_0 (constantI S_ 32 64#32),
        StableHlo.unary main_c_0 main_v9 (broadcastInDim S256 ![] bcast_S_S256 : (⟨S_, .i32⟩ : BufTy).Contents (Elt F) → (⟨S256, .i32⟩ : BufTy).Contents (Elt F)),
        StableHlo.binary main_v6 main_v9 main_v10 (Host.divsi : (⟨S256, .i32⟩ : BufTy).Contents (Elt F) → (⟨S256, .i32⟩ : BufTy).Contents (Elt F) → (⟨S256, .i32⟩ : BufTy).Contents (Elt F)),
        StableHlo.unary main_v10 main_v11 (broadcastInDim S256x1 ![0] bcast_S256_S256x1_0 : (⟨S256, .i32⟩ : BufTy).Contents (Elt F) → (⟨S256x1, .i32⟩ : BufTy).Contents (Elt F)),
        StableHlo.nullary main_c_1 (constantI S_ 32 64#32),
        StableHlo.unary main_c_1 main_v12 (broadcastInDim S256 ![] bcast_S_S256 : (⟨S_, .i32⟩ : BufTy).Contents (Elt F) → (⟨S256, .i32⟩ : BufTy).Contents (Elt F)),
        StableHlo.binary main_v6 main_v12 main_v13 (Host.divsi : (⟨S256, .i32⟩ : BufTy).Contents (Elt F) → (⟨S256, .i32⟩ : BufTy).Contents (Elt F) → (⟨S256, .i32⟩ : BufTy).Contents (Elt F)),
        StableHlo.unary main_v13 main_v14 (broadcastInDim S1x256 ![1] bcast_S256_S1x256_1 : (⟨S256, .i32⟩ : BufTy).Contents (Elt F) → (⟨S1x256, .i32⟩ : BufTy).Contents (Elt F)),
        StableHlo.unary main_v11 main_v15 (broadcastInDim S256x256 ![0, 1] bcast_S256x1_S256x256_0_1 : (⟨S256x1, .i32⟩ : BufTy).Contents (Elt F) → (⟨S256x256, .i32⟩ : BufTy).Contents (Elt F)),
        StableHlo.unary main_v14 main_v16 (broadcastInDim S256x256 ![0, 1] bcast_S1x256_S256x256_0_1 : (⟨S1x256, .i32⟩ : BufTy).Contents (Elt F) → (⟨S256x256, .i32⟩ : BufTy).Contents (Elt F)),
        StableHlo.binary main_v15 main_v16 main_v17 (cmpi .eq : (⟨S256x256, .i32⟩ : BufTy).Contents (Elt F) → (⟨S256x256, .i32⟩ : BufTy).Contents (Elt F) → (⟨S256x256, .i1⟩ : BufTy).Contents (Elt F)),
        StableHlo.nullary main_cst (constant S_ .f32 0x3F800000#32),
        StableHlo.nullary main_cst_2 (constant S_ .f32 0x00000000#32),
        StableHlo.unary main_cst main_call1_v0 ((broadcastInDim S256x256 ![] bcast_S_S256x256) : (⟨S_, .f32⟩ : BufTy).Contents (Elt F) → (⟨S256x256, .f32⟩ : BufTy).Contents (Elt F)),
        StableHlo.unary main_cst_2 main_call1_v1 ((broadcastInDim S256x256 ![] bcast_S_S256x256) : (⟨S_, .f32⟩ : BufTy).Contents (Elt F) → (⟨S256x256, .f32⟩ : BufTy).Contents (Elt F)),
        StableHlo.ternary main_v17 main_call1_v0 main_call1_v1 main_v18 (select : (⟨S256x256, .i1⟩ : BufTy).Contents (Elt F) → (⟨S256x256, .f32⟩ : BufTy).Contents (Elt F) → (⟨S256x256, .f32⟩ : BufTy).Contents (Elt F) → (⟨S256x256, .f32⟩ : BufTy).Contents (Elt F)),
        StableHlo.unary main_v18 main_v19 (id : (⟨S256x256, .f32⟩ : BufTy).Contents (Elt F) → (⟨S256x256, .f32⟩ : BufTy).Contents (Elt F)),
        StableHlo.nullary main_c_3 (constantI S_ 32 64#32),
        StableHlo.unary main_c_3 main_v20 (broadcastInDim S256 ![] bcast_S_S256 : (⟨S_, .i32⟩ : BufTy).Contents (Elt F) → (⟨S256, .i32⟩ : BufTy).Contents (Elt F)),
        StableHlo.binary main_v6 main_v20 main_v21 (Host.divsi : (⟨S256, .i32⟩ : BufTy).Contents (Elt F) → (⟨S256, .i32⟩ : BufTy).Contents (Elt F) → (⟨S256, .i32⟩ : BufTy).Contents (Elt F)),
        StableHlo.unary main_v21 main_v22 (broadcastInDim S256x1 ![0] bcast_S256_S256x1_0 : (⟨S256, .i32⟩ : BufTy).Contents (Elt F) → (⟨S256x1, .i32⟩ : BufTy).Contents (Elt F)),
        StableHlo.nullary main_c_4 (constantI S_ 32 128#32),
        StableHlo.unary main_c_4 main_v23 (broadcastInDim S512 ![] bcast_S_S512 : (⟨S_, .i32⟩ : BufTy).Contents (Elt F) → (⟨S512, .i32⟩ : BufTy).Contents (Elt F)),
        StableHlo.binary main_v7 main_v23 main_v24 (Host.divsi : (⟨S512, .i32⟩ : BufTy).Contents (Elt F) → (⟨S512, .i32⟩ : BufTy).Contents (Elt F) → (⟨S512, .i32⟩ : BufTy).Contents (Elt F)),
        StableHlo.unary main_v24 main_v25 (broadcastInDim S1x512 ![1] bcast_S512_S1x512_1 : (⟨S512, .i32⟩ : BufTy).Contents (Elt F) → (⟨S1x512, .i32⟩ : BufTy).Contents (Elt F)),
        StableHlo.unary main_v22 main_v26 (broadcastInDim S256x512 ![0, 1] bcast_S256x1_S256x512_0_1 : (⟨S256x1, .i32⟩ : BufTy).Contents (Elt F) → (⟨S256x512, .i32⟩ : BufTy).Contents (Elt F)),
        StableHlo.unary main_v25 main_v27 (broadcastInDim S256x512 ![0, 1] bcast_S1x512_S256x512_0_1 : (⟨S1x512, .i32⟩ : BufTy).Contents (Elt F) → (⟨S256x512, .i32⟩ : BufTy).Contents (Elt F)),
        StableHlo.binary main_v26 main_v27 main_v28 (cmpi .eq : (⟨S256x512, .i32⟩ : BufTy).Contents (Elt F) → (⟨S256x512, .i32⟩ : BufTy).Contents (Elt F) → (⟨S256x512, .i1⟩ : BufTy).Contents (Elt F)),
        StableHlo.nullary main_cst_5 (constant S_ .f32 0x3F800000#32),
        StableHlo.nullary main_cst_6 (constant S_ .f32 0x00000000#32),
        StableHlo.unary main_cst_5 main_call2_v0 ((broadcastInDim S256x512 ![] bcast_S_S256x512) : (⟨S_, .f32⟩ : BufTy).Contents (Elt F) → (⟨S256x512, .f32⟩ : BufTy).Contents (Elt F)),
        StableHlo.unary main_cst_6 main_call2_v1 ((broadcastInDim S256x512 ![] bcast_S_S256x512) : (⟨S_, .f32⟩ : BufTy).Contents (Elt F) → (⟨S256x512, .f32⟩ : BufTy).Contents (Elt F)),
        StableHlo.ternary main_v28 main_call2_v0 main_call2_v1 main_v29 (select : (⟨S256x512, .i1⟩ : BufTy).Contents (Elt F) → (⟨S256x512, .f32⟩ : BufTy).Contents (Elt F) → (⟨S256x512, .f32⟩ : BufTy).Contents (Elt F) → (⟨S256x512, .f32⟩ : BufTy).Contents (Elt F)),
        StableHlo.unary main_v29 main_v30 (id : (⟨S256x512, .f32⟩ : BufTy).Contents (Elt F) → (⟨S256x512, .f32⟩ : BufTy).Contents (Elt F)),
        StableHlo.nullary main_c_7 (constantI S_ 32 128#32),
        StableHlo.unary main_c_7 main_v31 (broadcastInDim S512 ![] bcast_S_S512 : (⟨S_, .i32⟩ : BufTy).Contents (Elt F) → (⟨S512, .i32⟩ : BufTy).Contents (Elt F)),
        StableHlo.binary main_v7 main_v31 main_v32 (Host.divsi : (⟨S512, .i32⟩ : BufTy).Contents (Elt F) → (⟨S512, .i32⟩ : BufTy).Contents (Elt F) → (⟨S512, .i32⟩ : BufTy).Contents (Elt F)),
        StableHlo.unary main_v32 main_v33 (broadcastInDim S512x1 ![0] bcast_S512_S512x1_0 : (⟨S512, .i32⟩ : BufTy).Contents (Elt F) → (⟨S512x1, .i32⟩ : BufTy).Contents (Elt F)),
        StableHlo.nullary main_c_8 (constantI S_ 32 64#32),
        StableHlo.unary main_c_8 main_v34 (broadcastInDim S256 ![] bcast_S_S256 : (⟨S_, .i32⟩ : BufTy).Contents (Elt F) → (⟨S256, .i32⟩ : BufTy).Contents (Elt F)),
        StableHlo.binary main_v6 main_v34 main_v35 (Host.divsi : (⟨S256, .i32⟩ : BufTy).Contents (Elt F) → (⟨S256, .i32⟩ : BufTy).Contents (Elt F) → (⟨S256, .i32⟩ : BufTy).Contents (Elt F)),
        StableHlo.unary main_v35 main_v36 (broadcastInDim S1x256 ![1] bcast_S256_S1x256_1 : (⟨S256, .i32⟩ : BufTy).Contents (Elt F) → (⟨S1x256, .i32⟩ : BufTy).Contents (Elt F)),
        StableHlo.unary main_v33 main_v37 (broadcastInDim S512x256 ![0, 1] bcast_S512x1_S512x256_0_1 : (⟨S512x1, .i32⟩ : BufTy).Contents (Elt F) → (⟨S512x256, .i32⟩ : BufTy).Contents (Elt F)),
        StableHlo.unary main_v36 main_v38 (broadcastInDim S512x256 ![0, 1] bcast_S1x256_S512x256_0_1 : (⟨S1x256, .i32⟩ : BufTy).Contents (Elt F) → (⟨S512x256, .i32⟩ : BufTy).Contents (Elt F)),
        StableHlo.binary main_v37 main_v38 main_v39 (cmpi .eq : (⟨S512x256, .i32⟩ : BufTy).Contents (Elt F) → (⟨S512x256, .i32⟩ : BufTy).Contents (Elt F) → (⟨S512x256, .i1⟩ : BufTy).Contents (Elt F)),
        StableHlo.nullary main_cst_9 (constant S_ .f32 0x3F800000#32),
        StableHlo.nullary main_cst_10 (constant S_ .f32 0x00000000#32),
        StableHlo.unary main_cst_9 main_call3_v0 ((broadcastInDim S512x256 ![] bcast_S_S512x256) : (⟨S_, .f32⟩ : BufTy).Contents (Elt F) → (⟨S512x256, .f32⟩ : BufTy).Contents (Elt F)),
        StableHlo.unary main_cst_10 main_call3_v1 ((broadcastInDim S512x256 ![] bcast_S_S512x256) : (⟨S_, .f32⟩ : BufTy).Contents (Elt F) → (⟨S512x256, .f32⟩ : BufTy).Contents (Elt F)),
        StableHlo.ternary main_v39 main_call3_v0 main_call3_v1 main_v40 (select : (⟨S512x256, .i1⟩ : BufTy).Contents (Elt F) → (⟨S512x256, .f32⟩ : BufTy).Contents (Elt F) → (⟨S512x256, .f32⟩ : BufTy).Contents (Elt F) → (⟨S512x256, .f32⟩ : BufTy).Contents (Elt F)),
        StableHlo.unary main_v40 main_v41 (id : (⟨S512x256, .f32⟩ : BufTy).Contents (Elt F) → (⟨S512x256, .f32⟩ : BufTy).Contents (Elt F)),
        StableHlo.nullary main_c_11 (constantI S_ 32 128#32),
        StableHlo.unary main_c_11 main_v42 (broadcastInDim S512 ![] bcast_S_S512 : (⟨S_, .i32⟩ : BufTy).Contents (Elt F) → (⟨S512, .i32⟩ : BufTy).Contents (Elt F)),
        StableHlo.binary main_v7 main_v42 main_v43 (Host.divsi : (⟨S512, .i32⟩ : BufTy).Contents (Elt F) → (⟨S512, .i32⟩ : BufTy).Contents (Elt F) → (⟨S512, .i32⟩ : BufTy).Contents (Elt F)),
        StableHlo.unary main_v43 main_v44 (broadcastInDim S512x1 ![0] bcast_S512_S512x1_0 : (⟨S512, .i32⟩ : BufTy).Contents (Elt F) → (⟨S512x1, .i32⟩ : BufTy).Contents (Elt F)),
        StableHlo.nullary main_c_12 (constantI S_ 32 128#32),
        StableHlo.unary main_c_12 main_v45 (broadcastInDim S512 ![] bcast_S_S512 : (⟨S_, .i32⟩ : BufTy).Contents (Elt F) → (⟨S512, .i32⟩ : BufTy).Contents (Elt F)),
        StableHlo.binary main_v7 main_v45 main_v46 (Host.divsi : (⟨S512, .i32⟩ : BufTy).Contents (Elt F) → (⟨S512, .i32⟩ : BufTy).Contents (Elt F) → (⟨S512, .i32⟩ : BufTy).Contents (Elt F)),
        StableHlo.unary main_v46 main_v47 (broadcastInDim S1x512 ![1] bcast_S512_S1x512_1 : (⟨S512, .i32⟩ : BufTy).Contents (Elt F) → (⟨S1x512, .i32⟩ : BufTy).Contents (Elt F)),
        StableHlo.unary main_v44 main_v48 (broadcastInDim S512x512 ![0, 1] bcast_S512x1_S512x512_0_1 : (⟨S512x1, .i32⟩ : BufTy).Contents (Elt F) → (⟨S512x512, .i32⟩ : BufTy).Contents (Elt F)),
        StableHlo.unary main_v47 main_v49 (broadcastInDim S512x512 ![0, 1] bcast_S1x512_S512x512_0_1 : (⟨S1x512, .i32⟩ : BufTy).Contents (Elt F) → (⟨S512x512, .i32⟩ : BufTy).Contents (Elt F)),
        StableHlo.binary main_v48 main_v49 main_v50 (cmpi .eq : (⟨S512x512, .i32⟩ : BufTy).Contents (Elt F) → (⟨S512x512, .i32⟩ : BufTy).Contents (Elt F) → (⟨S512x512, .i1⟩ : BufTy).Contents (Elt F)),
        StableHlo.nullary main_cst_13 (constant S_ .f32 0x3F800000#32),
        StableHlo.nullary main_cst_14 (constant S_ .f32 0x00000000#32),
        StableHlo.unary main_cst_13 main_call4_v0 ((broadcastInDim S512x512 ![] bcast_S_S512x512) : (⟨S_, .f32⟩ : BufTy).Contents (Elt F) → (⟨S512x512, .f32⟩ : BufTy).Contents (Elt F)),
        StableHlo.unary main_cst_14 main_call4_v1 ((broadcastInDim S512x512 ![] bcast_S_S512x512) : (⟨S_, .f32⟩ : BufTy).Contents (Elt F) → (⟨S512x512, .f32⟩ : BufTy).Contents (Elt F)),
        StableHlo.ternary main_v50 main_call4_v0 main_call4_v1 main_v51 (select : (⟨S512x512, .i1⟩ : BufTy).Contents (Elt F) → (⟨S512x512, .f32⟩ : BufTy).Contents (Elt F) → (⟨S512x512, .f32⟩ : BufTy).Contents (Elt F) → (⟨S512x512, .f32⟩ : BufTy).Contents (Elt F)),
        StableHlo.unary main_v51 main_v52 (id : (⟨S512x512, .f32⟩ : BufTy).Contents (Elt F) → (⟨S512x512, .f32⟩ : BufTy).Contents (Elt F)),
        StableHlo.unary main_v8 main_v53 (broadcastInDim S64x1 ![0] bcast_S64_S64x1_0 : (⟨S64, .i32⟩ : BufTy).Contents (Elt F) → (⟨S64x1, .i32⟩ : BufTy).Contents (Elt F)),
        StableHlo.unary main_v8 main_v54 (broadcastInDim S1x64 ![1] bcast_S64_S1x64_1 : (⟨S64, .i32⟩ : BufTy).Contents (Elt F) → (⟨S1x64, .i32⟩ : BufTy).Contents (Elt F)),
        StableHlo.unary main_v53 main_v55 (broadcastInDim S64x64 ![0, 1] bcast_S64x1_S64x64_0_1 : (⟨S64x1, .i32⟩ : BufTy).Contents (Elt F) → (⟨S64x64, .i32⟩ : BufTy).Contents (Elt F)),
        StableHlo.unary main_v54 main_v56 (broadcastInDim S64x64 ![0, 1] bcast_S1x64_S64x64_0_1 : (⟨S1x64, .i32⟩ : BufTy).Contents (Elt F) → (⟨S64x64, .i32⟩ : BufTy).Contents (Elt F)),
        StableHlo.binary main_v55 main_v56 main_v57 (cmpi .sge : (⟨S64x64, .i32⟩ : BufTy).Contents (Elt F) → (⟨S64x64, .i32⟩ : BufTy).Contents (Elt F) → (⟨S64x64, .i1⟩ : BufTy).Contents (Elt F)),
        StableHlo.nullary main_cst_15 (constant S_ .f32 0x3F800000#32),
        StableHlo.nullary main_cst_16 (constant S_ .f32 0x00000000#32),
        StableHlo.unary main_cst_15 main_call5_v0 ((broadcastInDim S64x64 ![] bcast_S_S64x64) : (⟨S_, .f32⟩ : BufTy).Contents (Elt F) → (⟨S64x64, .f32⟩ : BufTy).Contents (Elt F)),
        StableHlo.unary main_cst_16 main_call5_v1 ((broadcastInDim S64x64 ![] bcast_S_S64x64) : (⟨S_, .f32⟩ : BufTy).Contents (Elt F) → (⟨S64x64, .f32⟩ : BufTy).Contents (Elt F)),
        StableHlo.ternary main_v57 main_call5_v0 main_call5_v1 main_v58 (select : (⟨S64x64, .i1⟩ : BufTy).Contents (Elt F) → (⟨S64x64, .f32⟩ : BufTy).Contents (Elt F) → (⟨S64x64, .f32⟩ : BufTy).Contents (Elt F) → (⟨S64x64, .f32⟩ : BufTy).Contents (Elt F)),
        StableHlo.unary main_v58 main_v59 (id : (⟨S64x64, .f32⟩ : BufTy).Contents (Elt F) → (⟨S64x64, .f32⟩ : BufTy).Contents (Elt F)),
        StableHlo.unary main_v8 main_v60 (broadcastInDim S64x1 ![0] bcast_S64_S64x1_0 : (⟨S64, .i32⟩ : BufTy).Contents (Elt F) → (⟨S64x1, .i32⟩ : BufTy).Contents (Elt F)),
        StableHlo.nullary main_c_17 (constantI S_ 32 64#32),
        StableHlo.unary main_c_17 main_v61 (broadcastInDim S256 ![] bcast_S_S256 : (⟨S_, .i32⟩ : BufTy).Contents (Elt F) → (⟨S256, .i32⟩ : BufTy).Contents (Elt F)),
        StableHlo.binary main_v6 main_v61 main_v62 (Host.remsi : (⟨S256, .i32⟩ : BufTy).Contents (Elt F) → (⟨S256, .i32⟩ : BufTy).Contents (Elt F) → (⟨S256, .i32⟩ : BufTy).Contents (Elt F)),
        StableHlo.unary main_v62 main_v63 (broadcastInDim S1x256 ![1] bcast_S256_S1x256_1 : (⟨S256, .i32⟩ : BufTy).Contents (Elt F) → (⟨S1x256, .i32⟩ : BufTy).Contents (Elt F)),
        StableHlo.unary main_v60 main_v64 (broadcastInDim S64x256 ![0, 1] bcast_S64x1_S64x256_0_1 : (⟨S64x1, .i32⟩ : BufTy).Contents (Elt F) → (⟨S64x256, .i32⟩ : BufTy).Contents (Elt F)),
        StableHlo.unary main_v63 main_v65 (broadcastInDim S64x256 ![0, 1] bcast_S1x256_S64x256_0_1 : (⟨S1x256, .i32⟩ : BufTy).Contents (Elt F) → (⟨S64x256, .i32⟩ : BufTy).Contents (Elt F)),
        StableHlo.binary main_v64 main_v65 main_v66 (cmpi .sge : (⟨S64x256, .i32⟩ : BufTy).Contents (Elt F) → (⟨S64x256, .i32⟩ : BufTy).Contents (Elt F) → (⟨S64x256, .i1⟩ : BufTy).Contents (Elt F)),
        StableHlo.nullary main_cst_18 (constant S_ .f32 0x3F800000#32),
        StableHlo.nullary main_cst_19 (constant S_ .f32 0x00000000#32),
        StableHlo.unary main_cst_18 main_call6_v0 ((broadcastInDim S64x256 ![] bcast_S_S64x256) : (⟨S_, .f32⟩ : BufTy).Contents (Elt F) → (⟨S64x256, .f32⟩ : BufTy).Contents (Elt F)),
        StableHlo.unary main_cst_19 main_call6_v1 ((broadcastInDim S64x256 ![] bcast_S_S64x256) : (⟨S_, .f32⟩ : BufTy).Contents (Elt F) → (⟨S64x256, .f32⟩ : BufTy).Contents (Elt F)),
        StableHlo.ternary main_v66 main_call6_v0 main_call6_v1 main_v67 (select : (⟨S64x256, .i1⟩ : BufTy).Contents (Elt F) → (⟨S64x256, .f32⟩ : BufTy).Contents (Elt F) → (⟨S64x256, .f32⟩ : BufTy).Contents (Elt F) → (⟨S64x256, .f32⟩ : BufTy).Contents (Elt F)),
        StableHlo.unary main_v67 main_v68 (id : (⟨S64x256, .f32⟩ : BufTy).Contents (Elt F) → (⟨S64x256, .f32⟩ : BufTy).Contents (Elt F)),
        StableHlo.unary main_v19 main_v69 ((truncf .bf16 · bitsLt_bf16_f32) : (⟨S256x256, .f32⟩ : BufTy).Contents (Elt F) → (⟨S256x256, .bf16⟩ : BufTy).Contents (Elt F)),
        StableHlo.unary main_v30 main_v70 ((truncf .bf16 · bitsLt_bf16_f32) : (⟨S256x512, .f32⟩ : BufTy).Contents (Elt F) → (⟨S256x512, .bf16⟩ : BufTy).Contents (Elt F)),
        StableHlo.unary main_v52 main_v71 ((truncf .bf16 · bitsLt_bf16_f32) : (⟨S512x512, .f32⟩ : BufTy).Contents (Elt F) → (⟨S512x512, .bf16⟩ : BufTy).Contents (Elt F)),
        StableHlo.unary main_v59 main_v72 ((truncf .bf16 · bitsLt_bf16_f32) : (⟨S64x64, .f32⟩ : BufTy).Contents (Elt F) → (⟨S64x64, .bf16⟩ : BufTy).Contents (Elt F)) ]
      (fun b => m (c, b)) (Proc.devRef .tc b) := rfl

/-- A whole division by 64 of a number below 512, in words; -/
theorem div_64 : ∀ a : Fin 512, IntOp.divsi ArithUnit.host (BitVec.ofNat 32 a.val) 64#32 = BitVec.ofNat 32 (a.val / 64) := by
  decide +kernel

/-- by 128; -/
theorem div_128 : ∀ a : Fin 512, IntOp.divsi ArithUnit.host (BitVec.ofNat 32 a.val) 128#32 = BitVec.ofNat 32 (a.val / 128) := by
  decide +kernel

/-- and what is left of a division by 64. -/
theorem rem_64 : ∀ a : Fin 512, IntOp.remsi ArithUnit.host (BitVec.ofNat 32 a.val) 64#32 = BitVec.ofNat 32 (a.val % 64) := by
  decide +kernel

/-- Two small words are equal when the numbers are. -/
theorem select_eq {a b : ℕ} (ha : a < 8) (hb : b < 8) (x y : EReal) :
    Scalar.select (IntOp.cmpi .eq (BitVec.ofNat 32 a) (BitVec.ofNat 32 b)) x y = if a = b then x else y := by
  have h : IntOp.cmpi .eq (BitVec.ofNat 32 a) (BitVec.ofNat 32 b) = BitVec.ofBool (decide (a = b)) :=
    (by decide +kernel : ∀ a b : Fin 8, IntOp.cmpi .eq (BitVec.ofNat 32 a.val) (BitVec.ofNat 32 b.val)
      = BitVec.ofBool (decide (a.val = b.val))) ⟨a, ha⟩ ⟨b, hb⟩
  rw [h]
  by_cases e : a = b
  · rw [if_pos e, decide_eq_true e]; rfl
  · rw [if_neg e, decide_eq_false e]; rfl

/-- Whether one small number is at least another. -/
theorem select_ge {a b : ℕ} (ha : a < 64) (hb : b < 64) (x y : EReal) :
    Scalar.select (IntOp.cmpi .sge (BitVec.ofNat 32 a) (BitVec.ofNat 32 b)) x y = if b ≤ a then x else y := by
  have h : IntOp.cmpi .sge (BitVec.ofNat 32 a) (BitVec.ofNat 32 b) = BitVec.ofBool (decide (b ≤ a)) :=
    (by decide +kernel : ∀ a b : Fin 64, IntOp.cmpi .sge (BitVec.ofNat 32 a.val) (BitVec.ofNat 32 b.val)
      = BitVec.ofBool (decide (b.val ≤ a.val))) ⟨a, ha⟩ ⟨b, hb⟩
  rw [h]
  by_cases e : b ≤ a
  · rw [if_pos e, decide_eq_true e]; rfl
  · rw [if_neg e, decide_eq_false e]; rfl

/-- The number zero, read from a word. -/
theorem pad_word : FloatOps.sitofp (F := Ideal) FTy.f32 0#32 = (0 : EReal) := by
  show ((((0#32).toInt : ℤ) : ℝ) : EReal) = 0
  simp

variable (m : (ℓ : Loc nD τ sig) → Buf (Elt Ideal) ℓ)

/-- The mask of a head's own keys: one where the two lanes are the same head's. -/
theorem mask4 (c : Dev nD) (J q : Fin 256) :
    V m c main_v69 (ix2 J q) = if J.val / 64 = q.val / 64 then (1 : EReal) else 0 := by
  suffices h : ∀ z : EReal, (if J.val / 64 = q.val / 64 then (1 : EReal) else 0) = z → V m c main_v69 (ix2 J q) = z from h _ rfl
  intro z hz
  rw [read_after]
  after_reads_simp
  try simp only [id_eq]
  pointwise
  try simp only [id_eq]
  pointwise
  have a := div_64 ⟨J.val, by omega⟩
  have b := div_64 ⟨q.val, by omega⟩
  dsimp only at a b
  rw [a, b]
  exact (select_eq (by omega) (by omega) _ _).trans hz

/-- The mask of a head's scores and values. -/
theorem mask5 (c : Dev nD) (J : Fin 256) (d : Fin 512) :
    V m c main_v70 (ix2 J d) = if J.val / 64 = d.val / 128 then (1 : EReal) else 0 := by
  suffices h : ∀ z : EReal, (if J.val / 64 = d.val / 128 then (1 : EReal) else 0) = z → V m c main_v70 (ix2 J d) = z from h _ rfl
  intro z hz
  rw [read_after]
  after_reads_simp
  try simp only [id_eq]
  pointwise
  try simp only [id_eq]
  pointwise
  have a := div_64 ⟨J.val, by omega⟩
  have b := div_128 ⟨d.val, by omega⟩
  dsimp only at a b
  rw [a, b]
  exact (select_eq (by omega) (by omega) _ _).trans hz

/-- The mask of a head's state. -/
theorem mask6 (c : Dev nD) (d : Fin 512) (q : Fin 256) :
    V m c main_v41 (ix2 d q) = if d.val / 128 = q.val / 64 then (1 : EReal) else 0 := by
  suffices h : ∀ z : EReal, (if d.val / 128 = q.val / 64 then (1 : EReal) else 0) = z → V m c main_v41 (ix2 d q) = z from h _ rfl
  intro z hz
  rw [read_after]
  after_reads_simp
  try simp only [id_eq]
  pointwise
  try simp only [id_eq]
  pointwise
  have a := div_128 ⟨d.val, by omega⟩
  have b := div_64 ⟨q.val, by omega⟩
  dsimp only at a b
  rw [a, b]
  exact (select_eq (by omega) (by omega) _ _).trans hz

/-- The mask of a head's output lanes. -/
theorem mask7 (c : Dev nD) (d d' : Fin 512) :
    V m c main_v71 (ix2 d d') = if d.val / 128 = d'.val / 128 then (1 : EReal) else 0 := by
  suffices h : ∀ z : EReal, (if d.val / 128 = d'.val / 128 then (1 : EReal) else 0) = z → V m c main_v71 (ix2 d d') = z from h _ rfl
  intro z hz
  rw [read_after]
  after_reads_simp
  try simp only [id_eq]
  pointwise
  try simp only [id_eq]
  pointwise
  have a := div_128 ⟨d.val, by omega⟩
  have b := div_128 ⟨d'.val, by omega⟩
  dsimp only at a b
  rw [a, b]
  exact (select_eq (by omega) (by omega) _ _).trans hz

/-- Where a row is at or before another. -/
theorem mask8 (c : Dev nD) (i j : Fin 64) :
    V m c main_v72 (ix2 i j) = if j.val ≤ i.val then (1 : EReal) else 0 := by
  suffices h : ∀ z : EReal, (if j.val ≤ i.val then (1 : EReal) else 0) = z → V m c main_v72 (ix2 i j) = z from h _ rfl
  intro z hz
  rw [read_after]
  after_reads_simp
  try simp only [id_eq]
  pointwise
  try simp only [id_eq]
  pointwise
  exact (select_ge i.isLt j.isLt _ _).trans hz

/-- Where a score's key is at or before the query, for each head. -/
theorem mask9 (c : Dev nD) (i : Fin 64) (J : Fin 256) :
    V m c main_v68 (ix2 i J) = if J.val % 64 ≤ i.val then (1 : EReal) else 0 := by
  suffices h : ∀ z : EReal, (if J.val % 64 ≤ i.val then (1 : EReal) else 0) = z → V m c main_v68 (ix2 i J) = z from h _ rfl
  intro z hz
  rw [read_after]
  after_reads_simp
  try simp only [id_eq]
  pointwise
  try simp only [id_eq]
  pointwise
  have a := rem_64 ⟨J.val, by omega⟩
  dsimp only at a
  rw [a]
  exact (select_ge i.isLt (by omega) _ _).trans hz

/-- The decay's matrix, with rows of zeros below it. -/
theorem mask1 (c : Dev nD) (r : Fin 128) (q : Fin 256) :
    V m c main_v0 (ix2 r q) = if h : r.val < 16 then m (c, Proc.devRef .tc main_arg1) (ix2 (⟨r.val, h⟩ : Fin 16) q) else (0 : EReal) := by
  suffices h : ∀ z : EReal, (if h : r.val < 16 then m (c, Proc.devRef .tc main_arg1) (ix2 (⟨r.val, h⟩ : Fin 16) q) else (0 : EReal)) = z → V m c main_v0 (ix2 r q) = z from h _ rfl
  intro z hz
  rw [read_after]
  after_reads_simp
  try simp only [id_eq]
  pointwise
  try simp only [id_eq]
  pointwise
  rw [← hz]
  by_cases h : r.val < 16
  · rw [dif_pos h, dif_pos h]
  · rw [dif_neg h, dif_neg h]; exact pad_word

/-- The decay's bias, as one row. -/
theorem mask2 (c : Dev nD) (q : Fin 256) :
    V m c main_v1 (ix2 (0 : Fin 1) q) = m (c, Proc.devRef .tc main_arg2) (ix1 q) := by
  suffices h : ∀ z : EReal, (m (c, Proc.devRef .tc main_arg2) (ix1 q)) = z → V m c main_v1 (ix2 (0 : Fin 1) q) = z from h _ rfl
  intro z hz
  rw [read_after]
  after_reads_simp
  try simp only [id_eq]
  pointwise
  try simp only [id_eq]
  pointwise
  exact hz

/-- The output norm's gain, once per head. -/
theorem mask3 (c : Dev nD) (d : Fin 512) :
    V m c main_v5 (ix2 (0 : Fin 1) d) = m (c, Proc.devRef .tc main_arg3) (ix1 (⟨d.val % 128, Nat.mod_lt _ (by omega)⟩ : Fin 128)) := by
  suffices h : ∀ z : EReal, (m (c, Proc.devRef .tc main_arg3) (ix1 (⟨d.val % 128, Nat.mod_lt _ (by omega)⟩ : Fin 128))) = z → V m c main_v5 (ix2 (0 : Fin 1) d) = z from h _ rfl
  intro z hz
  rw [read_after]
  after_reads_simp
  try simp only [id_eq]
  pointwise
  try simp only [id_eq]
  pointwise
  exact hz

end Cert.GlaIdeal.Host
-- ==== Proof.GlaWindows.lean ====
module

public import proofs.«01_k».proof.Proof.GlaHost
public import proofs.«01_k».proof.Proof.Gen.GlaIdeal.Value

@[expose] public section

set_option maxRecDepth 16384

noncomputable section

/-! # What the windows of the kernel's linear attention hold

Point `t` of the grid reads chunk `t` of all four sequences; the weights and the masks are whole. -/

namespace Cert.GlaIdeal.Array

open Cert.GlaIdeal Cert.GlaIdeal.Gen Cert.GlaIdeal.Block Idealize.ShloMosaic Idealize.ShloMosaic.TcCoe
open Idealize.ShloMosaic.Pipeline (Dat)
open Cert.Gla

variable (m : (ℓ : Loc nD τ sig) → Buf (Elt Ideal) ℓ)

/-- There are 64 points. -/
theorem t_lt (t : Fin cfg0.N) : t.val < 64 := lt_of_lt_of_eq t.isLt N_0

/-- The projected array's window and the result's are at chunk `t` at point `t`, -/
theorem idx_row : ∀ t : Fin cfg0.N, (win0_0.index t 0 = 0 ∧ win0_0.index t 1 = t.val ∧ win0_0.index t 2 = 0)
    ∧ (win0_10.index t 0 = 0 ∧ win0_10.index t 1 = t.val ∧ win0_10.index t 2 = 0) :=
  (by decide +kernel : ∀ t : Fin grid0.N, (win0_0.index t 0 = 0 ∧ win0_0.index t 1 = t.val ∧ win0_0.index t 2 = 0)
    ∧ (win0_10.index t 0 = 0 ∧ win0_10.index t 1 = t.val ∧ win0_10.index t 2 = 0))

/-- and the others are whole. -/
theorem idx_zero : ∀ t : Fin cfg0.N, (win0_1.index t 0 = 0 ∧ win0_1.index t 1 = 0) ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) ∧ (win0_9.index t 0 = 0 ∧ win0_9.index t 1 = 0) :=
  (by decide +kernel : ∀ t : Fin grid0.N, (win0_1.index t 0 = 0 ∧ win0_1.index t 1 = 0) ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) ∧ (win0_9.index t 0 = 0 ∧ win0_9.index t 1 = 0))

/-- Chunk `t` of the projected array: its rows `64 t …` of each sequence. -/
theorem blk0 (c : Dev nD) (t : Fin cfg0.N) (s : Fin 4) (i : Fin 64) (q : Fin 1664) :
    iblk (F := Ideal) m c 0 t (ix3 s i q)
      = m ((c : Thread nD τ).loc main_arg0) (ix3 s ⟨t.val * 64 + i.val, by have := t_lt t; omega⟩ q) := by
  show V m c main_arg0 ((win0_0.rect t).emb (ix3 s i q)) = _
  rw [V_main_arg0]
  refine congrArg _ (idx3_ext ?_ ?_ ?_)
  · rw [win0_0.rect_emb_val t _ _, (idx_row t).1.1]; exact Nat.zero_add _
  · rw [win0_0.rect_emb_val t _ _, (idx_row t).1.2.1]; rfl
  · rw [win0_0.rect_emb_val t _ _, (idx_row t).1.2.2]; exact Nat.zero_add _

/-- The decays' weights, padded with rows of zeros. -/
theorem blk1 (c : Dev nD) (t : Fin cfg0.N) (r : Fin 128) (q : Fin 256) :
    iblk (F := Ideal) m c 1 t (ix2 r q) = if h : r.val < 16 then m ((c : Thread nD τ).loc main_arg1) (ix2 (⟨r.val, h⟩ : Fin 16) q) else (0 : EReal) := by
  have e : (win0_1.rect t).emb (ix2 r q) = ix2 r q :=
    Shape.idx_ext₂ (win0_1.rect_emb_val_of_index_zero t 0 (idx_zero t).1.1 _)
      (win0_1.rect_emb_val_of_index_zero t 1 (idx_zero t).1.2 _)
  show V m c main_v0 ((win0_1.rect t).emb (ix2 r q)) = _
  rw [e]
  exact Host.mask1 m c r q

/-- Their offsets as one row. -/
theorem blk2 (c : Dev nD) (t : Fin cfg0.N) (q : Fin 256) :
    iblk (F := Ideal) m c 2 t (ix2 0 q) = m ((c : Thread nD τ).loc main_arg2) (ix1 q) := by
  have e : (win0_2.rect t).emb (ix2 0 q) = ix2 0 q :=
    Shape.idx_ext₂ (win0_2.rect_emb_val_of_index_zero t 0 (idx_zero t).2.1.1 _)
      (win0_2.rect_emb_val_of_index_zero t 1 (idx_zero t).2.1.2 _)
  show V m c main_v1 ((win0_2.rect t).emb (ix2 0 q)) = _
  rw [e]
  exact Host.mask2 m c q

/-- The gains of one head, four times over, as one row. -/
theorem blk3 (c : Dev nD) (t : Fin cfg0.N) (d : Fin 512) :
    iblk (F := Ideal) m c 3 t (ix2 0 d) = m ((c : Thread nD τ).loc main_arg3) (ix1 ⟨d.val % 128, by omega⟩) := by
  have e : (win0_3.rect t).emb (ix2 0 d) = ix2 0 d :=
    Shape.idx_ext₂ (win0_3.rect_emb_val_of_index_zero t 0 (idx_zero t).2.2.1.1 _)
      (win0_3.rect_emb_val_of_index_zero t 1 (idx_zero t).2.2.1.2 _)
  show V m c main_v5 ((win0_3.rect t).emb (ix2 0 d)) = _
  rw [e]
  exact Host.mask3 m c d

/-- The mask of a head's keys. -/
theorem blk4 (c : Dev nD) (t : Fin cfg0.N) (J : Fin 256) (q : Fin 256) :
    iblk (F := Ideal) m c 4 t (ix2 J q) = if J.val / 64 = q.val / 64 then (1 : EReal) else 0 := by
  have e : (win0_4.rect t).emb (ix2 J q) = ix2 J q :=
    Shape.idx_ext₂ (win0_4.rect_emb_val_of_index_zero t 0 (idx_zero t).2.2.2.1.1 _)
      (win0_4.rect_emb_val_of_index_zero t 1 (idx_zero t).2.2.2.1.2 _)
  show V m c main_v69 ((win0_4.rect t).emb (ix2 J q)) = _
  rw [e]
  exact Host.mask4 m c J q

/-- The mask of a head's values. -/
theorem blk5 (c : Dev nD) (t : Fin cfg0.N) (J : Fin 256) (d : Fin 512) :
    iblk (F := Ideal) m c 5 t (ix2 J d) = if J.val / 64 = d.val / 128 then (1 : EReal) else 0 := by
  have e : (win0_5.rect t).emb (ix2 J d) = ix2 J d :=
    Shape.idx_ext₂ (win0_5.rect_emb_val_of_index_zero t 0 (idx_zero t).2.2.2.2.1.1 _)
      (win0_5.rect_emb_val_of_index_zero t 1 (idx_zero t).2.2.2.2.1.2 _)
  show V m c main_v70 ((win0_5.rect t).emb (ix2 J d)) = _
  rw [e]
  exact Host.mask5 m c J d

/-- The mask of a head's state. -/
theorem blk6 (c : Dev nD) (t : Fin cfg0.N) (d : Fin 512) (q : Fin 256) :
    iblk (F := Ideal) m c 6 t (ix2 d q) = if d.val / 128 = q.val / 64 then (1 : EReal) else 0 := by
  have e : (win0_6.rect t).emb (ix2 d q) = ix2 d q :=
    Shape.idx_ext₂ (win0_6.rect_emb_val_of_index_zero t 0 (idx_zero t).2.2.2.2.2.1.1 _)
      (win0_6.rect_emb_val_of_index_zero t 1 (idx_zero t).2.2.2.2.2.1.2 _)
  show V m c main_v41 ((win0_6.rect t).emb (ix2 d q)) = _
  rw [e]
  exact Host.mask6 m c d q

/-- The mask of a head's outputs. -/
theorem blk7 (c : Dev nD) (t : Fin cfg0.N) (d : Fin 512) (d' : Fin 512) :
    iblk (F := Ideal) m c 7 t (ix2 d d') = if d.val / 128 = d'.val / 128 then (1 : EReal) else 0 := by
  have e : (win0_7.rect t).emb (ix2 d d') = ix2 d d' :=
    Shape.idx_ext₂ (win0_7.rect_emb_val_of_index_zero t 0 (idx_zero t).2.2.2.2.2.2.1.1 _)
      (win0_7.rect_emb_val_of_index_zero t 1 (idx_zero t).2.2.2.2.2.2.1.2 _)
  show V m c main_v71 ((win0_7.rect t).emb (ix2 d d')) = _
  rw [e]
  exact Host.mask7 m c d d'

/-- The mask of the rows up to a row. -/
theorem blk8 (c : Dev nD) (t : Fin cfg0.N) (i : Fin 64) (j : Fin 64) :
    iblk (F := Ideal) m c 8 t (ix2 i j) = if j.val ≤ i.val then (1 : EReal) else 0 := by
  have e : (win0_8.rect t).emb (ix2 i j) = ix2 i j :=
    Shape.idx_ext₂ (win0_8.rect_emb_val_of_index_zero t 0 (idx_zero t).2.2.2.2.2.2.2.1.1 _)
      (win0_8.rect_emb_val_of_index_zero t 1 (idx_zero t).2.2.2.2.2.2.2.1.2 _)
  show V m c main_v72 ((win0_8.rect t).emb (ix2 i j)) = _
  rw [e]
  exact Host.mask8 m c i j

/-- The same for the scores of all heads. -/
theorem blk9 (c : Dev nD) (t : Fin cfg0.N) (i : Fin 64) (J : Fin 256) :
    iblk (F := Ideal) m c 9 t (ix2 i J) = if J.val % 64 ≤ i.val then (1 : EReal) else 0 := by
  have e : (win0_9.rect t).emb (ix2 i J) = ix2 i J :=
    Shape.idx_ext₂ (win0_9.rect_emb_val_of_index_zero t 0 (idx_zero t).2.2.2.2.2.2.2.2.1 _)
      (win0_9.rect_emb_val_of_index_zero t 1 (idx_zero t).2.2.2.2.2.2.2.2.2 _)
  show V m c main_v68 ((win0_9.rect t).emb (ix2 i J)) = _
  rw [e]
  exact Host.mask9 m c i J

end Cert.GlaIdeal.Array
-- ==== Proof.GlaArray.lean ====
module

public import proofs.«01_k».proof.Proof.GlaWindows

@[expose] public section

set_option maxRecDepth 16384

noncomputable section

/-! # What the linear attention leaves in its result array

By induction over the points, each leaves its chunk of every sequence's result, and carries on the heads' states after the chunk. -/

namespace Cert.GlaIdeal.Array

open Cert.GlaIdeal Cert.GlaIdeal.Gen Cert.GlaIdeal.Block Idealize.ShloMosaic Idealize.ShloMosaic.TcCoe
open Idealize.ShloMosaic.Pipeline (Dat)
open Cert.Gla

variable (m : (ℓ : Loc nD τ sig) → Buf (Elt Ideal) ℓ)

/-- The rows of sequence `s`; -/
def seqRows (c : Dev nD) (s : Fin 4) : ℕ → Fin 1664 → EReal := rowAt (m ((c : Thread nD τ).loc main_arg0)) s

/-- the decay's matrix, -/
def upOf (c : Dev nD) : Fin 16 → Fin 256 → EReal := fun x q => m ((c : Thread nD τ).loc main_arg1) (ix2 x q)

/-- its bias, -/
def offOf (c : Dev nD) : Fin 256 → EReal := fun q => m ((c : Thread nD τ).loc main_arg2) (ix1 q)

/-- and the gain. -/
def gainOf (c : Dev nD) : Fin 128 → EReal := fun w => m ((c : Thread nD τ).loc main_arg3) (ix1 w)

/-- What the result array holds. -/
def G (c : Dev nD) : S4x4096x512.Idx → EReal := fun i =>
  result (m ((c : Thread nD τ).loc main_arg0)) (m ((c : Thread nD τ).loc main_arg1)) (m ((c : Thread nD τ).loc main_arg2))
    (m ((c : Thread nD τ).loc main_arg3)) (i 0) (i 1) (i 2)

/-- A chunk's block holds the sequence's rows. -/
theorem block_rows (c : Dev nD) (t : Fin cfg0.N) (s : Fin 4) (i : Fin 64) (q : Fin 1664) :
    rowsOf (iblk m c 0 t) s (ix3 0 i q) = seqRows m c s (t.val * 64 + i.val) q := by
  have ht := t_lt t
  rw [rowsOf_apply, blk0]
  exact (rowAt_of_lt _ s (by omega) q).symm

variable {m}

/-- What a point leaves, from the states it was handed. -/
theorem body_apply (c : Dev nD) (hp : ∀ (s : Fin 4) (r : Fin 4096) (q : Fin 1664), q.val < 1024 → IsReal (m ((c : Thread nD τ).loc main_arg0) (ix3 s r q)))
    (t : Fin cfg0.N) (S : Vec Ideal S4x512x256 .f32)
    (hS : ∀ (s h h' : Fin 4) (x : Fin 64) (w : Fin 128), S (ix3 s ⟨h.val * 128 + w.val, by omega⟩ ⟨h'.val * 64 + x.val, by omega⟩)
      = if h = h' then stateAt (seqRows m c s) (upOf m c) (offOf m c) h t.val x w else 0)
    (Z : Vec Ideal S4x64x512 .bf16 × Vec Ideal S4x512x256 .f32)
    (hZ : Leaves (iblk m c 0 t) (iblk m c 1 t) (iblk m c 2 t) (iblk m c 3 t) (iblk m c 4 t) (iblk m c 5 t) (iblk m c 6 t) (iblk m c 7 t)
      (iblk m c 8 t) (iblk m c 9 t) S Z) :
    (∀ (s : Fin 4) (i : Fin 64) (d : Fin 512), Z.1 (ix3 s i d)
      = rowOut (seqRows m c s) (upOf m c) (offOf m c) (gainOf m c) t.val i d)
    ∧ (∀ (s h h' : Fin 4) (x : Fin 64) (w : Fin 128), Z.2 (ix3 s ⟨h.val * 128 + w.val, by omega⟩ ⟨h'.val * 64 + x.val, by omega⟩)
      = if h = h' then stateAt (seqRows m c s) (upOf m c) (offOf m c) h (t.val + 1) x w else 0) := by
  have rX : ∀ (s : Fin 4) (R : ℕ) (q : Fin 1664), q.val < 1024 → IsReal (seqRows m c s R q) := fun s R q => isReal_rowAt hp s R q
  have hS' : ∀ (s h h' : Fin 4) (x : Fin 64) (w : Fin 128), stateOf S s (ix3 0 ⟨h.val * 128 + w.val, by omega⟩ ⟨h'.val * 64 + x.val, by omega⟩)
      = if h = h' then stateAt (seqRows m c s) (upOf m c) (offOf m c) h t.val x w else 0 := fun s h h' x w => by
    rw [stateOf_apply]; exact hS s h h' x w
  refine ⟨fun s i d => (hZ.1 s i d).trans ?_, fun s h h' x w => (hZ.2 s _ _).trans ?_⟩
  · exact Rows.chunk_result (X := seqRows m c s) (au := upOf m c) (ab := offOf m c) (gn := gainOf m c) (n := t.val)
      (hX := block_rows m c t s) (hu := blk1 m c t) (ha := blk2 m c t) (hg := blk3 m c t) (hm1 := blk4 m c t) (hm2 := blk5 m c t)
      (hm4 := blk7 m c t) (ht := blk8 m c t) (hi := blk9 m c t) (hS := hS' s) (rX := rX s) i d
  · exact Rows.chunk_states (X := seqRows m c s) (au := upOf m c) (ab := offOf m c) (n := t.val)
      (hX := block_rows m c t s) (hu := blk1 m c t) (ha := blk2 m c t) (hm3 := blk6 m c t)
      (ht := blk8 m c t) (hS := hS' s) h h' x w

/-- What each point leaves. -/
theorem outs_apply (c : Dev nD) (hp : ∀ (s : Fin 4) (r : Fin 4096) (q : Fin 1664), q.val < 1024 → IsReal (m ((c : Thread nD τ).loc main_arg0) (ix3 s r q))) :
    ∀ (n : ℕ) (hn : n < cfg0.N),
    (∀ (s : Fin 4) (i : Fin 64) (d : Fin 512), (outsAt0 (F := Ideal) m c n hn).1 (ix3 s i d)
      = rowOut (seqRows m c s) (upOf m c) (offOf m c) (gainOf m c) n i d)
    ∧ (∀ (s h h' : Fin 4) (x : Fin 64) (w : Fin 128),
      (outsAt0 (F := Ideal) m c n hn).2 (ix3 s ⟨h.val * 128 + w.val, by omega⟩ ⟨h'.val * 64 + x.val, by omega⟩)
      = if h = h' then stateAt (seqRows m c s) (upOf m c) (offOf m c) h (n + 1) x w else 0) := by
  intro n
  induction n with
  | zero =>
    intro hn
    refine body_apply c hp ⟨0, hn⟩ _ (fun s h h' x w => ?_) _ (outs_A m c ⟨0, hn⟩ rfl)
    show k0_pay3 (F := Ideal) _ = if h = h' then (0 : EReal) else 0
    rw [ite_self]
    pointwise [k0_pay3]
  | succ n ih =>
    intro hn
    have h64 := t_lt ⟨n + 1, hn⟩
    simp only at h64
    exact body_apply c hp ⟨n + 1, hn⟩ _ (ih (by omega)).2 _ (outs_B m c ⟨n + 1, hn⟩ (by show ¬(n + 1) % 64 = 0; omega))

/-! ## The array -/

/-- Point `t` writes back chunk `t` of `G`. -/
theorem flushed_eq (c : Dev nD) (hp : ∀ (s : Fin 4) (r : Fin 4096) (q : Fin 1664), q.val < 1024 → IsReal (m ((c : Thread nD τ).loc main_arg0) (ix3 s r q)))
    (t : Fin cfg0.N) : (dats m 0 c).flushed 10 t = ((cfg0.win 10).blk t).view.read (Elt Ideal) (G m c) := by
  rw [Value.flushed10]
  funext y
  rw [show y = ix3 (n0 := 4) (n1 := 64) (n2 := 512) (y 0) (y 1) (y 2) from eq_ix3 (n0 := 4) (n1 := 64) (n2 := 512) y]
  have ht := t_lt t
  have hy : (y 1).val < 64 := (y 1).isLt
  refine ((outs_apply c hp t.val t.isLt).1 (y 0) (y 1) (y 2)).trans ?_
  have e : rowOut (seqRows m c (y 0)) (upOf m c) (offOf m c) (gainOf m c) t.val (y 1) (y 2)
      = G m c (ix3 (n0 := 4) (n1 := 4096) (n2 := 512) (y 0) ⟨t.val * 64 + (y 1).val, by omega⟩ (y 2)) := by
    show _ = rowOut (seqRows m c (y 0)) (upOf m c) (offOf m c) (gainOf m c) ((t.val * 64 + (y 1).val) / 64)
      ⟨(t.val * 64 + (y 1).val) % 64, _⟩ (y 2)
    have e1 : (t.val * 64 + (y 1).val) / 64 = t.val := by omega
    have e2 : (⟨(t.val * 64 + (y 1).val) % 64, by omega⟩ : Fin 64) = y 1 := Fin.ext (by show (t.val * 64 + (y 1).val) % 64 = (y 1).val; omega)
    rw [e1, e2]
  refine e.trans (congrArg (G m c) ?_)
  refine idx3_ext ?_ ?_ ?_
  · exact ((win0_10.rect_emb_val t _ _).trans (by rw [(idx_row t).2.1]; exact Nat.zero_add _)).symm
  · exact ((win0_10.rect_emb_val t _ _).trans (by rw [(idx_row t).2.2.1]; rfl)).symm
  · exact ((win0_10.rect_emb_val t _ _).trans (by rw [(idx_row t).2.2.2]; exact Nat.zero_add _)).symm

/-- The point whose chunk holds a row. -/
def pt (i : S4x4096x512.Idx) : Fin cfg0.N :=
  ⟨(i 1).val / 64, by have : (i 1).val < 4096 := (i 1).isLt; rw [show cfg0.N = 64 from N_0]; omega⟩

/-- Every index of the result is in a block written back. -/
theorem cover (i : S4x4096x512.Idx) : ∃ t : Fin cfg0.N, (cfg0.win 10).flush t = true ∧ i ∈ ((cfg0.win 10).blk t).view.set := by
  refine ⟨pt i, flush0_10 _, ?_⟩
  show i ∈ ((View.whole main_v73).slice (win0_10.rect (pt i))).set
  rw [View.set_slice_whole, Rect.mem_set_unit]
  obtain ⟨e0, e1, e2⟩ := (idx_row (pt i)).2
  intro a
  match a with
  | ⟨0, _⟩ =>
    show win0_10.index (pt i) 0 * 4 ≤ (i 0).val ∧ (i 0).val < win0_10.index (pt i) 0 * 4 + 4
    rw [e0]; have : (i 0).val < 4 := (i 0).isLt; omega
  | ⟨1, _⟩ =>
    show win0_10.index (pt i) 1 * 64 ≤ (i 1).val ∧ (i 1).val < win0_10.index (pt i) 1 * 64 + 64
    rw [e1]; show (i 1).val / 64 * 64 ≤ (i 1).val ∧ (i 1).val < (i 1).val / 64 * 64 + 64; omega
  | ⟨2, _⟩ =>
    show win0_10.index (pt i) 2 * 512 ≤ (i 2).val ∧ (i 2).val < win0_10.index (pt i) 2 * 512 + 512
    rw [e2]; have : (i 2).val < 512 := (i 2).isLt; omega

/-- So the result array ends holding `G`. -/
theorem final (c : Dev nD) (hp : ∀ (s : Fin 4) (r : Fin 4096) (q : Fin 1664), q.val < 1024 → IsReal (m ((c : Thread nD τ).loc main_arg0) (ix3 s r q))) :
    (dats m 0 c).arrAt 10 cfg0.N = G m c :=
  (dats m 0 c).arrAt_eq_of_cover 10 (G m c) (fun t _ => flushed_eq c hp t) cover

end Cert.GlaIdeal.Array
-- ==== Proof.GlaRef.lean ====
module

public import proofs.«01_k».proof.Proof.Gen.GlaRefIdeal.Step
public import proofs.«01_k».proof.Proof.GlaSpec
public import Idealize.ShloMosaic.Lib.Pointwise
public import Idealize.ShloMosaic.Lib.WordCmp
public import Idealize.ShloMosaic.Lib.Pipeline.ValueKit

@[expose] public section

set_option maxRecDepth 16384

noncomputable section

/-! # What the reference linear attention computes

The reference's values, read at an index, are the sequence's mathematics: the decays and their sums, the chunks' outputs
and states, and the result. -/

namespace Cert.GlaRefIdeal.Read

open Cert.GlaRefIdeal Cert.GlaRefIdeal.Gen Cert.GlaRefIdeal.Step Idealize.ShloMosaic Idealize.ShloMosaic.TcCoe
open Cert.Gla

variable (p : (⟨S4x4096x1664, .f32⟩ : BufTy).Contents (Elt Ideal)) (au : (⟨S16x256, .f32⟩ : BufTy).Contents (Elt Ideal))
  (ab : (⟨S256, .f32⟩ : BufTy).Contents (Elt Ideal)) (gn : (⟨S128, .f32⟩ : BufTy).Contents (Elt Ideal))

/-- The decays' weights, -/
abbrev upAt : Fin 16 → Fin 256 → EReal := fun x c => au (ix2 x c)

/-- and offsets. -/
abbrev offAt : Fin 256 → EReal := fun c => ab (ix1 c)

/-! ## Before the loop -/

/-- The queries, -/
theorem queries_apply (n : Fin 64) (s h : Fin 4) (i x : Fin 64) :
    A_main_v16 p au ab (ix5 n s h i x) = qAt (rowAt p s) h n.val i x := by
  pointwise [A_main_v16, A_main_v15, A_main_v14, A_main_v0, K_main_v13, K_main_cst_0]
  unfold qAt
  rw [rowAt_of_lt p s (by omega)]

/-- the keys, -/
theorem keys_apply (n : Fin 64) (s h : Fin 4) (i x : Fin 64) :
    A_main_v18 p au ab (ix5 n s h i x) = kAt (rowAt p s) h n.val i x := by
  pointwise [A_main_v18, A_main_v17, A_main_v1]
  unfold kAt
  rw [rowAt_of_lt p s (by omega)]

/-- the values, -/
theorem values_apply (n : Fin 64) (s h : Fin 4) (i : Fin 64) (w : Fin 128) :
    A_main_v20 p au ab (ix5 n s h i w) = vAt (rowAt p s) h n.val i w := by
  pointwise [A_main_v20, A_main_v19, A_main_v2]
  unfold vAt
  rw [rowAt_of_lt p s (by omega)]

/-- the logarithms of the decays, -/
theorem decays_apply (s : Fin 4) (r : Fin 4096) (c : Fin 256) :
    A_main_v12 p au ab (ix3 s r c) = logDecay (rowAt p s) (upAt au) (offAt ab) r.val c := by
  pointwise [A_main_v12, A_main_v10, A_main_v9, A_main_v8, A_main_v7, A_main_v6, A_main_v5, A_main_v4, A_main_v3,
    A_main_call0_v11, A_main_call0_v10, A_main_call0_v9, A_main_call0_v8, A_main_call0_v7, A_main_call0_v6, A_main_call0_v4,
    A_main_call0_v3, A_main_call0_v1, K_main_call0_v5, K_main_call0_v2, K_main_call0_v0, K_main_call0_cst, K_main_v11, K_main_cst]
  rw [if_neg (fun h => h rfl)]
  unfold logDecay
  simp only [rowAt_of_lt p s r.isLt]
  rfl

/-- Whether one small number is at least another. -/
theorem select_ge {a b : ℕ} (ha : a < 64) (hb : b < 64) (x y : EReal) :
    Scalar.select (IntOp.cmpi .sge (BitVec.ofNat 32 a) (BitVec.ofNat 32 b)) x y = if b ≤ a then x else y := by
  have h : IntOp.cmpi .sge (BitVec.ofNat 32 a) (BitVec.ofNat 32 b) = BitVec.ofBool (decide (b ≤ a)) :=
    (by decide +kernel : ∀ a b : Fin 64, IntOp.cmpi .sge (BitVec.ofNat 32 a.val) (BitVec.ofNat 32 b.val)
      = BitVec.ofBool (decide (b.val ≤ a.val))) ⟨a, ha⟩ ⟨b, hb⟩
  rw [h]
  by_cases e : b ≤ a
  · rw [if_pos e, decide_eq_true e]; rfl
  · rw [if_neg e, decide_eq_false e]; rfl

/-- The masked decays before they are summed. -/
theorem masked_apply (n : Fin 64) (s h : Fin 4) (i j x : Fin 64) :
    A_main_v31 p au ab (ix6 n s h i j x)
      = if j.val ≤ i.val then logDecay (rowAt p s) (upAt au) (offAt ab) (n.val * 64 + j.val) ⟨h.val * 64 + x.val, by omega⟩ else 0 := by
  pointwise [A_main_v31, A_main_call1_v2, A_main_v30, A_main_v22, A_main_v21, K_main_call1_v1, K_main_call1_v3, K_main_call1_v0,
    K_main_cst_1, K_main_v29, K_main_v28, K_main_v27, K_main_v26, K_main_v25, K_main_v24, K_main_v23]
  rw [decays_apply]
  refine (select_ge i.isLt j.isLt _ _).trans ?_
  split_ifs
  · rfl
  · exact Ideal.ofBits_zero_f32

/-- and their sums. -/
theorem sums_apply (n : Fin 64) (s h : Fin 4) (i x : Fin 64) :
    A_main_v32 p au ab (ix5 n s h i x) = bAt (rowAt p s) (upAt au) (offAt ab) h n.val i x := by
  have hr : S64x4x4x64x64x64.Reduces [4] S64x4x4x64x64 := by decide
  unfold A_main_v32
  refine (Ideal.hostReduceAdd_single reducesTo_S64x4x4x64x64x64_S64x4x4x64x64_d4 hr _ _ _).trans ?_
  rw [show K_main_cst_2 (F := Ideal) (Shape.Idx.first h_S_) = (0 : EReal) from Ideal.ofBits_zero_f32, zero_add]
  refine Finset.sum_congr rfl fun j _ => ?_
  refine (congrArg (A_main_v31 p au ab) (show hr.lift (ix5 n s h i x) j = ix6 n s h i j x from ?_)).trans (masked_apply p au ab n s h i j x)
  funext a
  fin_cases a <;> rfl

/-! ## The loop -/

/-- Where trip `j`'s slices start. -/
theorem start_eq {j : ℕ} (hj : j < 64) (w : ℕ) (h) :
    Host.clampedStart ⟨5, ![64, 4, 4, 64, w]⟩ ⟨5, ![1, 4, 4, 64, w]⟩ h (fun k => BitVec.toInt
      ((![constantI S_ 32 (BitVec.ofNat 32 j), constantI S_ 32 0#32, constantI S_ 32 0#32, constantI S_ 32 0#32, constantI S_ 32 0#32] :
        Fin 5 → (⟨S_, .i32⟩ : BufTy).Contents (Elt Ideal)) k (Shape.Idx.first h_S_))) = ![j, 0, 0, 0, 0] := by
  have hj' : (BitVec.ofNat 32 j).toInt = j := by
    rw [BitVec.toInt_eq_toNat_of_lt (by rw [BitVec.toNat_ofNat]; omega), BitVec.toNat_ofNat,
      Nat.mod_eq_of_lt (by omega)]
  funext a
  match a with
  | ⟨0, _⟩ => exact Host.clampedStart_of_le _ _ _ _ hj' (show j + 1 ≤ 64 by omega)
  | ⟨1, _⟩ => exact Host.clampedStart_of_le _ _ _ _ rfl (show 0 + 4 ≤ 4 by decide)
  | ⟨2, _⟩ => exact Host.clampedStart_of_le _ _ _ _ rfl (show 0 + 4 ≤ 4 by decide)
  | ⟨3, _⟩ => exact Host.clampedStart_of_le _ _ _ _ rfl (show 0 + 64 ≤ 64 by decide)
  | ⟨4, _⟩ => exact Host.clampedStart_of_le _ _ _ _ rfl (show 0 + w ≤ w by omega)

/-- The chunk a trip reads of the queries, -/
theorem trip_queries (st : State Ideal) {j : ℕ} (hj : j < 64) (s h : Fin 4) (i x : Fin 64) :
    b5 j st (ix4 s h i x) = st.main_v35_0 (ix5 ⟨j, hj⟩ s h i x) := by
  pointwise [b5, b4, b3, b2, b1, b0]
  simp only [start_eq hj]
  have e : ix5 (⟨j, hj⟩ : Fin 64) (⟨0 + s.val, by omega⟩ : Fin 4) (⟨0 + h.val, by omega⟩ : Fin 4) (⟨0 + i.val, by omega⟩ : Fin 64)
      (⟨0 + x.val, by omega⟩ : Fin 64) = ix5 ⟨j, hj⟩ s h i x := by simp only [Nat.zero_add]
  exact congrArg st.main_v35_0 e

/-- of the keys, -/
theorem trip_keys (st : State Ideal) {j : ℕ} (hj : j < 64) (s h : Fin 4) (i x : Fin 64) :
    b11 j st (ix4 s h i x) = st.main_v35_1 (ix5 ⟨j, hj⟩ s h i x) := by
  pointwise [b11, b10, b9, b8, b7, b6]
  simp only [start_eq hj]
  have e : ix5 (⟨j, hj⟩ : Fin 64) (⟨0 + s.val, by omega⟩ : Fin 4) (⟨0 + h.val, by omega⟩ : Fin 4) (⟨0 + i.val, by omega⟩ : Fin 64)
      (⟨0 + x.val, by omega⟩ : Fin 64) = ix5 ⟨j, hj⟩ s h i x := by simp only [Nat.zero_add]
  exact congrArg st.main_v35_1 e

/-- of the values -/
theorem trip_values (st : State Ideal) {j : ℕ} (hj : j < 64) (s h : Fin 4) (i : Fin 64) (w : Fin 128) :
    b17 j st (ix4 s h i w) = st.main_v35_2 (ix5 ⟨j, hj⟩ s h i w) := by
  pointwise [b17, b16, b15, b14, b13, b12]
  simp only [start_eq hj]
  have e : ix5 (⟨j, hj⟩ : Fin 64) (⟨0 + s.val, by omega⟩ : Fin 4) (⟨0 + h.val, by omega⟩ : Fin 4) (⟨0 + i.val, by omega⟩ : Fin 64)
      (⟨0 + w.val, by omega⟩ : Fin 128) = ix5 ⟨j, hj⟩ s h i w := by simp only [Nat.zero_add]
  exact congrArg st.main_v35_2 e

/-- and of the summed decays. -/
theorem trip_sums (st : State Ideal) {j : ℕ} (hj : j < 64) (s h : Fin 4) (i x : Fin 64) :
    b23 j st (ix4 s h i x) = st.main_v35_3 (ix5 ⟨j, hj⟩ s h i x) := by
  pointwise [b23, b22, b21, b20, b19, b18]
  simp only [start_eq hj]
  have e : ix5 (⟨j, hj⟩ : Fin 64) (⟨0 + s.val, by omega⟩ : Fin 4) (⟨0 + h.val, by omega⟩ : Fin 4) (⟨0 + i.val, by omega⟩ : Fin 64)
      (⟨0 + x.val, by omega⟩ : Fin 64) = ix5 ⟨j, hj⟩ s h i x := by simp only [Nat.zero_add]
  exact congrArg st.main_v35_3 e

section Trip

variable {st : State Ideal} {j : ℕ} {s h : Fin 4} {q k b : Fin 64 → Fin 64 → EReal} {v S : Fin 64 → Fin 128 → EReal}

variable (hq : ∀ i x : Fin 64, b5 j st (ix4 s h i x) = q i x) (hk : ∀ i x : Fin 64, b11 j st (ix4 s h i x) = k i x)
  (hv : ∀ (i : Fin 64) (w : Fin 128), b17 j st (ix4 s h i w) = v i w) (hb : ∀ i x : Fin 64, b23 j st (ix4 s h i x) = b i x)
  (hS : ∀ (x : Fin 64) (w : Fin 128), st.main_v35_5 (ix4 s h x w) = S x w)

include hq hk hb in
/-- A trip's scores, -/
theorem trip_scores (i i' : Fin 64) : b40 j st (ix4 s h i i') = score q k b i i' := by
  pointwise [b40, b39, b38, b37, b36, b35, b34, b33, b32, b30]
  simp only [hq, hk, hb]
  rfl

include hq hk hv hb hS in
/-- its outputs -/
theorem trip_outputs (i : Fin 64) (w : Fin 128) : b50 j st (ix4 s h i w) = headOut q k b v S i w := by
  have hsc := trip_scores hq hk hb
  pointwise [b50, b49, b48, b47, b46, b45, b44, b43, b42, b41, b29, b28, b27, b26, b25, b24]
  simp only [hq, hb, hv, hS, hsc]
  unfold headOut
  refine congrArg₂ (· + ·) (Finset.sum_congr rfl fun x _ => ?_) rfl
  exact select_ge i.isLt x.isLt _ _

include hk hv hb hS in
/-- and the state it leaves. -/
theorem trip_state (x : Fin 64) (w : Fin 128) : b61 j st (ix4 s h x w) = headNext k b v S x w := by
  pointwise [b61, b60, b59, b58, b57, b56, b55, b54, b53, b52, b51, b31]
  simp only [hk, hb, hv, hS]
  rfl

end Trip

/-- The table of outputs after a trip. -/
theorem trip_table (st : State Ideal) {j : ℕ} (hj : j < 64) (n : Fin 64) (s h : Fin 4) (i : Fin 64) (w : Fin 128) :
    b67 j st (ix5 n s h i w) = if n.val = j then b50 j st (ix4 s h i w) else st.main_v35_6 (ix5 n s h i w) := by
  pointwise [b67, b66, b65, b64, b63, b62]
  simp only [start_eq hj]
  by_cases e : n.val = j
  · rw [if_pos e, dif_pos ⟨⟨e.ge, by show n.val < j + 1; omega⟩, Nat.zero_le _, Nat.zero_le _, Nat.zero_le _, Nat.zero_le _⟩]
    rfl
  · rw [if_neg e, dif_neg (fun hh => e (by
      have h1 : j ≤ n.val := hh.1.1
      have h2 : n.val < j + 1 := hh.1.2
      omega))]

/-- The loop's states. -/
def iter : ℕ → State Ideal
  | 0 => init p au ab
  | n + 1 => step n (iter n)

/-- What the loop's state is after `n` trips. -/
theorem iter_apply (s h : Fin 4) : ∀ n, n ≤ 64 →
    (iter p au ab n).main_v35_0 = A_main_v16 p au ab ∧ (iter p au ab n).main_v35_1 = A_main_v18 p au ab
    ∧ (iter p au ab n).main_v35_2 = A_main_v20 p au ab ∧ (iter p au ab n).main_v35_3 = A_main_v32 p au ab
    ∧ (∀ (x : Fin 64) (w : Fin 128), (iter p au ab n).main_v35_5 (ix4 s h x w) = stateAt (rowAt p s) (upAt au) (offAt ab) h n x w)
    ∧ ∀ (k : Fin 64) (i : Fin 64) (w : Fin 128), k.val < n →
      (iter p au ab n).main_v35_6 (ix5 k s h i w) = oAt (rowAt p s) (upAt au) (offAt ab) h k.val i w
  | 0, _ => ⟨rfl, rfl, rfl, rfl, fun x w => by
      show K_main_v33 (F := Ideal) (ix4 s h x w) = 0
      pointwise [K_main_v33, K_main_cst_3], fun k i w hk => absurd hk (Nat.not_lt_zero _)⟩
  | n + 1, hn => by
      obtain ⟨h0, h1, h2, h3, hs, ht⟩ := iter_apply s h n (by omega)
      have hq : ∀ i x : Fin 64, b5 n (iter p au ab n) (ix4 s h i x) = qAt (rowAt p s) h n i x := fun i x => by
        rw [trip_queries _ (by omega), h0]; exact queries_apply p au ab ⟨n, by omega⟩ s h i x
      have hk : ∀ i x : Fin 64, b11 n (iter p au ab n) (ix4 s h i x) = kAt (rowAt p s) h n i x := fun i x => by
        rw [trip_keys _ (by omega), h1]; exact keys_apply p au ab ⟨n, by omega⟩ s h i x
      have hv : ∀ (i : Fin 64) (w : Fin 128), b17 n (iter p au ab n) (ix4 s h i w) = vAt (rowAt p s) h n i w := fun i w => by
        rw [trip_values _ (by omega), h2]; exact values_apply p au ab ⟨n, by omega⟩ s h i w
      have hb : ∀ i x : Fin 64, b23 n (iter p au ab n) (ix4 s h i x) = bAt (rowAt p s) (upAt au) (offAt ab) h n i x := fun i x => by
        rw [trip_sums _ (by omega), h3]; exact sums_apply p au ab ⟨n, by omega⟩ s h i x
      refine ⟨h0, h1, h2, h3, fun x w => trip_state hk hv hb hs x w, fun k i w hkn => ?_⟩
      show b67 n _ (ix5 k s h i w) = _
      rw [trip_table _ (by omega)]
      by_cases e : k.val = n
      · rw [if_pos e, e]
        exact trip_outputs hq hk hv hb hs i w
      · rw [if_neg e]
        exact ht k i w (by omega)

/-- The result array, of any table that holds the chunks' outputs. -/
theorem result_of_table (st : State Ideal) (s : Fin 4) (R : Fin 4096) (d : Fin 512)
    (hO : ∀ (h : Fin 4) (w : Fin 128), st.main_v35_6 (ix5 ⟨R.val / 64, by omega⟩ s h ⟨R.val % 64, by omega⟩ w)
      = oAt (rowAt p s) (upAt au) (offAt ab) h (R.val / 64) ⟨R.val % 64, by omega⟩ w) :
    R_main_v55 st p gn (ix3 s R d) = result p au ab gn s R d := by
  pointwise [R_main_v55]
  simp only [hO]
  unfold result rowOut
  have e : R.val / 64 * 64 + R.val % 64 = R.val := by omega
  simp only [e, rowAt_of_lt p s R.isLt]

/-- The reference's result array. -/
theorem result_apply (it : ℕ → State Ideal) (hit : it = iter p au ab) (s : Fin 4) (R : Fin 4096) (d : Fin 512) :
    R_main_v55 (it 64) p gn (ix3 s R d) = result p au ab gn s R d :=
  result_of_table p au ab gn (it 64) s R d fun h w => by
    have e := (iter_apply p au ab s h 64 (le_refl _)).2.2.2.2.2 ⟨R.val / 64, by omega⟩ ⟨R.val % 64, by omega⟩ w
      (by show R.val / 64 < 64; omega)
    rw [← hit] at e
    exact e

end Cert.GlaRefIdeal.Read
-- ==== Proof.GlaSteps.lean ====
module

public import proofs.«01_k».proof.Proof.Gen.GlaRefIdeal.Run
public import proofs.«01_k».proof.Proof.Gen.GlaRefIdeal.Step

@[expose] public section

set_option maxRecDepth 8192

noncomputable section

/-! # The reference attention's loop, trip by trip

The reference walks over the 64 chunks in a loop.  Here its run is stated over the function that makes one state of the
loop from the one before: the result is read off the state after 64 trips. -/

namespace Cert.GlaRefIdeal.Iter

open Idealize.ShloMosaic Idealize.ShloMosaic.TcCoe Idealize.SL.Sem Idealize.ShloMosaic.StableHlo
open Cert.GlaRefIdeal Cert.GlaRefIdeal.Gen Cert.GlaRefIdeal.Value
open Cert.GlaRefIdeal.Step (State step init)

variable {F : FTy → Type} [FloatOps F]

variable (V0 : Valuation τ sig (Elt F)) (s : State F) (j : ℕ)

/-- The buffers hold the state `s`, and the counter the number `j`. -/
structure Holds : Prop where
  state : V0 (Proc.devRef .tc main_v35_5) = s.main_v35_5
  table : V0 (Proc.devRef .tc main_v35_6) = s.main_v35_6
  queries : V0 (Proc.devRef .tc main_v35_0) = s.main_v35_0
  keys : V0 (Proc.devRef .tc main_v35_1) = s.main_v35_1
  values : V0 (Proc.devRef .tc main_v35_2) = s.main_v35_2
  sums : V0 (Proc.devRef .tc main_v35_3) = s.main_v35_3
  count : V0 (Proc.devRef .tc main_v35_4) = constantI S_ 32 (BitVec.ofNat 32 j)

variable {V0 s j}

/-- The chunk's queries are the step function's, -/
theorem queries_eq (h : Holds V0 s j) : res_main_while0b_v56 V0 = Cert.GlaRefIdeal.Step.b5 j s := by
  unfold res_main_while0b_v56
  rw [h.queries, h.count]
  rfl

/-- its keys, -/
theorem keys_eq (h : Holds V0 s j) : res_main_while0b_v57 V0 = Cert.GlaRefIdeal.Step.b11 j s := by
  unfold res_main_while0b_v57
  rw [h.keys, h.count]
  rfl

/-- its values -/
theorem values_eq (h : Holds V0 s j) : res_main_while0b_v58 V0 = Cert.GlaRefIdeal.Step.b17 j s := by
  unfold res_main_while0b_v58
  rw [h.values, h.count]
  rfl

/-- and its summed decays. -/
theorem sums_eq (h : Holds V0 s j) : res_main_while0b_v59 V0 = Cert.GlaRefIdeal.Step.b23 j s := by
  unfold res_main_while0b_v59
  rw [h.sums, h.count]
  rfl

/-- The carried state after a trip. -/
theorem step_state (h : Holds V0 s j) : step_main_v35_5 V0 = (step j s).main_v35_5 := by
  unfold step_main_v35_5 res_main_while0b_v67
  rw [keys_eq h, values_eq h, sums_eq h, h.state]
  rfl

/-- The table of outputs after a trip: the trip's chunk is put in its place. -/
theorem step_table (h : Holds V0 s j) : step_main_v35_6 V0 = (step j s).main_v35_6 := by
  unfold step_main_v35_6 res_main_while0b_v66
  rw [queries_eq h, keys_eq h, values_eq h, sums_eq h, h.state, h.table, h.count]
  rfl

/-- The counter after a trip. -/
theorem step_count (h : Holds V0 s j) : step_main_v35_4 V0 = constantI S_ 32 (BitVec.ofNat 32 (j + 1)) := by
  unfold step_main_v35_4
  rw [h.count]
  funext i
  show BitVec.ofNat 32 j + 1#32 = BitVec.ofNat 32 (j + 1)
  simp only [BitVec.ofNat_add]

/-- The result, of the buffers after the last trip. -/
theorem result_eq (h : Holds V0 s j) {x : (⟨S4x4096x1664, .f32⟩ : BufTy).Contents (Elt F)} {g : (⟨S128, .f32⟩ : BufTy).Contents (Elt F)}
    (hx : V0 (Proc.devRef .tc main_arg0) = x) (hg : V0 (Proc.devRef .tc main_arg3) = g) :
    out_main_v55 V0 = Cert.GlaRefIdeal.Step.R_main_v55 s x g := by
  unfold out_main_v55 Cert.GlaRefIdeal.Step.R_main_v55
  rw [h.table, hx, hg]
  rfl

/-- One trip keeps the buffers holding: the next state and the next number. -/
theorem holds_step (h : Holds V0 s j) : Holds (STEP V0) (step j s) (j + 1) where
  state := (STEP_main_v35_5 V0).trans (step_state h)
  table := (STEP_main_v35_6 V0).trans (step_table h)
  count := (STEP_main_v35_4 V0).trans (step_count h)
  queries := (STEP_main_v35_0 V0).trans h.queries
  keys := (STEP_main_v35_1 V0).trans h.keys
  values := (STEP_main_v35_2 V0).trans h.values
  sums := (STEP_main_v35_3 V0).trans h.sums

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 500000 in
/-- What stands before the loop: trip number 0 and the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The reference's result by iterating the trip: every run ends with the result read off state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v55)
        = Cert.GlaRefIdeal.Step.R_main_v55 (it c 64) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 64
    ⟨(h c).1.trans (result_eq hk (iter_main_arg0 m c 64) (iter_main_arg3 m c 64)), (h c).2⟩) (Value.run m ρ)

end Cert.GlaRefIdeal.Iter

end
-- ==== Proof.GlaEqn.lean ====
module

public import proofs.«01_k».proof.Proof.GlaArray
public import proofs.«01_k».proof.Proof.GlaRef
public import proofs.«01_k».proof.Proof.GlaSteps
public import proofs.«01_k».proof.Defs
public import Idealize.ShloMosaic.Lib.ReduceAll

@[expose] public section

set_option maxRecDepth 16384

noncomputable section

/-! # The linear attention's claim -/

namespace Cert.Pre_finite_inputs

open Idealize.ShloMosaic Cert.Gla Facts

/-- The precondition's side conditions. -/
theorem facts : Facts where
  slices_S4x4096x1664_S4x4096x1024_0_0_0 := by decide
  bcast_S_S4x4096x1024 := by decide
  reducesTo_S4x4096x1024_S_d0_1_2 := by decide
  h_S_ := by decide

/-- A value whose magnitude is below infinity is a real number. -/
theorem isReal_of_lt (x : EReal)
    (h : FloatOps.cmpf (F := Ideal) .olt (FloatOps.hostAbsf (F := Ideal) (φ := .f32) x) (FloatOps.ofBits (F := Ideal) .f32 0x7F800000#32) = 1#1) :
    IsReal x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  have hlt : max x (-x) < ⊤ := by
    by_contra hn
    simp [hn] at h'
  rw [max_lt_iff] at hlt
  have h1 : x ≠ ⊤ := hlt.1.ne
  have h2 : x ≠ ⊥ := fun e => by
    rw [e] at hlt
    simp at hlt
  exact ⟨x.toReal, (EReal.coe_toReal h1 h2).symm⟩

/-- There is one index of rank zero. -/
instance : Subsingleton S_.Idx := ⟨fun a b => funext fun x => x.elim0⟩

/-- The precondition says that the queries, keys and values are real numbers. -/
theorem isReal_of_fn [Facts] (p : FVec Ideal S4x4096x1664 .f32) (u : FVec Ideal S16x256 .f32) (a : FVec Ideal S256 .f32)
    (g : FVec Ideal S128 .f32) (h : fn (F := Ideal) p u a g = fun _ => 1#1) (s : Fin 4) (r : Fin 4096) (c : Fin 1664)
    (hc : c.val < 1024) : IsReal (p (ix3 s r c)) := by
  have e := congrFun h (fun x => x.elim0)
  unfold fn at e
  dsimp only at e
  have e' := isReal_of_lt _ (Host.reduce_andi_all _ _ _ _ _ e (ix3 (n0 := 4) (n1 := 4096) (n2 := 1024) s r ⟨c.val, hc⟩))
  refine (congrArg IsReal (extractStridedSlice_apply _ p slices_S4x4096x1664_S4x4096x1024_0_0_0 _ (ix3 s r c) fun k => ?_)).mp e'
  match k with
  | ⟨0, _⟩ => exact (Nat.zero_add _).symm
  | ⟨1, _⟩ => exact (Nat.zero_add _).symm
  | ⟨2, _⟩ => exact (Nat.zero_add _).symm

end Cert.Pre_finite_inputs

namespace Cert.GlaRefIdeal.Eqn

open Cert.GlaRefIdeal Cert.GlaRefIdeal.Gen Idealize.ShloMosaic Idealize.ShloMosaic.TcCoe

/-- On the extended reals, from finite queries, keys and values, the chunked attention with all heads side by side under masks holds what the
reference's loop over chunks holds, head by head. -/
theorem algebraic : Cert.algebraic_GlaIdeal_GlaRefIdeal_pre_finite_inputs (hPre_finite_inputs := Cert.Pre_finite_inputs.facts) := by
  intro m ρ m' ρ' hpre hag
  refine ⟨fun c => Cert.GlaIdeal.Array.G m c, ?_, ?_⟩
  · refine (θ_run _ _ _).mono (fun _ h c => ⟨(h c).1.trans ?_, (h c).2⟩) (Cert.GlaIdeal.Value.run_blocks m ρ)
    exact Cert.GlaIdeal.Array.final c (@Cert.Pre_finite_inputs.isReal_of_fn Cert.Pre_finite_inputs.facts _ _ _ _ (hpre c))
  · refine (θ_run _ _ _).mono (fun _ h c => ⟨(h c).1.trans ?_, (h c).2⟩)
      (Iter.run_iter m' ρ' (fun c => Read.iter (m' ((c.tc : Thread nD τ).loc main_arg0)) (m' ((c.tc : Thread nD τ).loc main_arg1))
        (m' ((c.tc : Thread nD τ).loc main_arg2))) (fun _ => rfl) (fun _ _ => rfl))
    obtain ⟨h0, h1, h2, h3⟩ := hag c
    funext i
    rw [eq_ix3 (n0 := 4) (n1 := 4096) (n2 := 512) i]
    refine (Read.result_apply _ _ _ _ _ rfl _ _ _).trans ?_
    rw [h0, h1, h2, h3]
    rfl

end Cert.GlaRefIdeal.Eqn
-- ==== Proof.RouteBase.lean ====
module

public import proofs.«01_k».proof.Proof.Gen.RouteIdeal.Value
public import Idealize.ShloMosaic.Lib.Pointwise
public import Idealize.ShloMosaic.Lib.WordCmp
public import Idealize.ShloMosaic.Lib.Pipeline.ValueKit
public import Idealize.ShloMosaic.Lib.Pipeline.ReadBack

/-! # Scores of the routing call: blocks and how they are read back -/

@[expose] public section

set_option maxRecDepth 16384
set_option maxHeartbeats 1600000
noncomputable section
namespace Cert.RouteIdeal.Block

open Cert.RouteIdeal Cert.RouteIdeal.Gen Idealize.ShloMosaic Idealize.ShloMosaic.TcCoe

/-- Two indices of rank three with equal coordinates are equal. -/
theorem idx3_ext {n0 n1 n2 : ℕ} {i j : (⟨3, ![n0, n1, n2]⟩ : Shape).Idx} (h0 : (i 0).val = (j 0).val) (h1 : (i 1).val = (j 1).val)
    (h2 : (i 2).val = (j 2).val) : i = j := by
  rw [eq_ix3 i, eq_ix3 j, show i 0 = j 0 from Fin.ext h0, show i 1 = j 1 from Fin.ext h1, show i 2 = j 2 from Fin.ext h2]

/-- A block written last, read inside it, -/
theorem canon_hit {sh : Shape} {e : EltTy} {r : Rect sh} {w : r.shape.Idx → Elt Ideal e} {L : List (View.Piece (Elt Ideal) sh e)}
    {y : sh.Idx} (x : r.shape.Idx) (h : r.emb x = y) : View.canon (Val := Elt Ideal) (⟨r, w⟩ :: L) y = w x := by
  subst h
  exact View.canon_cons_emb (Val := Elt Ideal) r w L x

/-- and read outside it. -/
theorem canon_miss {sh : Shape} {e : EltTy} {r : Rect sh} {w : r.shape.Idx → Elt Ideal e} {L : List (View.Piece (Elt Ideal) sh e)}
    {y : sh.Idx} {z : Elt Ideal e} (h : y ∉ r.set) (hz : View.canon (Val := Elt Ideal) L y = z) :
    View.canon (Val := Elt Ideal) (⟨r, w⟩ :: L) y = z :=
  (View.canon_cons_of_not_mem (Val := Elt Ideal) ⟨r, w⟩ L h).trans hz

/-- The weight of a key. -/
def weight (v : FVec Ideal S128x512 .f32) (key : Fin 128) (row : Fin 512) : EReal :=
  Ideal.exp (v (ix2 key row) - Finset.univ.fold max (Ideal.ofBits .f32 4286578688#32) (fun x : Fin 128 => v (ix2 x row)))

/-- The scores of block `j` of the keys. -/
def blkScore (H : Vec Ideal S512x2048 .bf16) (W : Vec Ideal S2048x2048 .bf16) (K : Vec Ideal S16x128x128 .bf16) (j : Fin 16)
    (key : Fin 128) (row : Fin 512) : EReal :=
  ∑ x : Fin 128, K (ix3 j key x) * ∑ k : Fin 2048, H (ix2 row k) * W (ix2 k ⟨j.val * 128 + x.val, by omega⟩)

/-- A position outside a stored block of scores. -/
theorem miss16 {k : ℕ} (h) (s : Fin 16) (hs : s.val ≠ k) (i : Fin 128) (d : Fin 512) :
    (ix3 s i d : (⟨3, ![16, 128, 512]⟩ : Shape).Idx) ∉ (Rect.unit (s := (⟨3, ![16, 128, 512]⟩ : Shape)) ![k, 0, 0] ![1, 128, 512] h).set := by
  intro hm
  have h1 : k ≤ s.val ∧ s.val < k + 1 := (Rect.mem_set_unit.mp hm) (0 : Fin 3)
  omega

/-- A position inside a stored block of scores. -/
theorem emb16 {k : ℕ} (hk : k < 16) (h) (i : Fin 128) (d : Fin 512) :
    (Rect.unit (s := (⟨3, ![16, 128, 512]⟩ : Shape)) ![k, 0, 0] ![1, 128, 512] h).emb (ix3 (0 : Fin 1) i d) = ix3 ⟨k, hk⟩ i d := by
  refine idx3_ext (n0 := 16) (n1 := 128) (n2 := 512) ?_ ?_ ?_
  · show k + 1 * 0 = k; omega
  · show 0 + 1 * i.val = i.val; omega
  · show 0 + 1 * d.val = d.val; omega

/-- A stored block read inside it, -/
theorem hit16 {j : ℕ} (hj : j < 16) (h) (w : (⟨3, ![1, 128, 512]⟩ : Shape).Idx → Elt Ideal .f32)
    (L : List (View.Piece (Elt Ideal) (⟨3, ![16, 128, 512]⟩ : Shape) .f32)) (i : Fin 128) (d : Fin 512) :
    View.canon (Val := Elt Ideal) (⟨Rect.unit (s := (⟨3, ![16, 128, 512]⟩ : Shape)) ![j, 0, 0] ![1, 128, 512] h, w⟩ :: L) (ix3 ⟨j, hj⟩ i d)
      = w (ix3 0 i d) :=
  canon_hit (r := Rect.unit (s := (⟨3, ![16, 128, 512]⟩ : Shape)) ![j, 0, 0] ![1, 128, 512] h) (ix3 (0 : Fin 1) i d) (emb16 hj h i d)

/-- and outside it. -/
theorem skip16 {j : ℕ} (h) (w : (⟨3, ![1, 128, 512]⟩ : Shape).Idx → Elt Ideal .f32)
    (L : List (View.Piece (Elt Ideal) (⟨3, ![16, 128, 512]⟩ : Shape) .f32)) (s : Fin 16) (hs : s.val ≠ j) (i : Fin 128) (d : Fin 512) :
    View.canon (Val := Elt Ideal) (⟨Rect.unit (s := (⟨3, ![16, 128, 512]⟩ : Shape)) ![j, 0, 0] ![1, 128, 512] h, w⟩ :: L) (ix3 s i d)
      = View.canon (Val := Elt Ideal) L (ix3 s i d) :=
  canon_miss (miss16 h s hs i d) rfl

/-- Sixteen stored blocks that together fill the scores: each position reads its own block. -/
theorem canon16 (p0 p1 p2 p3 p4 p5 p6 p7 p8 p9 p10 p11 p12 p13 p14 p15 : (⟨3, ![1, 128, 512]⟩ : Shape).Idx → Elt Ideal .f32) (g : Fin 16 → EReal)
    (key : Fin 128) (row : Fin 512)
    (h0 : p0 (ix3 0 key row) = g ⟨0, by omega⟩)
    (h1 : p1 (ix3 0 key row) = g ⟨1, by omega⟩)
    (h2 : p2 (ix3 0 key row) = g ⟨2, by omega⟩)
    (h3 : p3 (ix3 0 key row) = g ⟨3, by omega⟩)
    (h4 : p4 (ix3 0 key row) = g ⟨4, by omega⟩)
    (h5 : p5 (ix3 0 key row) = g ⟨5, by omega⟩)
    (h6 : p6 (ix3 0 key row) = g ⟨6, by omega⟩)
    (h7 : p7 (ix3 0 key row) = g ⟨7, by omega⟩)
    (h8 : p8 (ix3 0 key row) = g ⟨8, by omega⟩)
    (h9 : p9 (ix3 0 key row) = g ⟨9, by omega⟩)
    (h10 : p10 (ix3 0 key row) = g ⟨10, by omega⟩)
    (h11 : p11 (ix3 0 key row) = g ⟨11, by omega⟩)
    (h12 : p12 (ix3 0 key row) = g ⟨12, by omega⟩)
    (h13 : p13 (ix3 0 key row) = g ⟨13, by omega⟩)
    (h14 : p14 (ix3 0 key row) = g ⟨14, by omega⟩)
    (h15 : p15 (ix3 0 key row) = g ⟨15, by omega⟩)
    (j : Fin 16) :
    View.canon (Val := Elt Ideal) ([
      ⟨Rect.unit ![15, 0, 0] ![1, 128, 512] inb_S16x128x512_S1x128x512_15_0_0, p15⟩,
      ⟨Rect.unit ![14, 0, 0] ![1, 128, 512] inb_S16x128x512_S1x128x512_14_0_0, p14⟩,
      ⟨Rect.unit ![13, 0, 0] ![1, 128, 512] inb_S16x128x512_S1x128x512_13_0_0, p13⟩,
      ⟨Rect.unit ![12, 0, 0] ![1, 128, 512] inb_S16x128x512_S1x128x512_12_0_0, p12⟩,
      ⟨Rect.unit ![11, 0, 0] ![1, 128, 512] inb_S16x128x512_S1x128x512_11_0_0, p11⟩,
      ⟨Rect.unit ![10, 0, 0] ![1, 128, 512] inb_S16x128x512_S1x128x512_10_0_0, p10⟩,
      ⟨Rect.unit ![9, 0, 0] ![1, 128, 512] inb_S16x128x512_S1x128x512_9_0_0, p9⟩,
      ⟨Rect.unit ![8, 0, 0] ![1, 128, 512] inb_S16x128x512_S1x128x512_8_0_0, p8⟩,
      ⟨Rect.unit ![7, 0, 0] ![1, 128, 512] inb_S16x128x512_S1x128x512_7_0_0, p7⟩,
      ⟨Rect.unit ![6, 0, 0] ![1, 128, 512] inb_S16x128x512_S1x128x512_6_0_0, p6⟩,
      ⟨Rect.unit ![5, 0, 0] ![1, 128, 512] inb_S16x128x512_S1x128x512_5_0_0, p5⟩,
      ⟨Rect.unit ![4, 0, 0] ![1, 128, 512] inb_S16x128x512_S1x128x512_4_0_0, p4⟩,
      ⟨Rect.unit ![3, 0, 0] ![1, 128, 512] inb_S16x128x512_S1x128x512_3_0_0, p3⟩,
      ⟨Rect.unit ![2, 0, 0] ![1, 128, 512] inb_S16x128x512_S1x128x512_2_0_0, p2⟩,
      ⟨Rect.unit ![1, 0, 0] ![1, 128, 512] inb_S16x128x512_S1x128x512_1_0_0, p1⟩,
      ⟨Rect.unit ![0, 0, 0] ![1, 128, 512] inb_S16x128x512_S1x128x512_0_0_0, p0⟩] : List (View.Piece (Elt Ideal) S16x128x512 .f32)) (ix3 j key row) = g j := by
  rcases j with ⟨j, hj⟩
  interval_cases j
  · refine (skip16 inb_S16x128x512_S1x128x512_15_0_0 _ _ _ (by dsimp only; omega) key row).trans ?_
    refine (skip16 inb_S16x128x512_S1x128x512_14_0_0 _ _ _ (by dsimp only; omega) key row).trans ?_
    refine (skip16 inb_S16x128x512_S1x128x512_13_0_0 _ _ _ (by dsimp only; omega) key row).trans ?_
    refine (skip16 inb_S16x128x512_S1x128x512_12_0_0 _ _ _ (by dsimp only; omega) key row).trans ?_
    refine (skip16 inb_S16x128x512_S1x128x512_11_0_0 _ _ _ (by dsimp only; omega) key row).trans ?_
    refine (skip16 inb_S16x128x512_S1x128x512_10_0_0 _ _ _ (by dsimp only; omega) key row).trans ?_
    refine (skip16 inb_S16x128x512_S1x128x512_9_0_0 _ _ _ (by dsimp only; omega) key row).trans ?_
    refine (skip16 inb_S16x128x512_S1x128x512_8_0_0 _ _ _ (by dsimp only; omega) key row).trans ?_
    refine (skip16 inb_S16x128x512_S1x128x512_7_0_0 _ _ _ (by dsimp only; omega) key row).trans ?_
    refine (skip16 inb_S16x128x512_S1x128x512_6_0_0 _ _ _ (by dsimp only; omega) key row).trans ?_
    refine (skip16 inb_S16x128x512_S1x128x512_5_0_0 _ _ _ (by dsimp only; omega) key row).trans ?_
    refine (skip16 inb_S16x128x512_S1x128x512_4_0_0 _ _ _ (by dsimp only; omega) key row).trans ?_
    refine (skip16 inb_S16x128x512_S1x128x512_3_0_0 _ _ _ (by dsimp only; omega) key row).trans ?_
    refine (skip16 inb_S16x128x512_S1x128x512_2_0_0 _ _ _ (by dsimp only; omega) key row).trans ?_
    refine (skip16 inb_S16x128x512_S1x128x512_1_0_0 _ _ _ (by dsimp only; omega) key row).trans ?_
    exact (hit16 (by omega) inb_S16x128x512_S1x128x512_0_0_0 _ _ key row).trans h0
  · refine (skip16 inb_S16x128x512_S1x128x512_15_0_0 _ _ _ (by dsimp only; omega) key row).trans ?_
    refine (skip16 inb_S16x128x512_S1x128x512_14_0_0 _ _ _ (by dsimp only; omega) key row).trans ?_
    refine (skip16 inb_S16x128x512_S1x128x512_13_0_0 _ _ _ (by dsimp only; omega) key row).trans ?_
    refine (skip16 inb_S16x128x512_S1x128x512_12_0_0 _ _ _ (by dsimp only; omega) key row).trans ?_
    refine (skip16 inb_S16x128x512_S1x128x512_11_0_0 _ _ _ (by dsimp only; omega) key row).trans ?_
    refine (skip16 inb_S16x128x512_S1x128x512_10_0_0 _ _ _ (by dsimp only; omega) key row).trans ?_
    refine (skip16 inb_S16x128x512_S1x128x512_9_0_0 _ _ _ (by dsimp only; omega) key row).trans ?_
    refine (skip16 inb_S16x128x512_S1x128x512_8_0_0 _ _ _ (by dsimp only; omega) key row).trans ?_
    refine (skip16 inb_S16x128x512_S1x128x512_7_0_0 _ _ _ (by dsimp only; omega) key row).trans ?_
    refine (skip16 inb_S16x128x512_S1x128x512_6_0_0 _ _ _ (by dsimp only; omega) key row).trans ?_
    refine (skip16 inb_S16x128x512_S1x128x512_5_0_0 _ _ _ (by dsimp only; omega) key row).trans ?_
    refine (skip16 inb_S16x128x512_S1x128x512_4_0_0 _ _ _ (by dsimp only; omega) key row).trans ?_
    refine (skip16 inb_S16x128x512_S1x128x512_3_0_0 _ _ _ (by dsimp only; omega) key row).trans ?_
    refine (skip16 inb_S16x128x512_S1x128x512_2_0_0 _ _ _ (by dsimp only; omega) key row).trans ?_
    exact (hit16 (by omega) inb_S16x128x512_S1x128x512_1_0_0 _ _ key row).trans h1
  · refine (skip16 inb_S16x128x512_S1x128x512_15_0_0 _ _ _ (by dsimp only; omega) key row).trans ?_
    refine (skip16 inb_S16x128x512_S1x128x512_14_0_0 _ _ _ (by dsimp only; omega) key row).trans ?_
    refine (skip16 inb_S16x128x512_S1x128x512_13_0_0 _ _ _ (by dsimp only; omega) key row).trans ?_
    refine (skip16 inb_S16x128x512_S1x128x512_12_0_0 _ _ _ (by dsimp only; omega) key row).trans ?_
    refine (skip16 inb_S16x128x512_S1x128x512_11_0_0 _ _ _ (by dsimp only; omega) key row).trans ?_
    refine (skip16 inb_S16x128x512_S1x128x512_10_0_0 _ _ _ (by dsimp only; omega) key row).trans ?_
    refine (skip16 inb_S16x128x512_S1x128x512_9_0_0 _ _ _ (by dsimp only; omega) key row).trans ?_
    refine (skip16 inb_S16x128x512_S1x128x512_8_0_0 _ _ _ (by dsimp only; omega) key row).trans ?_
    refine (skip16 inb_S16x128x512_S1x128x512_7_0_0 _ _ _ (by dsimp only; omega) key row).trans ?_
    refine (skip16 inb_S16x128x512_S1x128x512_6_0_0 _ _ _ (by dsimp only; omega) key row).trans ?_
    refine (skip16 inb_S16x128x512_S1x128x512_5_0_0 _ _ _ (by dsimp only; omega) key row).trans ?_
    refine (skip16 inb_S16x128x512_S1x128x512_4_0_0 _ _ _ (by dsimp only; omega) key row).trans ?_
    refine (skip16 inb_S16x128x512_S1x128x512_3_0_0 _ _ _ (by dsimp only; omega) key row).trans ?_
    exact (hit16 (by omega) inb_S16x128x512_S1x128x512_2_0_0 _ _ key row).trans h2
  · refine (skip16 inb_S16x128x512_S1x128x512_15_0_0 _ _ _ (by dsimp only; omega) key row).trans ?_
    refine (skip16 inb_S16x128x512_S1x128x512_14_0_0 _ _ _ (by dsimp only; omega) key row).trans ?_
    refine (skip16 inb_S16x128x512_S1x128x512_13_0_0 _ _ _ (by dsimp only; omega) key row).trans ?_
    refine (skip16 inb_S16x128x512_S1x128x512_12_0_0 _ _ _ (by dsimp only; omega) key row).trans ?_
    refine (skip16 inb_S16x128x512_S1x128x512_11_0_0 _ _ _ (by dsimp only; omega) key row).trans ?_
    refine (skip16 inb_S16x128x512_S1x128x512_10_0_0 _ _ _ (by dsimp only; omega) key row).trans ?_
    refine (skip16 inb_S16x128x512_S1x128x512_9_0_0 _ _ _ (by dsimp only; omega) key row).trans ?_
    refine (skip16 inb_S16x128x512_S1x128x512_8_0_0 _ _ _ (by dsimp only; omega) key row).trans ?_
    refine (skip16 inb_S16x128x512_S1x128x512_7_0_0 _ _ _ (by dsimp only; omega) key row).trans ?_
    refine (skip16 inb_S16x128x512_S1x128x512_6_0_0 _ _ _ (by dsimp only; omega) key row).trans ?_
    refine (skip16 inb_S16x128x512_S1x128x512_5_0_0 _ _ _ (by dsimp only; omega) key row).trans ?_
    refine (skip16 inb_S16x128x512_S1x128x512_4_0_0 _ _ _ (by dsimp only; omega) key row).trans ?_
    exact (hit16 (by omega) inb_S16x128x512_S1x128x512_3_0_0 _ _ key row).trans h3
  · refine (skip16 inb_S16x128x512_S1x128x512_15_0_0 _ _ _ (by dsimp only; omega) key row).trans ?_
    refine (skip16 inb_S16x128x512_S1x128x512_14_0_0 _ _ _ (by dsimp only; omega) key row).trans ?_
    refine (skip16 inb_S16x128x512_S1x128x512_13_0_0 _ _ _ (by dsimp only; omega) key row).trans ?_
    refine (skip16 inb_S16x128x512_S1x128x512_12_0_0 _ _ _ (by dsimp only; omega) key row).trans ?_
    refine (skip16 inb_S16x128x512_S1x128x512_11_0_0 _ _ _ (by dsimp only; omega) key row).trans ?_
    refine (skip16 inb_S16x128x512_S1x128x512_10_0_0 _ _ _ (by dsimp only; omega) key row).trans ?_
    refine (skip16 inb_S16x128x512_S1x128x512_9_0_0 _ _ _ (by dsimp only; omega) key row).trans ?_
    refine (skip16 inb_S16x128x512_S1x128x512_8_0_0 _ _ _ (by dsimp only; omega) key row).trans ?_
    refine (skip16 inb_S16x128x512_S1x128x512_7_0_0 _ _ _ (by dsimp only; omega) key row).trans ?_
    refine (skip16 inb_S16x128x512_S1x128x512_6_0_0 _ _ _ (by dsimp only; omega) key row).trans ?_
    refine (skip16 inb_S16x128x512_S1x128x512_5_0_0 _ _ _ (by dsimp only; omega) key row).trans ?_
    exact (hit16 (by omega) inb_S16x128x512_S1x128x512_4_0_0 _ _ key row).trans h4
  · refine (skip16 inb_S16x128x512_S1x128x512_15_0_0 _ _ _ (by dsimp only; omega) key row).trans ?_
    refine (skip16 inb_S16x128x512_S1x128x512_14_0_0 _ _ _ (by dsimp only; omega) key row).trans ?_
    refine (skip16 inb_S16x128x512_S1x128x512_13_0_0 _ _ _ (by dsimp only; omega) key row).trans ?_
    refine (skip16 inb_S16x128x512_S1x128x512_12_0_0 _ _ _ (by dsimp only; omega) key row).trans ?_
    refine (skip16 inb_S16x128x512_S1x128x512_11_0_0 _ _ _ (by dsimp only; omega) key row).trans ?_
    refine (skip16 inb_S16x128x512_S1x128x512_10_0_0 _ _ _ (by dsimp only; omega) key row).trans ?_
    refine (skip16 inb_S16x128x512_S1x128x512_9_0_0 _ _ _ (by dsimp only; omega) key row).trans ?_
    refine (skip16 inb_S16x128x512_S1x128x512_8_0_0 _ _ _ (by dsimp only; omega) key row).trans ?_
    refine (skip16 inb_S16x128x512_S1x128x512_7_0_0 _ _ _ (by dsimp only; omega) key row).trans ?_
    refine (skip16 inb_S16x128x512_S1x128x512_6_0_0 _ _ _ (by dsimp only; omega) key row).trans ?_
    exact (hit16 (by omega) inb_S16x128x512_S1x128x512_5_0_0 _ _ key row).trans h5
  · refine (skip16 inb_S16x128x512_S1x128x512_15_0_0 _ _ _ (by dsimp only; omega) key row).trans ?_
    refine (skip16 inb_S16x128x512_S1x128x512_14_0_0 _ _ _ (by dsimp only; omega) key row).trans ?_
    refine (skip16 inb_S16x128x512_S1x128x512_13_0_0 _ _ _ (by dsimp only; omega) key row).trans ?_
    refine (skip16 inb_S16x128x512_S1x128x512_12_0_0 _ _ _ (by dsimp only; omega) key row).trans ?_
    refine (skip16 inb_S16x128x512_S1x128x512_11_0_0 _ _ _ (by dsimp only; omega) key row).trans ?_
    refine (skip16 inb_S16x128x512_S1x128x512_10_0_0 _ _ _ (by dsimp only; omega) key row).trans ?_
    refine (skip16 inb_S16x128x512_S1x128x512_9_0_0 _ _ _ (by dsimp only; omega) key row).trans ?_
    refine (skip16 inb_S16x128x512_S1x128x512_8_0_0 _ _ _ (by dsimp only; omega) key row).trans ?_
    refine (skip16 inb_S16x128x512_S1x128x512_7_0_0 _ _ _ (by dsimp only; omega) key row).trans ?_
    exact (hit16 (by omega) inb_S16x128x512_S1x128x512_6_0_0 _ _ key row).trans h6
  · refine (skip16 inb_S16x128x512_S1x128x512_15_0_0 _ _ _ (by dsimp only; omega) key row).trans ?_
    refine (skip16 inb_S16x128x512_S1x128x512_14_0_0 _ _ _ (by dsimp only; omega) key row).trans ?_
    refine (skip16 inb_S16x128x512_S1x128x512_13_0_0 _ _ _ (by dsimp only; omega) key row).trans ?_
    refine (skip16 inb_S16x128x512_S1x128x512_12_0_0 _ _ _ (by dsimp only; omega) key row).trans ?_
    refine (skip16 inb_S16x128x512_S1x128x512_11_0_0 _ _ _ (by dsimp only; omega) key row).trans ?_
    refine (skip16 inb_S16x128x512_S1x128x512_10_0_0 _ _ _ (by dsimp only; omega) key row).trans ?_
    refine (skip16 inb_S16x128x512_S1x128x512_9_0_0 _ _ _ (by dsimp only; omega) key row).trans ?_
    refine (skip16 inb_S16x128x512_S1x128x512_8_0_0 _ _ _ (by dsimp only; omega) key row).trans ?_
    exact (hit16 (by omega) inb_S16x128x512_S1x128x512_7_0_0 _ _ key row).trans h7
  · refine (skip16 inb_S16x128x512_S1x128x512_15_0_0 _ _ _ (by dsimp only; omega) key row).trans ?_
    refine (skip16 inb_S16x128x512_S1x128x512_14_0_0 _ _ _ (by dsimp only; omega) key row).trans ?_
    refine (skip16 inb_S16x128x512_S1x128x512_13_0_0 _ _ _ (by dsimp only; omega) key row).trans ?_
    refine (skip16 inb_S16x128x512_S1x128x512_12_0_0 _ _ _ (by dsimp only; omega) key row).trans ?_
    refine (skip16 inb_S16x128x512_S1x128x512_11_0_0 _ _ _ (by dsimp only; omega) key row).trans ?_
    refine (skip16 inb_S16x128x512_S1x128x512_10_0_0 _ _ _ (by dsimp only; omega) key row).trans ?_
    refine (skip16 inb_S16x128x512_S1x128x512_9_0_0 _ _ _ (by dsimp only; omega) key row).trans ?_
    exact (hit16 (by omega) inb_S16x128x512_S1x128x512_8_0_0 _ _ key row).trans h8
  · refine (skip16 inb_S16x128x512_S1x128x512_15_0_0 _ _ _ (by dsimp only; omega) key row).trans ?_
    refine (skip16 inb_S16x128x512_S1x128x512_14_0_0 _ _ _ (by dsimp only; omega) key row).trans ?_
    refine (skip16 inb_S16x128x512_S1x128x512_13_0_0 _ _ _ (by dsimp only; omega) key row).trans ?_
    refine (skip16 inb_S16x128x512_S1x128x512_12_0_0 _ _ _ (by dsimp only; omega) key row).trans ?_
    refine (skip16 inb_S16x128x512_S1x128x512_11_0_0 _ _ _ (by dsimp only; omega) key row).trans ?_
    refine (skip16 inb_S16x128x512_S1x128x512_10_0_0 _ _ _ (by dsimp only; omega) key row).trans ?_
    exact (hit16 (by omega) inb_S16x128x512_S1x128x512_9_0_0 _ _ key row).trans h9
  · refine (skip16 inb_S16x128x512_S1x128x512_15_0_0 _ _ _ (by dsimp only; omega) key row).trans ?_
    refine (skip16 inb_S16x128x512_S1x128x512_14_0_0 _ _ _ (by dsimp only; omega) key row).trans ?_
    refine (skip16 inb_S16x128x512_S1x128x512_13_0_0 _ _ _ (by dsimp only; omega) key row).trans ?_
    refine (skip16 inb_S16x128x512_S1x128x512_12_0_0 _ _ _ (by dsimp only; omega) key row).trans ?_
    refine (skip16 inb_S16x128x512_S1x128x512_11_0_0 _ _ _ (by dsimp only; omega) key row).trans ?_
    exact (hit16 (by omega) inb_S16x128x512_S1x128x512_10_0_0 _ _ key row).trans h10
  · refine (skip16 inb_S16x128x512_S1x128x512_15_0_0 _ _ _ (by dsimp only; omega) key row).trans ?_
    refine (skip16 inb_S16x128x512_S1x128x512_14_0_0 _ _ _ (by dsimp only; omega) key row).trans ?_
    refine (skip16 inb_S16x128x512_S1x128x512_13_0_0 _ _ _ (by dsimp only; omega) key row).trans ?_
    refine (skip16 inb_S16x128x512_S1x128x512_12_0_0 _ _ _ (by dsimp only; omega) key row).trans ?_
    exact (hit16 (by omega) inb_S16x128x512_S1x128x512_11_0_0 _ _ key row).trans h11
  · refine (skip16 inb_S16x128x512_S1x128x512_15_0_0 _ _ _ (by dsimp only; omega) key row).trans ?_
    refine (skip16 inb_S16x128x512_S1x128x512_14_0_0 _ _ _ (by dsimp only; omega) key row).trans ?_
    refine (skip16 inb_S16x128x512_S1x128x512_13_0_0 _ _ _ (by dsimp only; omega) key row).trans ?_
    exact (hit16 (by omega) inb_S16x128x512_S1x128x512_12_0_0 _ _ key row).trans h12
  · refine (skip16 inb_S16x128x512_S1x128x512_15_0_0 _ _ _ (by dsimp only; omega) key row).trans ?_
    refine (skip16 inb_S16x128x512_S1x128x512_14_0_0 _ _ _ (by dsimp only; omega) key row).trans ?_
    exact (hit16 (by omega) inb_S16x128x512_S1x128x512_13_0_0 _ _ key row).trans h13
  · refine (skip16 inb_S16x128x512_S1x128x512_15_0_0 _ _ _ (by dsimp only; omega) key row).trans ?_
    exact (hit16 (by omega) inb_S16x128x512_S1x128x512_14_0_0 _ _ key row).trans h14
  · exact (hit16 (by omega) inb_S16x128x512_S1x128x512_15_0_0 _ _ key row).trans h15

end Cert.RouteIdeal.Block
-- ==== Proof.RouteLoop.lean ====
module

public import proofs.«01_k».proof.Proof.RouteBase

/-! # The loop over heads of the routing call -/

@[expose] public section

set_option maxRecDepth 16384
set_option maxHeartbeats 1600000
noncomputable section
namespace Cert.RouteIdeal.Block

open Cert.RouteIdeal Cert.RouteIdeal.Gen Idealize.ShloMosaic Idealize.ShloMosaic.TcCoe

section Trips

variable (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S8x128x512 .f32) (harg4 : arg4.IsWhole) (arg5 : Memref sig .tc .vmem S8x128x512 .bf16) (harg5 : arg5.IsWhole) (arg6 : Memref sig .tc .vmem S8x128x512 .f32) (harg6 : arg6.IsWhole) (arg7 : Memref sig .tc .vmem S8x128x512 .bf16) (harg7 : arg7.IsWhole) (arg8 : Memref sig .tc .vmem S16x128x512 .f32) (harg8 : arg8.IsWhole) (X : BufTy.Contents (Elt Ideal) arg8.view.ty)

/-- The rows of second-half scores a trip reads. -/
def scoresOf (k : Fin k0_t1_loop.trips) : FVec Ideal S128x512 .f32 :=
  k0_pay8 (View.readAt (Elt Ideal) arg8.view (Rect.unit (s := S16x128x512) (k0_off2 k) S1x128x512.size (k0_off2_inb k)).toLoadRect X)

/-- The trip's stored rows. -/
theorem pay6_top (v : FVec Ideal S128x512 .f32) (w1 w2 w3 w4 w5 w6 w7 w8 w9 w10 w11 w12 w13 : FVec Ideal S1x512 .f32) (w14 : FVec Ideal S128x512 .f32) (w15 : FVec Ideal S1x512 .f32) (key : Fin 128) (row : Fin 512) :
    k0_pay6 (F := Ideal) v (k0_pay88 (k0_pay37 v) w1 w2 w3 w4 w5 w6 w7 w8 w9 w10 w11 w12 w13 w14 w15) (ix3 0 key row) = weight v key row := by
  pointwise [k0_pay6, k0_pay88, k0_pay37]
  rfl

/-- Where a trip writes its rows. -/
theorem off3 : ∀ k : Fin k0_t1_loop.trips, k0_off3 k = ![k.val, 0, 0] := by decide +kernel
/-- Where a trip reads its scores. -/
theorem off2 : ∀ k : Fin k0_t1_loop.trips, k0_off2 k = ![2 * k.val + 1, 0, 0] := by decide +kernel
/-- The loop runs once for each of the eight heads. -/
theorem trips8 : k0_t1_loop.trips = 8 := by decide +kernel

/-- What a trip writes to the last output: the weights of its head. -/
theorem trip (k : Fin k0_t1_loop.trips) : ∃ (w1 w2 w3 w4 w5 w6 w7 w8 w9 w10 w11 w12 w13 : FVec Ideal S1x512 .f32) (w14 : FVec Ideal S128x512 .f32) (w15 : FVec Ideal S1x512 .f32),
  (trip_k0_t1 (F := Ideal) Variants.none c none i arg1 harg1 arg2 harg2 arg3 harg3 arg4 harg4 arg5 harg5 arg6 harg6 arg7 harg7 arg8 harg8 X k).2.2.2.1
   = [⟨Rect.unit (s := S8x128x512) (k0_off3 k) S1x128x512.size (k0_off3_inb k), k0_pay6 (scoresOf arg8 X k)
      (k0_pay88 (k0_pay37 (scoresOf arg8 X k)) w1 w2 w3 w4 w5 w6 w7 w8 w9 w10 w11 w12 w13 w14 w15)⟩] := by
  refine ⟨trip_k0_t1.sl.r_20 arg8 X k, trip_k0_t1.sl.r_21 arg8 X k, trip_k0_t1.sl.r_24 arg8 X k, trip_k0_t1.sl.r_26 arg8 X k, trip_k0_t1.sl.r_27 arg8 X k, trip_k0_t1.sl.r_28 arg8 X k, trip_k0_t1.sl.r_29 arg8 X k, trip_k0_t1.sl.r_31 arg8 X k, trip_k0_t1.sl.r_34 arg8 X k, trip_k0_t1.sl.r_35 arg8 X k, trip_k0_t1.sl.r_36 arg8 X k, trip_k0_t1.sl.r_37 arg8 X k, trip_k0_t1.sl.r_38 arg8 X k, trip_k0_t1.sl.r_40 arg8 X k, trip_k0_t1.sl.r_41 arg8 X k, ?_⟩
  unfold trip_k0_t1
  dsimp only
  rfl

/-- After the loop, the last output holds the weights of every head. -/
theorem pieces (n : ℕ) (hn : n ≤ 8) (k : Fin 8) (hk : k.val < n) (key : Fin 128) (row : Fin 512) :
    View.canon (Val := Elt Ideal) (pb_k0_t1 (F := Ideal) Variants.none c none i arg1 harg1 arg2 harg2 arg3 harg3 arg4 harg4 arg5 harg5 arg6 harg6 arg7 harg7 arg8 harg8 X n).2.2.2 (ix3 k key row)
      = weight (scoresOf arg8 X (Fin.cast trips8.symm k)) key row := by
  induction n with
  | zero => omega
  | succ n ih =>
    have hn' : n < k0_t1_loop.trips := by rw [trips8]; omega
    rw [pb_k0_t1_succ Variants.none c none i arg1 harg1 arg2 harg2 arg3 harg3 arg4 harg4 arg5 harg5 arg6 harg6 arg7 harg7 arg8 harg8 X ⟨n, hn'⟩]
    obtain ⟨w1, w2, w3, w4, w5, w6, w7, w8, w9, w10, w11, w12, w13, w14, w15, h⟩ := trip c i arg1 harg1 arg2 harg2 arg3 harg3 arg4 harg4 arg5 harg5 arg6 harg6 arg7 harg7 arg8 harg8 X ⟨n, hn'⟩
    dsimp only [tripL_k0_t1]
    rw [h, List.singleton_append]
    have hoff := off3 ⟨n, hn'⟩
    by_cases e : k.val = n
    · refine (canon_hit (ix3 0 key row) ?_).trans ?_
      · refine idx3_ext (n0 := 8) (n1 := 128) (n2 := 512) ?_ ?_ ?_
        · show k0_off3 ⟨n, hn'⟩ 0 + 1 * 0 = k.val
          rw [hoff]; show n + 1 * 0 = k.val; omega
        · show k0_off3 ⟨n, hn'⟩ 1 + 1 * key.val = key.val
          rw [hoff]; show 0 + 1 * key.val = key.val; omega
        · show k0_off3 ⟨n, hn'⟩ 2 + 1 * row.val = row.val
          rw [hoff]; show 0 + 1 * row.val = row.val; omega
      · rw [pay6_top]
        have e' : (⟨n, hn'⟩ : Fin k0_t1_loop.trips) = Fin.cast trips8.symm k := Fin.ext e.symm
        rw [e']
    · refine canon_miss ?_ (ih (by omega) (by omega))
      intro hm
      have h1 : k0_off3 ⟨n, hn'⟩ 0 ≤ k.val ∧ k.val < k0_off3 ⟨n, hn'⟩ 0 + 1 := (Rect.mem_set_unit.mp hm) (0 : Fin 3)
      rw [hoff] at h1
      have h2 : n ≤ k.val ∧ k.val < n + 1 := h1
      omega

end Trips

end Cert.RouteIdeal.Block
-- ==== Proof.RouteScoreA.lean ====
module

public import proofs.«01_k».proof.Proof.RouteBase

/-! # Blocks 0 to 7 of the scores of the routing call -/

@[expose] public section

set_option maxRecDepth 16384
set_option maxHeartbeats 1600000
noncomputable section
namespace Cert.RouteIdeal.Block

open Cert.RouteIdeal Cert.RouteIdeal.Gen Idealize.ShloMosaic Idealize.ShloMosaic.TcCoe

/-- Block 0 of the scores. -/
theorem block0 (H : Vec Ideal S512x2048 .bf16) (W : Vec Ideal S2048x2048 .bf16) (K : Vec Ideal S16x128x128 .bf16) (key : Fin 128) (row : Fin 512) :
    k0_pay135 H W (View.ld K (Rect.unit ![0, 0, 0] ![1, 128, 128] inb_S16x128x128_S1x128x128_0_0_0)) (ix3 0 key row) = blkScore H W K ⟨0, by omega⟩ key row := by
  pointwise [k0_pay134, k0_pay135, dot_S128x128_S512x128_S128x512_1_1_0_0_n_n, dot_S512x2048_S2048x2048_S512x2048_1_0_0_1_n_n]
  unfold blkScore
  refine Finset.sum_congr rfl fun x _ => congrArg (K (ix3 0 key x) * ·) (Finset.sum_congr rfl fun q _ => ?_)
  refine congrArg (fun j => H (ix2 row q) * W (ix2 q j)) (Fin.ext ?_)
  show x.val = 0 * 128 + x.val
  omega

/-- Block 1 of the scores. -/
theorem block1 (H : Vec Ideal S512x2048 .bf16) (W : Vec Ideal S2048x2048 .bf16) (K : Vec Ideal S16x128x128 .bf16) (key : Fin 128) (row : Fin 512) :
    k0_pay136 H W (View.ld K (Rect.unit ![1, 0, 0] ![1, 128, 128] inb_S16x128x128_S1x128x128_1_0_0)) (ix3 0 key row) = blkScore H W K ⟨1, by omega⟩ key row := by
  pointwise [k0_pay134, k0_pay136, dot_S128x128_S512x128_S128x512_1_1_0_0_n_n, dot_S512x2048_S2048x2048_S512x2048_1_0_0_1_n_n]
  unfold blkScore
  rfl

/-- Block 2 of the scores. -/
theorem block2 (H : Vec Ideal S512x2048 .bf16) (W : Vec Ideal S2048x2048 .bf16) (K : Vec Ideal S16x128x128 .bf16) (key : Fin 128) (row : Fin 512) :
    k0_pay137 H W (View.ld K (Rect.unit ![2, 0, 0] ![1, 128, 128] inb_S16x128x128_S1x128x128_2_0_0)) (ix3 0 key row) = blkScore H W K ⟨2, by omega⟩ key row := by
  pointwise [k0_pay134, k0_pay137, dot_S128x128_S512x128_S128x512_1_1_0_0_n_n, dot_S512x2048_S2048x2048_S512x2048_1_0_0_1_n_n]
  unfold blkScore
  rfl

/-- Block 3 of the scores. -/
theorem block3 (H : Vec Ideal S512x2048 .bf16) (W : Vec Ideal S2048x2048 .bf16) (K : Vec Ideal S16x128x128 .bf16) (key : Fin 128) (row : Fin 512) :
    k0_pay138 (k0_pay134 H W) (View.ld K (Rect.unit ![3, 0, 0] ![1, 128, 128] inb_S16x128x128_S1x128x128_3_0_0)) (ix3 0 key row) = blkScore H W K ⟨3, by omega⟩ key row := by
  pointwise [k0_pay134, k0_pay138, dot_S128x128_S512x128_S128x512_1_1_0_0_n_n, dot_S512x2048_S2048x2048_S512x2048_1_0_0_1_n_n]
  unfold blkScore
  rfl

/-- Block 4 of the scores. -/
theorem block4 (H : Vec Ideal S512x2048 .bf16) (W : Vec Ideal S2048x2048 .bf16) (K : Vec Ideal S16x128x128 .bf16) (key : Fin 128) (row : Fin 512) :
    k0_pay139 (k0_pay134 H W) (View.ld K (Rect.unit ![4, 0, 0] ![1, 128, 128] inb_S16x128x128_S1x128x128_4_0_0)) (ix3 0 key row) = blkScore H W K ⟨4, by omega⟩ key row := by
  pointwise [k0_pay134, k0_pay139, dot_S128x128_S512x128_S128x512_1_1_0_0_n_n, dot_S512x2048_S2048x2048_S512x2048_1_0_0_1_n_n]
  unfold blkScore
  rfl

/-- Block 5 of the scores. -/
theorem block5 (H : Vec Ideal S512x2048 .bf16) (W : Vec Ideal S2048x2048 .bf16) (K : Vec Ideal S16x128x128 .bf16) (key : Fin 128) (row : Fin 512) :
    k0_pay140 (k0_pay134 H W) (View.ld K (Rect.unit ![5, 0, 0] ![1, 128, 128] inb_S16x128x128_S1x128x128_5_0_0)) (ix3 0 key row) = blkScore H W K ⟨5, by omega⟩ key row := by
  pointwise [k0_pay134, k0_pay140, dot_S128x128_S512x128_S128x512_1_1_0_0_n_n, dot_S512x2048_S2048x2048_S512x2048_1_0_0_1_n_n]
  unfold blkScore
  rfl

/-- Block 6 of the scores. -/
theorem block6 (H : Vec Ideal S512x2048 .bf16) (W : Vec Ideal S2048x2048 .bf16) (K : Vec Ideal S16x128x128 .bf16) (key : Fin 128) (row : Fin 512) :
    k0_pay142 (k0_pay141 (k0_pay134 H W) (View.ld K (Rect.unit ![6, 0, 0] ![1, 128, 128] inb_S16x128x128_S1x128x128_6_0_0))) (ix3 0 key row) = blkScore H W K ⟨6, by omega⟩ key row := by
  pointwise [k0_pay134, k0_pay141, k0_pay142, dot_S128x128_S512x128_S128x512_1_1_0_0_n_n, dot_S512x2048_S2048x2048_S512x2048_1_0_0_1_n_n]
  unfold blkScore
  rfl

/-- Block 7 of the scores. -/
theorem block7 (H : Vec Ideal S512x2048 .bf16) (W : Vec Ideal S2048x2048 .bf16) (K : Vec Ideal S16x128x128 .bf16) (key : Fin 128) (row : Fin 512) :
    k0_pay143 (k0_pay134 H W) (View.ld K (Rect.unit ![7, 0, 0] ![1, 128, 128] inb_S16x128x128_S1x128x128_7_0_0)) (ix3 0 key row) = blkScore H W K ⟨7, by omega⟩ key row := by
  pointwise [k0_pay134, k0_pay143, dot_S128x128_S512x128_S128x512_1_1_0_0_n_n, dot_S512x2048_S2048x2048_S512x2048_1_0_0_1_n_n]
  unfold blkScore
  rfl

end Cert.RouteIdeal.Block
-- ==== Proof.RouteScoreB.lean ====
module

public import proofs.«01_k».proof.Proof.RouteBase

/-! # Blocks 8 to 15 of the scores of the routing call -/

@[expose] public section

set_option maxRecDepth 16384
set_option maxHeartbeats 1600000
noncomputable section
namespace Cert.RouteIdeal.Block

open Cert.RouteIdeal Cert.RouteIdeal.Gen Idealize.ShloMosaic Idealize.ShloMosaic.TcCoe

/-- Block 8 of the scores. -/
theorem block8 (H : Vec Ideal S512x2048 .bf16) (W : Vec Ideal S2048x2048 .bf16) (K : Vec Ideal S16x128x128 .bf16) (key : Fin 128) (row : Fin 512) :
    k0_pay144 (k0_pay134 H W) (View.ld K (Rect.unit ![8, 0, 0] ![1, 128, 128] inb_S16x128x128_S1x128x128_8_0_0)) (ix3 0 key row) = blkScore H W K ⟨8, by omega⟩ key row := by
  pointwise [k0_pay134, k0_pay144, dot_S128x128_S512x128_S128x512_1_1_0_0_n_n, dot_S512x2048_S2048x2048_S512x2048_1_0_0_1_n_n]
  unfold blkScore
  rfl

/-- Block 9 of the scores. -/
theorem block9 (H : Vec Ideal S512x2048 .bf16) (W : Vec Ideal S2048x2048 .bf16) (K : Vec Ideal S16x128x128 .bf16) (key : Fin 128) (row : Fin 512) :
    k0_pay145 (k0_pay134 H W) (View.ld K (Rect.unit ![9, 0, 0] ![1, 128, 128] inb_S16x128x128_S1x128x128_9_0_0)) (ix3 0 key row) = blkScore H W K ⟨9, by omega⟩ key row := by
  pointwise [k0_pay134, k0_pay145, dot_S128x128_S512x128_S128x512_1_1_0_0_n_n, dot_S512x2048_S2048x2048_S512x2048_1_0_0_1_n_n]
  unfold blkScore
  rfl

/-- Block 10 of the scores. -/
theorem block10 (H : Vec Ideal S512x2048 .bf16) (W : Vec Ideal S2048x2048 .bf16) (K : Vec Ideal S16x128x128 .bf16) (key : Fin 128) (row : Fin 512) :
    k0_pay147 (k0_pay146 (k0_pay134 H W) (View.ld K (Rect.unit ![10, 0, 0] ![1, 128, 128] inb_S16x128x128_S1x128x128_10_0_0))) (ix3 0 key row) = blkScore H W K ⟨10, by omega⟩ key row := by
  pointwise [k0_pay134, k0_pay146, k0_pay147, dot_S128x128_S512x128_S128x512_1_1_0_0_n_n, dot_S512x2048_S2048x2048_S512x2048_1_0_0_1_n_n]
  unfold blkScore
  rfl

/-- Block 11 of the scores. -/
theorem block11 (H : Vec Ideal S512x2048 .bf16) (W : Vec Ideal S2048x2048 .bf16) (K : Vec Ideal S16x128x128 .bf16) (key : Fin 128) (row : Fin 512) :
    k0_pay148 (k0_pay134 H W) (View.ld K (Rect.unit ![11, 0, 0] ![1, 128, 128] inb_S16x128x128_S1x128x128_11_0_0)) (ix3 0 key row) = blkScore H W K ⟨11, by omega⟩ key row := by
  pointwise [k0_pay134, k0_pay148, dot_S128x128_S512x128_S128x512_1_1_0_0_n_n, dot_S512x2048_S2048x2048_S512x2048_1_0_0_1_n_n]
  unfold blkScore
  rfl

/-- Block 12 of the scores. -/
theorem block12 (H : Vec Ideal S512x2048 .bf16) (W : Vec Ideal S2048x2048 .bf16) (K : Vec Ideal S16x128x128 .bf16) (key : Fin 128) (row : Fin 512) :
    k0_pay149 (k0_pay134 H W) (View.ld K (Rect.unit ![12, 0, 0] ![1, 128, 128] inb_S16x128x128_S1x128x128_12_0_0)) (ix3 0 key row) = blkScore H W K ⟨12, by omega⟩ key row := by
  pointwise [k0_pay134, k0_pay149, dot_S128x128_S512x128_S128x512_1_1_0_0_n_n, dot_S512x2048_S2048x2048_S512x2048_1_0_0_1_n_n]
  unfold blkScore
  rfl

/-- Block 13 of the scores. -/
theorem block13 (H : Vec Ideal S512x2048 .bf16) (W : Vec Ideal S2048x2048 .bf16) (K : Vec Ideal S16x128x128 .bf16) (key : Fin 128) (row : Fin 512) :
    k0_pay150 (k0_pay134 H W) (View.ld K (Rect.unit ![13, 0, 0] ![1, 128, 128] inb_S16x128x128_S1x128x128_13_0_0)) (ix3 0 key row) = blkScore H W K ⟨13, by omega⟩ key row := by
  pointwise [k0_pay134, k0_pay150, dot_S128x128_S512x128_S128x512_1_1_0_0_n_n, dot_S512x2048_S2048x2048_S512x2048_1_0_0_1_n_n]
  unfold blkScore
  rfl

/-- Block 14 of the scores. -/
theorem block14 (H : Vec Ideal S512x2048 .bf16) (W : Vec Ideal S2048x2048 .bf16) (K : Vec Ideal S16x128x128 .bf16) (key : Fin 128) (row : Fin 512) :
    k0_pay1 (k0_pay151 (View.ld K (Rect.unit ![14, 0, 0] ![1, 128, 128] inb_S16x128x128_S1x128x128_14_0_0))) (k0_pay152 (k0_pay134 H W)) (ix3 0 key row) = blkScore H W K ⟨14, by omega⟩ key row := by
  pointwise [k0_pay1, k0_pay134, k0_pay151, k0_pay152, dot_S128x128_S512x128_S128x512_1_1_0_0_n_n, dot_S512x2048_S2048x2048_S512x2048_1_0_0_1_n_n]
  unfold blkScore
  rfl

/-- Block 15 of the scores. -/
theorem block15 (H : Vec Ideal S512x2048 .bf16) (W : Vec Ideal S2048x2048 .bf16) (K : Vec Ideal S16x128x128 .bf16) (key : Fin 128) (row : Fin 512) :
    k0_pay2 (k0_pay134 H W) (View.ld K (Rect.unit ![15, 0, 0] ![1, 128, 128] inb_S16x128x128_S1x128x128_15_0_0)) (ix3 0 key row) = blkScore H W K ⟨15, by omega⟩ key row := by
  pointwise [k0_pay134, k0_pay2, dot_S128x128_S512x128_S128x512_1_1_0_0_n_n, dot_S512x2048_S2048x2048_S512x2048_1_0_0_1_n_n]
  unfold blkScore
  rfl

end Cert.RouteIdeal.Block
-- ==== Proof.RouteBlock.lean ====
module

public import proofs.«01_k».proof.Proof.RouteLoop
public import proofs.«01_k».proof.Proof.RouteScoreA
public import proofs.«01_k».proof.Proof.RouteScoreB

/-! # One grid point of the routing call -/

@[expose] public section

set_option maxRecDepth 16384
set_option maxHeartbeats 1600000
noncomputable section
namespace Cert.RouteIdeal.Block

open Cert.RouteIdeal Cert.RouteIdeal.Gen Idealize.ShloMosaic Idealize.ShloMosaic.TcCoe

variable (m : (ℓ : Loc nD τ sig) → Buf (Elt Ideal) ℓ)

/-- The stored scores. -/
def stored (H : Vec Ideal S512x2048 .bf16) (W : Vec Ideal S2048x2048 .bf16) (K : Vec Ideal S16x128x128 .bf16) :
    List (View.Piece (Elt Ideal) S16x128x512 .f32) :=
  [
    ⟨Rect.unit ![15, 0, 0] ![1, 128, 512] inb_S16x128x512_S1x128x512_15_0_0, k0_pay2 (k0_pay134 H W) (View.ld K (Rect.unit ![15, 0, 0] ![1, 128, 128] inb_S16x128x128_S1x128x128_15_0_0))⟩,
    ⟨Rect.unit ![14, 0, 0] ![1, 128, 512] inb_S16x128x512_S1x128x512_14_0_0, k0_pay1 (k0_pay151 (View.ld K (Rect.unit ![14, 0, 0] ![1, 128, 128] inb_S16x128x128_S1x128x128_14_0_0))) (k0_pay152 (k0_pay134 H W))⟩,
    ⟨Rect.unit ![13, 0, 0] ![1, 128, 512] inb_S16x128x512_S1x128x512_13_0_0, k0_pay150 (k0_pay134 H W) (View.ld K (Rect.unit ![13, 0, 0] ![1, 128, 128] inb_S16x128x128_S1x128x128_13_0_0))⟩,
    ⟨Rect.unit ![12, 0, 0] ![1, 128, 512] inb_S16x128x512_S1x128x512_12_0_0, k0_pay149 (k0_pay134 H W) (View.ld K (Rect.unit ![12, 0, 0] ![1, 128, 128] inb_S16x128x128_S1x128x128_12_0_0))⟩,
    ⟨Rect.unit ![11, 0, 0] ![1, 128, 512] inb_S16x128x512_S1x128x512_11_0_0, k0_pay148 (k0_pay134 H W) (View.ld K (Rect.unit ![11, 0, 0] ![1, 128, 128] inb_S16x128x128_S1x128x128_11_0_0))⟩,
    ⟨Rect.unit ![10, 0, 0] ![1, 128, 512] inb_S16x128x512_S1x128x512_10_0_0, k0_pay147 (k0_pay146 (k0_pay134 H W) (View.ld K (Rect.unit ![10, 0, 0] ![1, 128, 128] inb_S16x128x128_S1x128x128_10_0_0)))⟩,
    ⟨Rect.unit ![9, 0, 0] ![1, 128, 512] inb_S16x128x512_S1x128x512_9_0_0, k0_pay145 (k0_pay134 H W) (View.ld K (Rect.unit ![9, 0, 0] ![1, 128, 128] inb_S16x128x128_S1x128x128_9_0_0))⟩,
    ⟨Rect.unit ![8, 0, 0] ![1, 128, 512] inb_S16x128x512_S1x128x512_8_0_0, k0_pay144 (k0_pay134 H W) (View.ld K (Rect.unit ![8, 0, 0] ![1, 128, 128] inb_S16x128x128_S1x128x128_8_0_0))⟩,
    ⟨Rect.unit ![7, 0, 0] ![1, 128, 512] inb_S16x128x512_S1x128x512_7_0_0, k0_pay143 (k0_pay134 H W) (View.ld K (Rect.unit ![7, 0, 0] ![1, 128, 128] inb_S16x128x128_S1x128x128_7_0_0))⟩,
    ⟨Rect.unit ![6, 0, 0] ![1, 128, 512] inb_S16x128x512_S1x128x512_6_0_0, k0_pay142 (k0_pay141 (k0_pay134 H W) (View.ld K (Rect.unit ![6, 0, 0] ![1, 128, 128] inb_S16x128x128_S1x128x128_6_0_0)))⟩,
    ⟨Rect.unit ![5, 0, 0] ![1, 128, 512] inb_S16x128x512_S1x128x512_5_0_0, k0_pay140 (k0_pay134 H W) (View.ld K (Rect.unit ![5, 0, 0] ![1, 128, 128] inb_S16x128x128_S1x128x128_5_0_0))⟩,
    ⟨Rect.unit ![4, 0, 0] ![1, 128, 512] inb_S16x128x512_S1x128x512_4_0_0, k0_pay139 (k0_pay134 H W) (View.ld K (Rect.unit ![4, 0, 0] ![1, 128, 128] inb_S16x128x128_S1x128x128_4_0_0))⟩,
    ⟨Rect.unit ![3, 0, 0] ![1, 128, 512] inb_S16x128x512_S1x128x512_3_0_0, k0_pay138 (k0_pay134 H W) (View.ld K (Rect.unit ![3, 0, 0] ![1, 128, 128] inb_S16x128x128_S1x128x128_3_0_0))⟩,
    ⟨Rect.unit ![2, 0, 0] ![1, 128, 512] inb_S16x128x512_S1x128x512_2_0_0, k0_pay137 H W (View.ld K (Rect.unit ![2, 0, 0] ![1, 128, 128] inb_S16x128x128_S1x128x128_2_0_0))⟩,
    ⟨Rect.unit ![1, 0, 0] ![1, 128, 512] inb_S16x128x512_S1x128x512_1_0_0, k0_pay136 H W (View.ld K (Rect.unit ![1, 0, 0] ![1, 128, 128] inb_S16x128x128_S1x128x128_1_0_0))⟩,
    ⟨Rect.unit ![0, 0, 0] ![1, 128, 512] inb_S16x128x512_S1x128x512_0_0_0, k0_pay135 H W (View.ld K (Rect.unit ![0, 0, 0] ![1, 128, 128] inb_S16x128x128_S1x128x128_0_0_0))⟩]

/-- The stored scores, at every position. -/
theorem stored_apply (H : Vec Ideal S512x2048 .bf16) (W : Vec Ideal S2048x2048 .bf16) (K : Vec Ideal S16x128x128 .bf16) (j : Fin 16)
    (key : Fin 128) (row : Fin 512) :
    View.canon (Val := Elt Ideal) (stored H W K) (ix3 j key row) = blkScore H W K j key row := by
  unfold stored
  exact canon16 _ _ _ _ _ _ _ _ _ _ _ _ _ _ _ _ (fun j => blkScore H W K j key row) key row
    (block0 H W K key row) (block1 H W K key row) (block2 H W K key row) (block3 H W K key row) (block4 H W K key row) (block5 H W K key row) (block6 H W K key row) (block7 H W K key row) (block8 H W K key row) (block9 H W K key row) (block10 H W K key row) (block11 H W K key row) (block12 H W K key row) (block13 H W K key row) (block14 H W K key row) (block15 H W K key row) j

/-- The scores a trip reads: the second half of its head. -/
theorem scores_apply (H : Vec Ideal S512x2048 .bf16) (W : Vec Ideal S2048x2048 .bf16) (K : Vec Ideal S16x128x128 .bf16) (k : Fin 8)
    (key : Fin 128) (row : Fin 512) :
    scoresOf scM0_0 ((View.whole cc0_scratch0).writes (Elt Ideal) (View.whole cc0_scratch0).junk (stored H W K)) (Fin.cast trips8.symm k) (ix2 key row)
      = blkScore H W K ⟨2 * k.val + 1, by omega⟩ key row := by
  unfold scoresOf
  rw [View.readAt_writes_junk_eq_canon]
  pointwise [k0_pay8]
  refine (congrArg _ ?_).trans (stored_apply H W K _ key row)
  have hoff := off2 (Fin.cast trips8.symm k)
  refine idx3_ext (n0 := 16) (n1 := 128) (n2 := 512) ?_ ?_ ?_
  · exact congrFun hoff 0
  · exact (congrArg (· + key.val) (congrFun hoff 1)).trans (Nat.zero_add _)
  · exact (congrArg (· + row.val) (congrFun hoff 2)).trans (Nat.zero_add _)

/-- What one grid point leaves in the last output. -/
theorem outs (c : Dev nD) (t : Fin cfg0.N) (k : Fin 8) (key : Fin 128) (row : Fin 512) :
    (outsAt0 (F := Ideal) m c t).2.2.2 (ix3 k key row)
      = weight (fun y => blkScore (iblk m c 0 t) (iblk m c 1 t) (iblk m c 2 t) ⟨2 * k.val + 1, by omega⟩ (y 0) (y 1)) key row := by
  unfold outsAt0
  dsimp only
  frame_out
  rw [show Scf.trips (0#32) (Scalar.addi 0#32 8#32) 1#32 = 8 from trips8]
  refine (pieces c _ _ _ _ _ _ _ _ _ _ _ _ _ _ _ _ _ _ 8 le_rfl k k.isLt key row).trans ?_
  refine congrArg (fun v => weight v key row) (funext fun y => ?_)
  rw [eq_ix2 (n0 := 128) (n1 := 512) y]
  exact scores_apply _ _ _ k _ _

end Cert.RouteIdeal.Block
-- ==== Proof.RouteArray.lean ====
module

public import proofs.«01_k».proof.Proof.RouteBlock

@[expose] public section

set_option maxRecDepth 16384

noncomputable section

/-! # What the routing call leaves in its last result array

Each point reads 512 rows, and writes their columns of the weights of all eight heads' second half. -/

namespace Cert.RouteIdeal.Array

open Cert.RouteIdeal Cert.RouteIdeal.Gen Cert.RouteIdeal.Block Idealize.ShloMosaic Idealize.ShloMosaic.TcCoe
open Idealize.ShloMosaic.Pipeline (Dat)

variable (m : (ℓ : Loc nD τ sig) → Buf (Elt Ideal) ℓ)

/-- The score of a row against a key of a head's second half: the second half of the head's 256 query columns, times the key. -/
def score (h : S16384x2048.Idx → EReal) (w : S2048x2048.Idx → EReal) (keys : S8x2x128x128.Idx → EReal)
    (k : Fin 8) (key : Fin 128) (R : Fin 16384) : EReal :=
  ∑ x : Fin 128, keys (ix4 k (1 : Fin 2) key x) * ∑ q : Fin 2048, h (ix2 R q) * w (ix2 q ⟨k.val * 256 + 128 + x.val, by omega⟩)

/-- A key's weight: the exponential of its score less the largest score of the row in that half. -/
def weightOf (h : S16384x2048.Idx → EReal) (w : S2048x2048.Idx → EReal) (keys : S8x2x128x128.Idx → EReal)
    (k : Fin 8) (key : Fin 128) (R : Fin 16384) : EReal :=
  Ideal.exp (score h w keys k key R
    - Finset.univ.fold max (Ideal.ofBits .f32 4286578688#32) (fun x : Fin 128 => score h w keys k x R))

/-- What the result array holds. -/
def G (c : Dev nD) : S8x128x16384.Idx → EReal := fun i =>
  weightOf (m ((c : Thread nD τ).loc main_arg0)) (m ((c : Thread nD τ).loc main_arg1)) (m ((c : Thread nD τ).loc main_arg2)) (i 0) (i 1) (i 2)

/-- There are 32 points. -/
theorem t_lt (t : Fin cfg0.N) : t.val < 32 := lt_of_lt_of_eq t.isLt N_0

/-- The rows' window is at block `t` at point `t`, the result's at columns' block `t`; the query matrix and the keys are whole. -/
theorem idx_row : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0 ∧ win0_2.index t 2 = 0)
    ∧ (win0_6.index t 0 = 0 ∧ win0_6.index t 1 = 0 ∧ win0_6.index t 2 = t.val) :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0 ∧ win0_2.index t 2 = 0)
    ∧ (win0_6.index t 0 = 0 ∧ win0_6.index t 1 = 0 ∧ win0_6.index t 2 = t.val))

/-- Block `t` of the rows is rows `512 t …`. -/
theorem blk0 (c : Dev nD) (t : Fin cfg0.N) (r : Fin 512) (q : Fin 2048) :
    iblk (F := Ideal) m c 0 t (ix2 r q) = m ((c : Thread nD τ).loc main_arg0) (ix2 ⟨t.val * 512 + r.val, by have := t_lt t; omega⟩ q) := by
  show V m c main_arg0 ((win0_0.rect t).emb (ix2 r q)) = _
  rw [V_main_arg0]
  refine congrArg _ (Shape.idx_ext₂ ?_ ?_)
  · rw [win0_0.rect_emb_val t _ _ , (idx_row t).1.1]; rfl
  · rw [win0_0.rect_emb_val t _ _ , (idx_row t).1.2]; exact Nat.zero_add _

/-- The query matrix. -/
theorem blk1 (c : Dev nD) (t : Fin cfg0.N) (k : Fin 2048) (q : Fin 2048) :
    iblk (F := Ideal) m c 1 t (ix2 k q) = m ((c : Thread nD τ).loc main_arg1) (ix2 k q) := by
  have e : (win0_1.rect t).emb (ix2 k q) = ix2 k q :=
    Shape.idx_ext₂ (win0_1.rect_emb_val_of_index_zero t 0 (idx_row t).2.1.1 _)
      (win0_1.rect_emb_val_of_index_zero t 1 (idx_row t).2.1.2 _)
  show V m c main_v0 ((win0_1.rect t).emb (ix2 k q)) = _
  rw [e]
  entry_read
  pointwise

/-- The keys, a head's two halves one after the other. -/
theorem blk2 (c : Dev nD) (t : Fin cfg0.N) (k : Fin 8) (key x : Fin 128) :
    iblk (F := Ideal) m c 2 t (ix3 ⟨2 * k.val + 1, by omega⟩ key x) = m ((c : Thread nD τ).loc main_arg2) (ix4 k (1 : Fin 2) key x) := by
  have e : (win0_2.rect t).emb (ix3 ⟨2 * k.val + 1, by omega⟩ key x) = ix3 ⟨2 * k.val + 1, by omega⟩ key x := by
    funext a
    apply Fin.ext
    obtain ⟨h0, h1, h2⟩ := (idx_row t).2.2.1
    match a with
    | ⟨0, _⟩ => exact win0_2.rect_emb_val_of_index_zero t 0 h0 _
    | ⟨1, _⟩ => exact win0_2.rect_emb_val_of_index_zero t 1 h1 _
    | ⟨2, _⟩ => exact win0_2.rect_emb_val_of_index_zero t 2 h2 _
  show V m c main_v2 ((win0_2.rect t).emb (ix3 ⟨2 * k.val + 1, by omega⟩ key x)) = _
  rw [e]
  entry_read
  pointwise
  have h1 : (2 * k.val + 1) / 2 = k.val := by omega
  have h2 : (2 * k.val + 1) % 2 = 1 := by omega
  exact congrArg _ (congrArg₂ (fun a b => ix4 a b key x) (Fin.ext h1) (Fin.ext h2))

/-- The scores of a point's rows are the arrays' scores. -/
theorem blkScore_apply (c : Dev nD) (t : Fin cfg0.N) (k : Fin 8) (key : Fin 128) (row : Fin 512) :
    blkScore (iblk m c 0 t) (iblk m c 1 t) (iblk m c 2 t) ⟨2 * k.val + 1, by omega⟩ key row
      = score (m ((c : Thread nD τ).loc main_arg0)) (m ((c : Thread nD τ).loc main_arg1)) (m ((c : Thread nD τ).loc main_arg2))
          k key ⟨t.val * 512 + row.val, by have := t_lt t; omega⟩ := by
  unfold blkScore score
  refine Finset.sum_congr rfl fun x _ => ?_
  rw [blk2]
  refine congrArg _ (Finset.sum_congr rfl fun q _ => ?_)
  rw [blk0, blk1]
  refine congrArg (fun z : EReal => (_ : EReal) * z) (congrArg (fun j => m ((c : Thread nD τ).loc main_arg1) (ix2 q j)) (Fin.ext ?_))
  show (2 * k.val + 1) * 128 + x.val = k.val * 256 + 128 + x.val
  omega

/-- What one point leaves. -/
theorem out_apply (c : Dev nD) (t : Fin cfg0.N) (k : Fin 8) (key : Fin 128) (row : Fin 512) :
    (outsAt0 (F := Ideal) m c t).2.2.2 (ix3 k key row)
      = G m c (ix3 k key ⟨t.val * 512 + row.val, by have := t_lt t; omega⟩) := by
  rw [outs]
  unfold weight
  show Ideal.exp (blkScore _ _ _ _ key row - Finset.univ.fold max _ (fun x : Fin 128 => blkScore _ _ _ _ x row)) = _
  simp only [blkScore_apply]
  rfl

/-- Point `t` writes back columns' block `t` of `G`. -/
theorem flushed_eq (c : Dev nD) (t : Fin cfg0.N) :
    (dats m 0 c).flushed 6 t = ((cfg0.win 6).blk t).view.read (Elt Ideal) (G m c) := by
  rw [Value.flushed6]
  funext y
  rw [show y = ix3 (n0 := 8) (n1 := 128) (n2 := 512) (y 0) (y 1) (y 2) from eq_ix3 (n0 := 8) (n1 := 128) (n2 := 512) y]
  refine (out_apply m c t (y 0) (y 1) (y 2)).trans (congrArg (G m c) ?_)
  obtain ⟨e0, e1, e2⟩ := (idx_row t).2.2.2
  refine idx3_ext ?_ ?_ ?_
  · exact ((win0_6.rect_emb_val t _ _).trans (by rw [e0]; exact Nat.zero_add _)).symm
  · exact ((win0_6.rect_emb_val t _ _).trans (by rw [e1]; exact Nat.zero_add _)).symm
  · exact ((win0_6.rect_emb_val t _ _).trans (by rw [e2]; rfl)).symm

/-- The point whose block holds a column. -/
def pt (i : S8x128x16384.Idx) : Fin cfg0.N :=
  ⟨(i 2).val / 512, by have : (i 2).val < 16384 := (i 2).isLt; rw [show cfg0.N = 32 from N_0]; omega⟩

/-- Every index of the result is in a block written back. -/
theorem cover (i : S8x128x16384.Idx) : ∃ t : Fin cfg0.N, (cfg0.win 6).flush t = true ∧ i ∈ ((cfg0.win 6).blk t).view.set := by
  refine ⟨pt i, flush0_6 _, ?_⟩
  show i ∈ ((View.whole main_v3_3).slice (win0_6.rect (pt i))).set
  rw [View.set_slice_whole, Rect.mem_set_unit]
  obtain ⟨e0, e1, e2⟩ := (idx_row (pt i)).2.2.2
  intro a
  match a with
  | ⟨0, _⟩ =>
    show win0_6.index (pt i) 0 * 8 ≤ (i 0).val ∧ (i 0).val < win0_6.index (pt i) 0 * 8 + 8
    rw [e0]; have : (i 0).val < 8 := (i 0).isLt; omega
  | ⟨1, _⟩ =>
    show win0_6.index (pt i) 1 * 128 ≤ (i 1).val ∧ (i 1).val < win0_6.index (pt i) 1 * 128 + 128
    rw [e1]; have : (i 1).val < 128 := (i 1).isLt; omega
  | ⟨2, _⟩ =>
    show win0_6.index (pt i) 2 * 512 ≤ (i 2).val ∧ (i 2).val < win0_6.index (pt i) 2 * 512 + 512
    rw [e2]; show (i 2).val / 512 * 512 ≤ (i 2).val ∧ (i 2).val < (i 2).val / 512 * 512 + 512; omega

/-- So the result array ends holding `G`. -/
theorem final (c : Dev nD) : (dats m 0 c).arrAt 6 cfg0.N = G m c :=
  (dats m 0 c).arrAt_eq_of_cover 6 (G m c) (fun t _ => flushed_eq m c t) cover

end Cert.RouteIdeal.Array
-- ==== Proof.RouteRef.lean ====
module

public import proofs.«01_k».proof.Defs
public import proofs.«01_k».proof.Proof.RouteArray
public import proofs.«01_k».proof.Proof.Gen.RouteRefIdeal.Run
public import proofs.«01_k».proof.Proof.Gen.RouteRefIdeal.Read

@[expose] public section

set_option maxRecDepth 16384

noncomputable section

/-! # The routing's reference, and the claim

The reference takes all rows' queries in one product, cuts them by head and half, and multiplies them by the keys; of the scores
it keeps the second halves, and takes the exponential of each less its row's largest. -/

namespace Cert.RouteRefIdeal.Eqn

open Cert.RouteRefIdeal Cert.RouteRefIdeal.Gen Cert.RouteRefIdeal.Read Idealize.ShloMosaic Idealize.ShloMosaic.TcCoe
open Cert.RouteIdeal.Array (score weightOf)

variable (x0 : S16384x2048.Idx → EReal) (x1 : S2048x2048.Idx → EReal) (x2 : S8x2x128x128.Idx → EReal)

/-- The reference's scores of the second half. -/
theorem v6_apply (R : Fin 16384) (k : Fin 8) (key : Fin 128) :
    val_main_v6 (F := Ideal) x0 x1 x2 (ix3 R k key) = score x0 x1 x2 k key R := by
  have hR := R.isLt
  have hk := k.isLt
  have hkey := key.isLt
  have e : idx_main_v4 (idx_main_v5 (idx_main_v6 (ix3 R k key))) = ix4 k (1 : Fin 2) key R := by
    refine funext fun a => Fin.ext ?_
    match a with
    | ⟨0, _⟩ => show ((R.val * 8 + k.val) * 128 + key.val) / 128 % 8 = k.val; omega
    | ⟨1, _⟩ => rfl
    | ⟨2, _⟩ => show ((R.val * 8 + k.val) * 128 + key.val) % 128 = key.val; omega
    | ⟨3, _⟩ => show ((R.val * 8 + k.val) * 128 + key.val) / 1024 = R.val; omega
  rw [val_main_v6_apply, val_main_v5_apply, val_main_v4_apply, e, val_main_v3_apply]
  unfold score
  refine Finset.sum_congr rfl fun x _ => ?_
  have hx := x.isLt
  have e3 : lidx_main_v3 (ix4 k (1 : Fin 2) key R) x = ix4 k (1 : Fin 2) key x := by
    refine funext fun a => Fin.ext ?_
    match a with
    | ⟨0, _⟩ => rfl
    | ⟨1, _⟩ => rfl
    | ⟨2, _⟩ => rfl
    | ⟨3, _⟩ => rfl
  rw [e3, val_main_v2_apply, val_main_v1_apply]
  refine congrArg _ (Finset.sum_congr rfl fun q _ => ?_)
  rw [val_main_v0_apply]
  refine congrArg₂ (fun a b => x0 a * x1 b) (Shape.idx_ext₂ ?_ ?_) (Shape.idx_ext₂ ?_ ?_)
  · show (((R.val * 8 + k.val) * 2 + 1) * 128 + x.val) / 2048 = R.val; omega
  · rfl
  · rfl
  · show (((R.val * 8 + k.val) * 2 + 1) * 128 + x.val) % 2048 = k.val * 256 + 128 + x.val; omega

/-- The reference's weights. -/
theorem v13_apply (k : Fin 8) (key : Fin 128) (R : Fin 16384) :
    val_main_v13 (F := Ideal) x0 x1 x2 (ix3 k key R) = weightOf x0 x1 x2 k key R := by
  have h := v6_apply x0 x1 x2 R k
  generalize hy : val_main_v6 (F := Ideal) x0 x1 x2 = y at h
  pointwise [val_main_v13, val_main_v12, val_main_v11, val_main_v10, val_main_v9, val_main_v8, val_main_v7, val_main_cst, hy]
  simp only [h]
  rfl

/-! ## The claim -/

/-- On the extended reals the routing's last result is the reference's. -/
theorem algebraic : Cert.algebraic_RouteIdeal_RouteRefIdeal := by
  intro m ρ m' ρ' _ hag
  refine ⟨fun c => Cert.RouteIdeal.Array.G m c, ?_, ?_⟩
  · exact (θ_run _ _ _).mono (fun _ h c => ⟨(h c).2.2.2.1.trans (Cert.RouteIdeal.Array.final m c), (h c).2.2.2.2⟩)
      (Cert.RouteIdeal.Value.run_blocks m ρ)
  · refine (θ_run _ _ _).mono (fun _ h c => ⟨(h c).1.trans ?_, (h c).2⟩) (Cert.RouteRefIdeal.Value.run (F := Ideal) m' ρ')
    obtain ⟨h0, h1, h2⟩ := hag c
    rw [val_main_v13_eq, h0, h1, h2]
    funext i
    rw [eq_ix3 (n0 := 8) (n1 := 128) (n2 := 16384) i]
    exact v13_apply _ _ _ _ _ _

end Cert.RouteRefIdeal.Eqn
-- ==== Proof.lean ====
module

public import proofs.«01_k».proof.Proof.Gen.Gla.Frame
public import proofs.«01_k».proof.Proof.Gen.GlaIdeal.Frame
public import proofs.«01_k».proof.Proof.Gen.GlaIdeal.Value
public import proofs.«01_k».proof.Proof.Gen.GlaRefIdeal.Run
public import proofs.«01_k».proof.Proof.Gen.GlaRefIdeal.Step
public import proofs.«01_k».proof.Defs
public import proofs.«01_k».proof.Proof.Gen.Lru
public import proofs.«01_k».proof.Proof.Gen.Lru.Skeleton
public import proofs.«01_k».proof.Proof.Gen.Lru.Launch
public import proofs.«01_k».proof.Proof.Gen.Lru.Points
public import proofs.«01_k».proof.Proof.Gen.Lru.Frame
public import proofs.«01_k».proof.Proof.Gen.LruIdeal
public import proofs.«01_k».proof.Proof.Gen.LruIdeal.Skeleton
public import proofs.«01_k».proof.Proof.Gen.LruIdeal.Launch
public import proofs.«01_k».proof.Proof.Gen.LruIdeal.Points
public import proofs.«01_k».proof.Proof.Gen.LruIdeal.Frame
public import proofs.«01_k».proof.Proof.Gen.LruRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.LruIdeal.Value
public import proofs.«01_k».proof.Proof.Gen.LruRefIdeal.Run
public import proofs.«01_k».proof.Proof.Gen.LruRefIdeal.Step
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.LruEqn
public import proofs.«01_k».proof.Proof.InRef
public import proofs.«01_k».proof.Proof.OutRef
public import proofs.«01_k».proof.Proof.GlaEqn
public import proofs.«01_k».proof.Proof.RouteRef
public import proofs.«01_k».proof.Proof.Gen.Route.Frame
public import proofs.«01_k».proof.Proof.Gen.RouteIdeal.Value
public import proofs.«01_k».proof.Proof.Gen.RouteRefIdeal.Run
public import proofs.«01_k».proof.Proof.Gen.RouteRefIdeal.Read
public import Idealize.ShloMosaic.Adequacy
public import Idealize.ShloMosaic.Init

@[expose] public section

noncomputable section

/-! # The claims

Four calls of the layer, each against its own lines of the reference: the linear recurrent unit (`Lru`), the norm and input
projections (`InProj`), the output projection and its norm (`OutProj`), the gated linear attention (`Gla`, whose values agree on
finite queries, keys and values). Each program ends with its arguments as they were and its counters at zero; each ideal program is the kernel's own text; each kernel's results are its reference's. -/

namespace Cert.Proof

open Idealize.ShloMosaic

/-- The recurrent unit's kernel keeps its arguments, -/
theorem frame_lru : Cert.quiescent_Lru := fun m ρ _ => Cert.Lru.Gen.frame m ρ

/-- so does the ideal one, -/
theorem frame_lru_ideal : Cert.quiescent_LruIdeal := fun m ρ _ => Cert.LruIdeal.Gen.frame m ρ

/-- and its reference. -/
theorem frame_lru_ref : Cert.quiescent_LruRefIdeal := fun m ρ _ =>
  (θ_run Cert.LruRefIdeal.defs _ _).mono (fun r h => ⟨fun c => (h c).2, Idealize.ShloMosaic.sem_eq_zero_of_no_sems (by decide) r.2⟩)
    (Cert.LruRefIdeal.Value.run (F := Ideal) m ρ)

/-- The input projection's kernel keeps its arguments, -/
theorem frame_in : Cert.quiescent_InProj := fun m ρ _ => Cert.InProj.Gen.frame m ρ

/-- so does the ideal one, -/
theorem frame_in_ideal : Cert.quiescent_InProjIdeal := fun m ρ _ => Cert.InProjIdeal.Gen.frame m ρ

/-- and its reference. -/
theorem frame_in_ref : Cert.quiescent_InProjRefIdeal := fun m ρ _ =>
  (θ_run Cert.InProjRefIdeal.defs _ _).mono
    (fun r h => ⟨fun c => (h c).2.2.2.2, Idealize.ShloMosaic.sem_eq_zero_of_no_sems (by decide) r.2⟩)
    (Cert.InProjRefIdeal.Value.run (F := Ideal) m ρ)

/-- The output projection's kernel keeps its arguments, -/
theorem frame_out : Cert.quiescent_OutProj := fun m ρ _ => Cert.OutProj.Gen.frame m ρ

/-- so does the ideal one, -/
theorem frame_out_ideal : Cert.quiescent_OutProjIdeal := fun m ρ _ => Cert.OutProjIdeal.Gen.frame m ρ

/-- and its reference. -/
theorem frame_out_ref : Cert.quiescent_OutProjRefIdeal := fun m ρ _ =>
  (θ_run Cert.OutProjRefIdeal.defs _ _).mono
    (fun r h => ⟨fun c => (h c).2.2, Idealize.ShloMosaic.sem_eq_zero_of_no_sems (by decide) r.2⟩)
    (Cert.OutProjRefIdeal.Value.run (F := Ideal) m ρ)

/-- The linear attention's kernel keeps its arguments, -/
theorem frame_gla : Cert.quiescent_Gla := fun m ρ _ => Cert.Gla.Gen.frame m ρ

/-- so does the ideal one, -/
theorem frame_gla_ideal : Cert.quiescent_GlaIdeal := fun m ρ _ => Cert.GlaIdeal.Gen.frame m ρ

/-- from finite queries, keys and values too, -/
theorem frame_gla_ideal_finite : Cert.quiescent_GlaIdeal_pre_finite_inputs (hPre_finite_inputs := Cert.Pre_finite_inputs.facts) :=
  fun m ρ _ => Cert.GlaIdeal.Gen.frame m ρ

/-- and its reference, -/
theorem frame_gla_ref : Cert.quiescent_GlaRefIdeal := fun m ρ _ =>
  (θ_run Cert.GlaRefIdeal.defs _ _).mono (fun r h => ⟨fun c => (h c).2, Idealize.ShloMosaic.sem_eq_zero_of_no_sems (by decide) r.2⟩)
    (Cert.GlaRefIdeal.Value.run (F := Ideal) m ρ)

/-- from finite queries, keys and values too. -/
theorem frame_gla_ref_finite : Cert.quiescent_GlaRefIdeal_pre_finite_inputs (hPre_finite_inputs := Cert.Pre_finite_inputs.facts) :=
  fun m ρ _ => frame_gla_ref m ρ trivial

/-- The routing's kernel keeps its arguments, -/
theorem frame_route : Cert.quiescent_Route := fun m ρ _ => Cert.Route.Gen.frame m ρ

/-- so does the ideal one, -/
theorem frame_route_ideal : Cert.quiescent_RouteIdeal := fun m ρ _ => Cert.RouteIdeal.Gen.frame m ρ

/-- and its reference. -/
theorem frame_route_ref : Cert.quiescent_RouteRefIdeal := fun m ρ _ =>
  (θ_run Cert.RouteRefIdeal.defs _ _).mono
    (fun r h => ⟨fun c => (h c).2, Idealize.ShloMosaic.sem_eq_zero_of_no_sems (by decide) r.2⟩)
    (Cert.RouteRefIdeal.Value.run (F := Ideal) m ρ)

/-- Every claim together. -/
theorem claim : Cert.Claim :=
  ⟨Cert.Lru.Gen.facts, Cert.LruIdeal.Gen.facts, Cert.LruRefIdeal.Gen.facts, Cert.InProj.Gen.facts, Cert.InProjIdeal.Gen.facts,
    Cert.InProjRefIdeal.Gen.facts, Cert.OutProj.Gen.facts, Cert.OutProjIdeal.Gen.facts, Cert.OutProjRefIdeal.Gen.facts,
    Cert.Gla.Gen.facts, Cert.GlaIdeal.Gen.facts, Cert.GlaRefIdeal.Gen.facts, Cert.Route.Gen.facts, Cert.RouteIdeal.Gen.facts, Cert.RouteRefIdeal.Gen.facts,
    Cert.Pre_finite_inputs.facts,
    frame_lru, frame_lru_ideal, frame_lru_ref, frame_in, frame_in_ideal, frame_in_ref, frame_out, frame_out_ideal, frame_out_ref,
    frame_gla, frame_gla_ideal, frame_gla_ideal_finite, frame_gla_ref, frame_gla_ref_finite, frame_route, frame_route_ideal, frame_route_ref,
    trivial, Cert.LruRefIdeal.Eqn.algebraic, trivial, Cert.InProjRefIdeal.Eqn.algebraic, trivial, Cert.OutProjRefIdeal.Eqn.algebraic,
    trivial, Cert.GlaRefIdeal.Eqn.algebraic, trivial, Cert.RouteRefIdeal.Eqn.algebraic⟩

end Cert.Proof

end
